-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Kernel15Ideal_finite_mem [hPre_finite_mem : Cert.Pre_finite_mem.Facts] (m : (ℓ : Loc Cert.Kernel15Ideal.nD Cert.Kernel15Ideal.τ Cert.Kernel15Ideal.sig) → Buf (Elt Ideal) ℓ) : Prop :=
  ∀ c : Dev Cert.Kernel15Ideal.nD,
    (Cert.Pre_finite_mem.fn (F := Ideal) (m ((c.tc : Thread Cert.Kernel15Ideal.nD Cert.Kernel15Ideal.τ).loc Cert.Kernel15Ideal.main_arg0)) (m ((c.tc : Thread Cert.Kernel15Ideal.nD Cert.Kernel15Ideal.τ).loc Cert.Kernel15Ideal.main_arg1)) (m ((c.tc : Thread Cert.Kernel15Ideal.nD Cert.Kernel15Ideal.τ).loc Cert.Kernel15Ideal.main_arg2))) = (fun _ => 1#1)

def Pre_Reference15Ideal (m : (ℓ : Loc Cert.Reference15Ideal.nD Cert.Reference15Ideal.τ Cert.Reference15Ideal.sig) → Buf (Elt Ideal) ℓ) : Prop :=
  True

def Pre_Reference15Ideal_finite_mem [hPre_finite_mem : Cert.Pre_finite_mem.Facts] (m : (ℓ : Loc Cert.Reference15Ideal.nD Cert.Reference15Ideal.τ Cert.Reference15Ideal.sig) → Buf (Elt Ideal) ℓ) : Prop :=
  ∀ c : Dev Cert.Reference15Ideal.nD,
    (Cert.Pre_finite_mem.fn (F := Ideal) (m ((c.tc : Thread Cert.Reference15Ideal.nD Cert.Reference15Ideal.τ).loc Cert.Reference15Ideal.main_arg0)) (m ((c.tc : Thread Cert.Reference15Ideal.nD Cert.Reference15Ideal.τ).loc Cert.Reference15Ideal.main_arg1)) (m ((c.tc : Thread Cert.Reference15Ideal.nD Cert.Reference15Ideal.τ).loc Cert.Reference15Ideal.main_arg2))) = (fun _ => 1#1)

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4)
      ∧ r.2.mem ((c.tc : Thread Cert.Kernel8.nD Cert.Kernel8.τ).loc Cert.Kernel8.main_arg5) = m ((c.tc : Thread Cert.Kernel8.nD Cert.Kernel8.τ).loc Cert.Kernel8.main_arg5)
      ∧ r.2.mem ((c.tc : Thread Cert.Kernel8.nD Cert.Kernel8.τ).loc Cert.Kernel8.main_arg6) = m ((c.tc : Thread Cert.Kernel8.nD Cert.Kernel8.τ).loc Cert.Kernel8.main_arg6))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
      ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5)
      ∧ r.2.mem ((c.tc : Thread Cert.Reference8Ideal.nD Cert.Reference8Ideal.τ).loc Cert.Reference8Ideal.main_arg6) = m ((c.tc : Thread Cert.Reference8Ideal.nD Cert.Reference8Ideal.τ).loc Cert.Reference8Ideal.main_arg6))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2))
      ∧ r.2.sem = fun _ => 0)

def quiescent_Kernel15Ideal_pre_finite_mem [hKernel15Ideal : Cert.Kernel15Ideal.Facts] [hPre_finite_mem : Cert.Pre_finite_mem.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal_finite_mem m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2))
      ∧ r.2.sem = fun _ => 0)

def quiescent_Reference15Ideal_pre_finite_mem [hReference15Ideal : Cert.Reference15Ideal.Facts] [hPre_finite_mem : Cert.Pre_finite_mem.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal_finite_mem m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2)
      ∧ r.2.mem ((c.tc : Thread Cert.Kernel16.nD Cert.Kernel16.τ).loc Cert.Kernel16.main_arg3) = m ((c.tc : Thread Cert.Kernel16.nD Cert.Kernel16.τ).loc Cert.Kernel16.main_arg3))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
      ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1)
      ∧ r.2.mem ((c.tc : Thread Cert.Kernel22.nD Cert.Kernel22.τ).loc Cert.Kernel22.main_arg2) = m ((c.tc : Thread Cert.Kernel22.nD Cert.Kernel22.τ).loc Cert.Kernel22.main_arg2))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
      ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1)
      ∧ r.2.mem ((c.tc : Thread Cert.Reference22Ideal.nD Cert.Reference22Ideal.τ).loc Cert.Reference22Ideal.main_arg2) = m ((c.tc : Thread Cert.Reference22Ideal.nD Cert.Reference22Ideal.τ).loc Cert.Reference22Ideal.main_arg2))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1)
      ∧ r.2.mem ((c.tc : Thread Cert.Kernel23.nD Cert.Kernel23.τ).loc Cert.Kernel23.main_arg2) = m ((c.tc : Thread Cert.Kernel23.nD Cert.Kernel23.τ).loc Cert.Kernel23.main_arg2)
      ∧ r.2.mem ((c.tc : Thread Cert.Kernel23.nD Cert.Kernel23.τ).loc Cert.Kernel23.main_arg3) = m ((c.tc : Thread Cert.Kernel23.nD Cert.Kernel23.τ).loc Cert.Kernel23.main_arg3))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
      ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
      ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1)
      ∧ r.2.mem ((c.tc : Thread Cert.Reference23Ideal.nD Cert.Reference23Ideal.τ).loc Cert.Reference23Ideal.main_arg2) = m ((c.tc : Thread Cert.Reference23Ideal.nD Cert.Reference23Ideal.τ).loc Cert.Reference23Ideal.main_arg2)
      ∧ r.2.mem ((c.tc : Thread Cert.Reference23Ideal.nD Cert.Reference23Ideal.τ).loc Cert.Reference23Ideal.main_arg3) = m ((c.tc : Thread Cert.Reference23Ideal.nD Cert.Reference23Ideal.τ).loc Cert.Reference23Ideal.main_arg3))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v1) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v4) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v4)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v4) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v4) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v4) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v3) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v4) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v4) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)
      ∧ m' ((c.tc : Thread Cert.Reference8Ideal.nD Cert.Reference8Ideal.τ).loc Cert.Reference8Ideal.main_arg5) = m ((c.tc : Thread Cert.Kernel8Ideal.nD Cert.Kernel8Ideal.τ).loc Cert.Kernel8Ideal.main_arg5)
      ∧ m' ((c.tc : Thread Cert.Reference8Ideal.nD Cert.Reference8Ideal.τ).loc Cert.Reference8Ideal.main_arg6) = m ((c.tc : Thread Cert.Kernel8Ideal.nD Cert.Kernel8Ideal.τ).loc Cert.Kernel8Ideal.main_arg6)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
          ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
          ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v26) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4)
          ∧ r.2.mem ((c.tc : Thread Cert.Reference8Ideal.nD Cert.Reference8Ideal.τ).loc Cert.Reference8Ideal.main_arg5) = m' ((c.tc : Thread Cert.Reference8Ideal.nD Cert.Reference8Ideal.τ).loc Cert.Reference8Ideal.main_arg5)
          ∧ r.2.mem ((c.tc : Thread Cert.Reference8Ideal.nD Cert.Reference8Ideal.τ).loc Cert.Reference8Ideal.main_arg6) = m' ((c.tc : Thread Cert.Reference8Ideal.nD Cert.Reference8Ideal.τ).loc Cert.Reference8Ideal.main_arg6))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v1)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v1) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v4) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v1)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v1) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v4) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v1)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v1) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v4) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v1)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v1) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v4) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v0)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v3) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)) →
    ∃ (v0 : (c : Dev Cert.Kernel14Ideal.nD) → Buf (Elt Ideal) ((c.tc : Thread Cert.Kernel14Ideal.nD Cert.Kernel14Ideal.τ).loc Cert.Kernel14Ideal.main_v1)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v1) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v12) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1))

def preserves_Kernel15_Kernel15Ideal : Prop :=
  True

def algebraic_Kernel15Ideal_Reference15Ideal_pre_finite_mem [hKernel15Ideal : Cert.Kernel15Ideal.Facts] [hReference15Ideal : Cert.Reference15Ideal.Facts] [hPre_finite_mem : Cert.Pre_finite_mem.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal_finite_mem m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)) →
    ∃ (v0 : (c : Dev Cert.Kernel15Ideal.nD) → Buf (Elt Ideal) ((c.tc : Thread Cert.Kernel15Ideal.nD Cert.Kernel15Ideal.τ).loc Cert.Kernel15Ideal.main_v0)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v21) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)
      ∧ m' ((c.tc : Thread Cert.Reference16Ideal.nD Cert.Reference16Ideal.τ).loc Cert.Reference16Ideal.main_arg3) = m ((c.tc : Thread Cert.Kernel16Ideal.nD Cert.Kernel16Ideal.τ).loc Cert.Kernel16Ideal.main_arg3)) →
    ∃ (v0 : (c : Dev Cert.Kernel16Ideal.nD) → Buf (Elt Ideal) ((c.tc : Thread Cert.Kernel16Ideal.nD Cert.Kernel16Ideal.τ).loc Cert.Kernel16Ideal.main_v1_0)) (v1 : (c : Dev Cert.Kernel16Ideal.nD) → Buf (Elt Ideal) ((c.tc : Thread Cert.Kernel16Ideal.nD Cert.Kernel16Ideal.τ).loc Cert.Kernel16Ideal.main_v1_1)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v1_0) = v0 c
          ∧ r.2.mem ((c.tc : Thread Cert.Kernel16Ideal.nD Cert.Kernel16Ideal.τ).loc Cert.Kernel16Ideal.main_v1_1) = v1 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
          ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v31) = v0 c
          ∧ r.2.mem ((c.tc : Thread Cert.Reference16Ideal.nD Cert.Reference16Ideal.τ).loc Cert.Reference16Ideal.main_v32) = v1 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2)
          ∧ r.2.mem ((c.tc : Thread Cert.Reference16Ideal.nD Cert.Reference16Ideal.τ).loc Cert.Reference16Ideal.main_arg3) = m' ((c.tc : Thread Cert.Reference16Ideal.nD Cert.Reference16Ideal.τ).loc Cert.Reference16Ideal.main_arg3))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)) →
    ∃ (v0 : (c : Dev Cert.Kernel17Ideal.nD) → Buf (Elt Ideal) ((c.tc : Thread Cert.Kernel17Ideal.nD Cert.Kernel17Ideal.τ).loc Cert.Kernel17Ideal.main_v1_0)) (v1 : (c : Dev Cert.Kernel17Ideal.nD) → Buf (Elt Ideal) ((c.tc : Thread Cert.Kernel17Ideal.nD Cert.Kernel17Ideal.τ).loc Cert.Kernel17Ideal.main_v1_1)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v1_0) = v0 c
          ∧ r.2.mem ((c.tc : Thread Cert.Kernel17Ideal.nD Cert.Kernel17Ideal.τ).loc Cert.Kernel17Ideal.main_v1_1) = v1 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v7) = v0 c
          ∧ r.2.mem ((c.tc : Thread Cert.Reference17Ideal.nD Cert.Reference17Ideal.τ).loc Cert.Reference17Ideal.main_v10) = v1 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)) →
    ∃ (v0 : (c : Dev Cert.Kernel19Ideal.nD) → Buf (Elt Ideal) ((c.tc : Thread Cert.Kernel19Ideal.nD Cert.Kernel19Ideal.τ).loc Cert.Kernel19Ideal.main_v1)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v1) = v0 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v3) = v0 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)) →
    ∃ (v0 : (c : Dev Cert.Kernel20Ideal.nD) → Buf (Elt Ideal) ((c.tc : Thread Cert.Kernel20Ideal.nD Cert.Kernel20Ideal.τ).loc Cert.Kernel20Ideal.main_v1)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v1) = v0 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v3) = v0 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)) →
    ∃ (v0 : (c : Dev Cert.Kernel21Ideal.nD) → Buf (Elt Ideal) ((c.tc : Thread Cert.Kernel21Ideal.nD Cert.Kernel21Ideal.τ).loc Cert.Kernel21Ideal.main_v1)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v1) = v0 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v12) = v0 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)
      ∧ m' ((c.tc : Thread Cert.Reference22Ideal.nD Cert.Reference22Ideal.τ).loc Cert.Reference22Ideal.main_arg2) = m ((c.tc : Thread Cert.Kernel22Ideal.nD Cert.Kernel22Ideal.τ).loc Cert.Kernel22Ideal.main_arg2)) →
    ∃ (v0 : (c : Dev Cert.Kernel22Ideal.nD) → Buf (Elt Ideal) ((c.tc : Thread Cert.Kernel22Ideal.nD Cert.Kernel22Ideal.τ).loc Cert.Kernel22Ideal.main_v1_0)) (v1 : (c : Dev Cert.Kernel22Ideal.nD) → Buf (Elt Ideal) ((c.tc : Thread Cert.Kernel22Ideal.nD Cert.Kernel22Ideal.τ).loc Cert.Kernel22Ideal.main_v1_1)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v1_0) = v0 c
          ∧ r.2.mem ((c.tc : Thread Cert.Kernel22Ideal.nD Cert.Kernel22Ideal.τ).loc Cert.Kernel22Ideal.main_v1_1) = v1 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
          ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v6) = v0 c
          ∧ r.2.mem ((c.tc : Thread Cert.Reference22Ideal.nD Cert.Reference22Ideal.τ).loc Cert.Reference22Ideal.main_v9) = v1 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1)
          ∧ r.2.mem ((c.tc : Thread Cert.Reference22Ideal.nD Cert.Reference22Ideal.τ).loc Cert.Reference22Ideal.main_arg2) = m' ((c.tc : Thread Cert.Reference22Ideal.nD Cert.Reference22Ideal.τ).loc Cert.Reference22Ideal.main_arg2))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)
      ∧ m' ((c.tc : Thread Cert.Reference23Ideal.nD Cert.Reference23Ideal.τ).loc Cert.Reference23Ideal.main_arg2) = m ((c.tc : Thread Cert.Kernel23Ideal.nD Cert.Kernel23Ideal.τ).loc Cert.Kernel23Ideal.main_arg2)
      ∧ m' ((c.tc : Thread Cert.Reference23Ideal.nD Cert.Reference23Ideal.τ).loc Cert.Reference23Ideal.main_arg3) = m ((c.tc : Thread Cert.Kernel23Ideal.nD Cert.Kernel23Ideal.τ).loc Cert.Kernel23Ideal.main_arg3)) →
    ∃ (v0 : (c : Dev Cert.Kernel23Ideal.nD) → Buf (Elt Ideal) ((c.tc : Thread Cert.Kernel23Ideal.nD Cert.Kernel23Ideal.τ).loc Cert.Kernel23Ideal.main_v1_0)) (v1 : (c : Dev Cert.Kernel23Ideal.nD) → Buf (Elt Ideal) ((c.tc : Thread Cert.Kernel23Ideal.nD Cert.Kernel23Ideal.τ).loc Cert.Kernel23Ideal.main_v1_1)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v1_0) = v0 c
          ∧ r.2.mem ((c.tc : Thread Cert.Kernel23Ideal.nD Cert.Kernel23Ideal.τ).loc Cert.Kernel23Ideal.main_v1_1) = v1 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
          ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
          ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v30) = v0 c
          ∧ r.2.mem ((c.tc : Thread Cert.Reference23Ideal.nD Cert.Reference23Ideal.τ).loc Cert.Reference23Ideal.main_v31) = v1 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1)
          ∧ r.2.mem ((c.tc : Thread Cert.Reference23Ideal.nD Cert.Reference23Ideal.τ).loc Cert.Reference23Ideal.main_arg2) = m' ((c.tc : Thread Cert.Reference23Ideal.nD Cert.Reference23Ideal.τ).loc Cert.Reference23Ideal.main_arg2)
          ∧ r.2.mem ((c.tc : Thread Cert.Reference23Ideal.nD Cert.Reference23Ideal.τ).loc Cert.Reference23Ideal.main_arg3) = m' ((c.tc : Thread Cert.Reference23Ideal.nD Cert.Reference23Ideal.τ).loc Cert.Reference23Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hPre_finite : Cert.Pre_finite.Facts) (hPre_finite_mem : Cert.Pre_finite_mem.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Kernel15Ideal_pre_finite_mem (hKernel15Ideal := hKernel15Ideal) (hPre_finite_mem := hPre_finite_mem)
    ∧ quiescent_Reference15Ideal (hReference15Ideal := hReference15Ideal)
    ∧ quiescent_Reference15Ideal_pre_finite_mem (hReference15Ideal := hReference15Ideal) (hPre_finite_mem := hPre_finite_mem)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Reference23Ideal (hReference23Ideal := hReference23Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal_pre_finite_mem (hKernel15Ideal := hKernel15Ideal) (hReference15Ideal := hReference15Ideal) (hPre_finite_mem := hPre_finite_mem)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal (hKernel23Ideal := hKernel23Ideal) (hReference23Ideal := hReference23Ideal)
-- ==== Pre_finite.lean ====
abbrev S8192x2048 : Shape := ⟨2, ![8192, 2048]⟩
abbrev S8192x128 : Shape := ⟨2, ![8192, 128]⟩
abbrev S_ : Shape := ⟨0, ![]⟩

class Facts : Prop where
  bcast_S_S8192x2048 : S_.BroadcastsInDim S8192x2048 (![] : Fin 0 → Fin S8192x2048.rank)
  reducesTo_S8192x2048_S_d0_1 : S8192x2048.ReducesTo [0, 1] S_
  h_S_ : 0 < S_.numel
  bcast_S_S8192x128 : S_.BroadcastsInDim S8192x128 (![] : Fin 0 → Fin S8192x128.rank)
  reducesTo_S8192x128_S_d0_1 : S8192x128.ReducesTo [0, 1] S_

variable [Facts]

def fn {F : FTy → Type} [FloatOps F] (main_arg0 : FVec F S8192x2048 .f32) (main_arg1 : FVec F S8192x2048 .f32) (main_arg2 : FVec F S8192x2048 .f32) (main_arg3 : FVec F S8192x128 .f32) : IVec S_ 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_c : IVec S_ 1 := constantI S_ 1 1#1
  let main_v3 : IVec S_ 1 := (fun x v => Host.reduce IntOp.andi x v reducesTo_S8192x2048_S_d0_1 h_S_) main_v2 main_c
  let main_v4 : FVec F S8192x2048 .f32 := Host.absf main_arg1
  let main_cst_0 : FVec F S_ .f32 := constant S_ .f32 0x7F800000#32
  let main_v5 : FVec F S8192x2048 .f32 := broadcastInDim S8192x2048 ![] bcast_S_S8192x2048 main_cst_0
  let main_v6 : IVec S8192x2048 1 := cmpf .olt main_v4 main_v5
  let main_c_1 : IVec S_ 1 := constantI S_ 1 1#1
  let main_v7 : IVec S_ 1 := (fun x v => Host.reduce IntOp.andi x v reducesTo_S8192x2048_S_d0_1 h_S_) main_v6 main_c_1
  let main_v8 : FVec F S8192x128 .f32 := Host.absf main_arg3
  let main_cst_2 : FVec F S_ .f32 := constant S_ .f32 0x7F800000#32
  let main_v9 : FVec F S8192x128 .f32 := broadcastInDim S8192x128 ![] bcast_S_S8192x128 main_cst_2
  let main_v10 : IVec S8192x128 1 := cmpf .olt main_v8 main_v9
  let main_c_3 : IVec S_ 1 := constantI S_ 1 1#1
  let main_v11 : IVec S_ 1 := (fun x v => Host.reduce IntOp.andi x v reducesTo_S8192x128_S_d0_1 h_S_) main_v10 main_c_3
  let main_v12 : IVec S_ 1 := andi main_v3 main_v7
  let main_v13 : IVec S_ 1 := andi main_v12 main_v11
  main_v13
-- ==== Pre_finite_mem.lean ====
abbrev S8192x2048 : Shape := ⟨2, ![8192, 2048]⟩
abbrev S4x256x2048 : Shape := ⟨3, ![4, 256, 2048]⟩
abbrev S_ : Shape := ⟨0, ![]⟩

class Facts : Prop where
  bitsLt_bf16_f32 : FTy.bits .bf16 < FTy.bits .f32
  bcast_S_S8192x2048 : S_.BroadcastsInDim S8192x2048 (![] : Fin 0 → Fin S8192x2048.rank)
  reducesTo_S8192x2048_S_d0_1 : S8192x2048.ReducesTo [0, 1] S_
  h_S_ : 0 < S_.numel
  bcast_S_S4x256x2048 : S_.BroadcastsInDim S4x256x2048 (![] : Fin 0 → Fin S4x256x2048.rank)
  reducesTo_S4x256x2048_S_d0_1_2 : S4x256x2048.ReducesTo [0, 1, 2] S_

variable [Facts]

def fn {F : FTy → Type} [FloatOps F] (main_arg0 : FVec F S8192x2048 .bf16) (main_arg1 : FVec F S4x256x2048 .f32) (main_arg2 : FVec F S4x256x2048 .f32) : IVec S_ 1 :=
  let main_v0 : FVec F S8192x2048 .f32 := (extf .f32 · bitsLt_bf16_f32) main_arg0
  let main_v1 : FVec F S8192x2048 .f32 := Host.absf main_v0
  let main_cst : FVec F S_ .f32 := constant S_ .f32 0x7F800000#32
  let main_v2 : FVec F S8192x2048 .f32 := broadcastInDim S8192x2048 ![] bcast_S_S8192x2048 main_cst
  let main_v3 : IVec S8192x2048 1 := cmpf .olt main_v1 main_v2
  let main_c : IVec S_ 1 := constantI S_ 1 1#1
  let main_v4 : IVec S_ 1 := (fun x v => Host.reduce IntOp.andi x v reducesTo_S8192x2048_S_d0_1 h_S_) main_v3 main_c
  let main_v5 : FVec F S4x256x2048 .f32 := Host.absf main_arg1
  let main_cst_0 : FVec F S_ .f32 := constant S_ .f32 0x7F800000#32
  let main_v6 : FVec F S4x256x2048 .f32 := broadcastInDim S4x256x2048 ![] bcast_S_S4x256x2048 main_cst_0
  let main_v7 : IVec S4x256x2048 1 := cmpf .olt main_v5 main_v6
  let main_c_1 : IVec S_ 1 := constantI S_ 1 1#1
  let main_v8 : IVec S_ 1 := (fun x v => Host.reduce IntOp.andi x v reducesTo_S4x256x2048_S_d0_1_2 h_S_) main_v7 main_c_1
  let main_v9 : IVec S_ 1 := andi main_v4 main_v8
  main_v9
-- ==== Kernel.lean ====
abbrev S8192x2048 : Shape := ⟨2, ![8192, 2048]⟩
abbrev S8192x128 : Shape := ⟨2, ![8192, 128]⟩
abbrev S8192x16 : Shape := ⟨2, ![8192, 16]⟩
abbrev S4x2048x16 : Shape := ⟨3, ![4, 2048, 16]⟩
abbrev S4x16x2048 : Shape := ⟨3, ![4, 16, 2048]⟩
abbrev S256x512 : Shape := ⟨2, ![256, 512]⟩
abbrev S2048x512 : Shape := ⟨2, ![2048, 512]⟩
abbrev S256x128 : Shape := ⟨2, ![256, 128]⟩
abbrev S1x16x2048 : Shape := ⟨3, ![1, 16, 2048]⟩
abbrev S256 : Shape := ⟨1, ![256]⟩
abbrev S256x1 : Shape := ⟨2, ![256, 1]⟩
abbrev S512x128 : Shape := ⟨2, ![512, 128]⟩
abbrev S1x1x512 : Shape := ⟨3, ![1, 1, 512]⟩
abbrev S1x512 : Shape := ⟨2, ![1, 512]⟩

abbrev nBuf : Space → Nat
  | .hbm => 8
  | .vmem => 12
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S8192x2048, .f32⟩
  | .hbm, ⟨3, _⟩ => ⟨S8192x128, .f32⟩
  | .hbm, ⟨4, _⟩ => ⟨S8192x16, .f32⟩
  | .hbm, ⟨5, _⟩ => ⟨S4x2048x16, .f32⟩
  | .hbm, ⟨6, _⟩ => ⟨S4x16x2048, .f32⟩
  | .hbm, ⟨7, _⟩ => ⟨S8192x2048, .bf16⟩
  | .local _ .vmem, ⟨0, _⟩ => ⟨S256x512, .f32⟩
  | .local _ .vmem, ⟨1, _⟩ => ⟨S256x512, .f32⟩
  | .local _ .vmem, ⟨2, _⟩ => ⟨S2048x512, .f32⟩
  | .local _ .vmem, ⟨3, _⟩ => ⟨S2048x512, .f32⟩
  | .local _ .vmem, ⟨4, _⟩ => ⟨S2048x512, .f32⟩
  | .local _ .vmem, ⟨5, _⟩ => ⟨S2048x512, .f32⟩
  | .local _ .vmem, ⟨6, _⟩ => ⟨S256x128, .f32⟩
  | .local _ .vmem, ⟨7, _⟩ => ⟨S256x128, .f32⟩
  | .local _ .vmem, ⟨8, _⟩ => ⟨S1x16x2048, .f32⟩
  | .local _ .vmem, ⟨9, _⟩ => ⟨S1x16x2048, .f32⟩
  | .local _ .vmem, ⟨10, _⟩ => ⟨S256x512, .bf16⟩
  | .local _ .vmem, ⟨11, _⟩ => ⟨S256x512, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![4, 4, 8], ![false, false, false]⟩

@[reducible] def k0_t1_loop (i : grid0.Coords) : Scf.Loop 32 :=
  let c0_i32_38 : BitVec 32 := 0#32
  let arg2 : BitVec 32 := BitVec.ofNat 32 (i 2).val
  let c256_i32 : BitVec 32 := 256#32
  let v50 : BitVec 32 := Scalar.muli arg2 c256_i32
  let c0_i32_20 : BitVec 32 := 0#32
  let v52 : BitVec 1 := Scalar.cmpi .sgt v50 c0_i32_20
  let v53 : BitVec 32 := Scalar.extui v52
  let c0_i32_21 : BitVec 32 := 0#32
  let v54 : BitVec 1 := Scalar.cmpi .slt v50 c0_i32_21
  let v55 : BitVec 32 := Scalar.extui v54
  let v56 : BitVec 32 := Scalar.subi v53 v55
  let c512_i32 : BitVec 32 := 512#32
  let c0_i32_22 : BitVec 32 := 0#32
  let v57 : BitVec 1 := Scalar.cmpi .sgt c512_i32 c0_i32_22
  let v58 : BitVec 32 := Scalar.extui v57
  let c0_i32_23 : BitVec 32 := 0#32
  let v59 : BitVec 1 := Scalar.cmpi .slt c512_i32 c0_i32_23
  let v60 : BitVec 32 := Scalar.extui v59
  let v61 : BitVec 32 := Scalar.subi v58 v60
  let v62 : BitVec 1 := Scalar.cmpi .ne v56 v61
  let v63 : BitVec 32 := Scalar.remsi v50 c512_i32
  let c0_i32_24 : BitVec 32 := 0#32
  let v64 : BitVec 1 := Scalar.cmpi .ne v63 c0_i32_24
  let v65 : BitVec 1 := Scalar.andi v62 v64
  let v51 : BitVec 32 := Scalar.divsi v50 c512_i32
  let c1_i32_25 : BitVec 32 := 1#32
  let v66 : BitVec 32 := Scalar.subi v51 c1_i32_25
  let v67 : BitVec 32 := Scalar.select v65 v66 v51
  let v80 : BitVec 32 := Scalar.subi v67 c0_i32_38
  let c1_i32_39 : BitVec 32 := 1#32
  let v82 : BitVec 32 := Scalar.divsi v80 c1_i32_39
  let v83 : BitVec 32 := Scalar.muli v82 c1_i32_39
  let v84 : BitVec 32 := Scalar.addi c0_i32_38 v83
  let c1_i32_40 : BitVec 32 := 1#32
  ⟨c0_i32_38, v84, c1_i32_40⟩
def k0_mult1 (i : grid0.Coords) (k0_t1 : Fin (k0_t1_loop i).trips) : BitVec 32 :=
  let c0_i32_38 : BitVec 32 := 0#32
  let c1_i32_40 : BitVec 32 := 1#32
  let arg9 : BitVec 32 := Scf.iv c0_i32_38 c1_i32_40 k0_t1
  let c512_i32_99 : BitVec 32 := 512#32
  let v285 : BitVec 32 := Scalar.muli arg9 c512_i32_99
  v285
def k0_off1 (i : grid0.Coords) (k0_t1 : Fin (k0_t1_loop i).trips) : Fin 2 → Nat :=
  let c0_i32_38 : BitVec 32 := 0#32
  let c1_i32_40 : BitVec 32 := 1#32
  let arg9 : BitVec 32 := Scf.iv c0_i32_38 c1_i32_40 k0_t1
  let c512_i32_99 : BitVec 32 := 512#32
  let v285 : BitVec 32 := Scalar.muli arg9 c512_i32_99
  let v286 : BitVec 32 := v285
  let v287 : Index := Scalar.indexCast v286
  let c0_100 : Index := 0#32
  ![v287.toNat, 0]
def k0_off2 (i : grid0.Coords) (k0_t1 : Fin (k0_t1_loop i).trips) (c0_i32_103 : BitVec 32) : Fin 3 → Nat :=
  let c0_104 : Index := 0#32
  let arg1 : BitVec 32 := BitVec.ofNat 32 (i 1).val
  let c4_i32_102 : BitVec 32 := 4#32
  let v293 : BitVec 32 := Scalar.muli arg1 c4_i32_102
  let v294 : BitVec 32 := Scalar.addi v293 c0_i32_103
  let v295 : Index := Scalar.indexCast v294
  let c0_i32_38 : BitVec 32 := 0#32
  let c1_i32_40 : BitVec 32 := 1#32
  let arg9 : BitVec 32 := Scf.iv c0_i32_38 c1_i32_40 k0_t1
  let c512_i32_99 : BitVec 32 := 512#32
  let v285 : BitVec 32 := Scalar.muli arg9 c512_i32_99
  let v286 : BitVec 32 := v285
  let v296 : Index := Scalar.indexCast v286
  ![0, v295.toNat, v296.toNat]
def k0_off3 (i : grid0.Coords) (k0_t1 : Fin (k0_t1_loop i).trips) : Fin 2 → Nat :=
  let c0_i32_38 : BitVec 32 := 0#32
  let c1_i32_40 : BitVec 32 := 1#32
  let arg9 : BitVec 32 := Scf.iv c0_i32_38 c1_i32_40 k0_t1
  let c512_i32_99 : BitVec 32 := 512#32
  let v285 : BitVec 32 := Scalar.muli arg9 c512_i32_99
  let v286 : BitVec 32 := v285
  let v321 : Index := Scalar.indexCast v286
  let c128_109 : Index := 128#32
  ![v321.toNat, 128]
def k0_off4 (i : grid0.Coords) (k0_t1 : Fin (k0_t1_loop i).trips) : Fin 2 → Nat :=
  let c0_i32_38 : BitVec 32 := 0#32
  let c1_i32_40 : BitVec 32 := 1#32
  let arg9 : BitVec 32 := Scf.iv c0_i32_38 c1_i32_40 k0_t1
  let c512_i32_99 : BitVec 32 := 512#32
  let v285 : BitVec 32 := Scalar.muli arg9 c512_i32_99
  let v286 : BitVec 32 := v285
  let v355 : Index := Scalar.indexCast v286
  let c256_118 : Index := 256#32
  ![v355.toNat, 256]
def k0_off5 (i : grid0.Coords) (k0_t1 : Fin (k0_t1_loop i).trips) : Fin 2 → Nat :=
  let c0_i32_38 : BitVec 32 := 0#32
  let c1_i32_40 : BitVec 32 := 1#32
  let arg9 : BitVec 32 := Scf.iv c0_i32_38 c1_i32_40 k0_t1
  let c512_i32_99 : BitVec 32 := 512#32
  let v285 : BitVec 32 := Scalar.muli arg9 c512_i32_99
  let v286 : BitVec 32 := v285
  let v389 : Index := Scalar.indexCast v286
  let c384_127 : Index := 384#32
  ![v389.toNat, 384]
@[reducible] def k0_t2_loop (i : grid0.Coords) : Scf.Loop 32 :=
  let c0_i32_38 : BitVec 32 := 0#32
  let arg2 : BitVec 32 := BitVec.ofNat 32 (i 2).val
  let c256_i32 : BitVec 32 := 256#32
  let v50 : BitVec 32 := Scalar.muli arg2 c256_i32
  let c0_i32_20 : BitVec 32 := 0#32
  let v52 : BitVec 1 := Scalar.cmpi .sgt v50 c0_i32_20
  let v53 : BitVec 32 := Scalar.extui v52
  let c0_i32_21 : BitVec 32 := 0#32
  let v54 : BitVec 1 := Scalar.cmpi .slt v50 c0_i32_21
  let v55 : BitVec 32 := Scalar.extui v54
  let v56 : BitVec 32 := Scalar.subi v53 v55
  let c512_i32 : BitVec 32 := 512#32
  let c0_i32_22 : BitVec 32 := 0#32
  let v57 : BitVec 1 := Scalar.cmpi .sgt c512_i32 c0_i32_22
  let v58 : BitVec 32 := Scalar.extui v57
  let c0_i32_23 : BitVec 32 := 0#32
  let v59 : BitVec 1 := Scalar.cmpi .slt c512_i32 c0_i32_23
  let v60 : BitVec 32 := Scalar.extui v59
  let v61 : BitVec 32 := Scalar.subi v58 v60
  let v62 : BitVec 1 := Scalar.cmpi .ne v56 v61
  let v63 : BitVec 32 := Scalar.remsi v50 c512_i32
  let c0_i32_24 : BitVec 32 := 0#32
  let v64 : BitVec 1 := Scalar.cmpi .ne v63 c0_i32_24
  let v65 : BitVec 1 := Scalar.andi v62 v64
  let v51 : BitVec 32 := Scalar.divsi v50 c512_i32
  let c1_i32_25 : BitVec 32 := 1#32
  let v66 : BitVec 32 := Scalar.subi v51 c1_i32_25
  let v67 : BitVec 32 := Scalar.select v65 v66 v51
  let v80 : BitVec 32 := Scalar.subi v67 c0_i32_38
  let c1_i32_39 : BitVec 32 := 1#32
  let v82 : BitVec 32 := Scalar.divsi v80 c1_i32_39
  let v83 : BitVec 32 := Scalar.muli v82 c1_i32_39
  let v84 : BitVec 32 := Scalar.addi c0_i32_38 v83
  let v81 : BitVec 32 := Scalar.addi c0_i32_38 v80
  let c1_i32_41 : BitVec 32 := 1#32
  ⟨v84, v81, c1_i32_41⟩
def k0_mult2 (i : grid0.Coords) (k0_t2 : Fin (k0_t2_loop i).trips) : BitVec 32 :=
  let c0_i32_38 : BitVec 32 := 0#32
  let arg2 : BitVec 32 := BitVec.ofNat 32 (i 2).val
  let c256_i32 : BitVec 32 := 256#32
  let v50 : BitVec 32 := Scalar.muli arg2 c256_i32
  let c0_i32_20 : BitVec 32 := 0#32
  let v52 : BitVec 1 := Scalar.cmpi .sgt v50 c0_i32_20
  let v53 : BitVec 32 := Scalar.extui v52
  let c0_i32_21 : BitVec 32 := 0#32
  let v54 : BitVec 1 := Scalar.cmpi .slt v50 c0_i32_21
  let v55 : BitVec 32 := Scalar.extui v54
  let v56 : BitVec 32 := Scalar.subi v53 v55
  let c512_i32 : BitVec 32 := 512#32
  let c0_i32_22 : BitVec 32 := 0#32
  let v57 : BitVec 1 := Scalar.cmpi .sgt c512_i32 c0_i32_22
  let v58 : BitVec 32 := Scalar.extui v57
  let c0_i32_23 : BitVec 32 := 0#32
  let v59 : BitVec 1 := Scalar.cmpi .slt c512_i32 c0_i32_23
  let v60 : BitVec 32 := Scalar.extui v59
  let v61 : BitVec 32 := Scalar.subi v58 v60
  let v62 : BitVec 1 := Scalar.cmpi .ne v56 v61
  let v63 : BitVec 32 := Scalar.remsi v50 c512_i32
  let c0_i32_24 : BitVec 32 := 0#32
  let v64 : BitVec 1 := Scalar.cmpi .ne v63 c0_i32_24
  let v65 : BitVec 1 := Scalar.andi v62 v64
  let v51 : BitVec 32 := Scalar.divsi v50 c512_i32
  let c1_i32_25 : BitVec 32 := 1#32
  let v66 : BitVec 32 := Scalar.subi v51 c1_i32_25
  let v67 : BitVec 32 := Scalar.select v65 v66 v51
  let v80 : BitVec 32 := Scalar.subi v67 c0_i32_38
  let c1_i32_39 : BitVec 32 := 1#32
  let v82 : BitVec 32 := Scalar.divsi v80 c1_i32_39
  let v83 : BitVec 32 := Scalar.muli v82 c1_i32_39
  let v84 : BitVec 32 := Scalar.addi c0_i32_38 v83
  let c1_i32_41 : BitVec 32 := 1#32
  let arg9 : BitVec 32 := Scf.iv v84 c1_i32_41 k0_t2
  let c512_i32_99 : BitVec 32 := 512#32
  let v285 : BitVec 32 := Scalar.muli arg9 c512_i32_99
  v285
def k0_off6 (i : grid0.Coords) (k0_t2 : Fin (k0_t2_loop i).trips) : Fin 2 → Nat :=
  let c0_i32_38 : BitVec 32 := 0#32
  let arg2 : BitVec 32 := BitVec.ofNat 32 (i 2).val
  let c256_i32 : BitVec 32 := 256#32
  let v50 : BitVec 32 := Scalar.muli arg2 c256_i32
  let c0_i32_20 : BitVec 32 := 0#32
  let v52 : BitVec 1 := Scalar.cmpi .sgt v50 c0_i32_20
  let v53 : BitVec 32 := Scalar.extui v52
  let c0_i32_21 : BitVec 32 := 0#32
  let v54 : BitVec 1 := Scalar.cmpi .slt v50 c0_i32_21
  let v55 : BitVec 32 := Scalar.extui v54
  let v56 : BitVec 32 := Scalar.subi v53 v55
  let c512_i32 : BitVec 32 := 512#32
  let c0_i32_22 : BitVec 32 := 0#32
  let v57 : BitVec 1 := Scalar.cmpi .sgt c512_i32 c0_i32_22
  let v58 : BitVec 32 := Scalar.extui v57
  let c0_i32_23 : BitVec 32 := 0#32
  let v59 : BitVec 1 := Scalar.cmpi .slt c512_i32 c0_i32_23
  let v60 : BitVec 32 := Scalar.extui v59
  let v61 : BitVec 32 := Scalar.subi v58 v60
  let v62 : BitVec 1 := Scalar.cmpi .ne v56 v61
  let v63 : BitVec 32 := Scalar.remsi v50 c512_i32
  let c0_i32_24 : BitVec 32 := 0#32
  let v64 : BitVec 1 := Scalar.cmpi .ne v63 c0_i32_24
  let v65 : BitVec 1 := Scalar.andi v62 v64
  let v51 : BitVec 32 := Scalar.divsi v50 c512_i32
  let c1_i32_25 : BitVec 32 := 1#32
  let v66 : BitVec 32 := Scalar.subi v51 c1_i32_25
  let v67 : BitVec 32 := Scalar.select v65 v66 v51
  let v80 : BitVec 32 := Scalar.subi v67 c0_i32_38
  let c1_i32_39 : BitVec 32 := 1#32
  let v82 : BitVec 32 := Scalar.divsi v80 c1_i32_39
  let v83 : BitVec 32 := Scalar.muli v82 c1_i32_39
  let v84 : BitVec 32 := Scalar.addi c0_i32_38 v83
  let c1_i32_41 : BitVec 32 := 1#32
  let arg9 : BitVec 32 := Scf.iv v84 c1_i32_41 k0_t2
  let c512_i32_99 : BitVec 32 := 512#32
  let v285 : BitVec 32 := Scalar.muli arg9 c512_i32_99
  let v286 : BitVec 32 := v285
  let v287 : Index := Scalar.indexCast v286
  let c0_100 : Index := 0#32
  ![v287.toNat, 0]
def k0_off7 (i : grid0.Coords) (k0_t2 : Fin (k0_t2_loop i).trips) (c0_i32_103 : BitVec 32) : Fin 3 → Nat :=
  let c0_104 : Index := 0#32
  let arg1 : BitVec 32 := BitVec.ofNat 32 (i 1).val
  let c4_i32_102 : BitVec 32 := 4#32
  let v293 : BitVec 32 := Scalar.muli arg1 c4_i32_102
  let v294 : BitVec 32 := Scalar.addi v293 c0_i32_103
  let v295 : Index := Scalar.indexCast v294
  let c0_i32_38 : BitVec 32 := 0#32
  let arg2 : BitVec 32 := BitVec.ofNat 32 (i 2).val
  let c256_i32 : BitVec 32 := 256#32
  let v50 : BitVec 32 := Scalar.muli arg2 c256_i32
  let c0_i32_20 : BitVec 32 := 0#32
  let v52 : BitVec 1 := Scalar.cmpi .sgt v50 c0_i32_20
  let v53 : BitVec 32 := Scalar.extui v52
  let c0_i32_21 : BitVec 32 := 0#32
  let v54 : BitVec 1 := Scalar.cmpi .slt v50 c0_i32_21
  let v55 : BitVec 32 := Scalar.extui v54
  let v56 : BitVec 32 := Scalar.subi v53 v55
  let c512_i32 : BitVec 32 := 512#32
  let c0_i32_22 : BitVec 32 := 0#32
  let v57 : BitVec 1 := Scalar.cmpi .sgt c512_i32 c0_i32_22
  let v58 : BitVec 32 := Scalar.extui v57
  let c0_i32_23 : BitVec 32 := 0#32
  let v59 : BitVec 1 := Scalar.cmpi .slt c512_i32 c0_i32_23
  let v60 : BitVec 32 := Scalar.extui v59
  let v61 : BitVec 32 := Scalar.subi v58 v60
  let v62 : BitVec 1 := Scalar.cmpi .ne v56 v61
  let v63 : BitVec 32 := Scalar.remsi v50 c512_i32
  let c0_i32_24 : BitVec 32 := 0#32
  let v64 : BitVec 1 := Scalar.cmpi .ne v63 c0_i32_24
  let v65 : BitVec 1 := Scalar.andi v62 v64
  let v51 : BitVec 32 := Scalar.divsi v50 c512_i32
  let c1_i32_25 : BitVec 32 := 1#32
  let v66 : BitVec 32 := Scalar.subi v51 c1_i32_25
  let v67 : BitVec 32 := Scalar.select v65 v66 v51
  let v80 : BitVec 32 := Scalar.subi v67 c0_i32_38
  let c1_i32_39 : BitVec 32 := 1#32
  let v82 : BitVec 32 := Scalar.divsi v80 c1_i32_39
  let v83 : BitVec 32 := Scalar.muli v82 c1_i32_39
  let v84 : BitVec 32 := Scalar.addi c0_i32_38 v83
  let c1_i32_41 : BitVec 32 := 1#32
  let arg9 : BitVec 32 := Scf.iv v84 c1_i32_41 k0_t2
  let c512_i32_99 : BitVec 32 := 512#32
  let v285 : BitVec 32 := Scalar.muli arg9 c512_i32_99
  let v286 : BitVec 32 := v285
  let v296 : Index := Scalar.indexCast v286
  ![0, v295.toNat, v296.toNat]
def k0_off8 (i : grid0.Coords) (k0_t2 : Fin (k0_t2_loop i).trips) : Fin 2 → Nat :=
  let c0_i32_38 : BitVec 32 := 0#32
  let arg2 : BitVec 32 := BitVec.ofNat 32 (i 2).val
  let c256_i32 : BitVec 32 := 256#32
  let v50 : BitVec 32 := Scalar.muli arg2 c256_i32
  let c0_i32_20 : BitVec 32 := 0#32
  let v52 : BitVec 1 := Scalar.cmpi .sgt v50 c0_i32_20
  let v53 : BitVec 32 := Scalar.extui v52
  let c0_i32_21 : BitVec 32 := 0#32
  let v54 : BitVec 1 := Scalar.cmpi .slt v50 c0_i32_21
  let v55 : BitVec 32 := Scalar.extui v54
  let v56 : BitVec 32 := Scalar.subi v53 v55
  let c512_i32 : BitVec 32 := 512#32
  let c0_i32_22 : BitVec 32 := 0#32
  let v57 : BitVec 1 := Scalar.cmpi .sgt c512_i32 c0_i32_22
  let v58 : BitVec 32 := Scalar.extui v57
  let c0_i32_23 : BitVec 32 := 0#32
  let v59 : BitVec 1 := Scalar.cmpi .slt c512_i32 c0_i32_23
  let v60 : BitVec 32 := Scalar.extui v59
  let v61 : BitVec 32 := Scalar.subi v58 v60
  let v62 : BitVec 1 := Scalar.cmpi .ne v56 v61
  let v63 : BitVec 32 := Scalar.remsi v50 c512_i32
  let c0_i32_24 : BitVec 32 := 0#32
  let v64 : BitVec 1 := Scalar.cmpi .ne v63 c0_i32_24
  let v65 : BitVec 1 := Scalar.andi v62 v64
  let v51 : BitVec 32 := Scalar.divsi v50 c512_i32
  let c1_i32_25 : BitVec 32 := 1#32
  let v66 : BitVec 32 := Scalar.subi v51 c1_i32_25
  let v67 : BitVec 32 := Scalar.select v65 v66 v51
  let v80 : BitVec 32 := Scalar.subi v67 c0_i32_38
  let c1_i32_39 : BitVec 32 := 1#32
  let v82 : BitVec 32 := Scalar.divsi v80 c1_i32_39
  let v83 : BitVec 32 := Scalar.muli v82 c1_i32_39
  let v84 : BitVec 32 := Scalar.addi c0_i32_38 v83
  let c1_i32_41 : BitVec 32 := 1#32
  let arg9 : BitVec 32 := Scf.iv v84 c1_i32_41 k0_t2
  let c512_i32_99 : BitVec 32 := 512#32
  let v285 : BitVec 32 := Scalar.muli arg9 c512_i32_99
  let v286 : BitVec 32 := v285
  let v321 : Index := Scalar.indexCast v286
  let c128_109 : Index := 128#32
  ![v321.toNat, 128]
def k0_off9 (i : grid0.Coords) (k0_t2 : Fin (k0_t2_loop i).trips) : Fin 2 → Nat :=
  let c0_i32_38 : BitVec 32 := 0#32
  let arg2 : BitVec 32 := BitVec.ofNat 32 (i 2).val
  let c256_i32 : BitVec 32 := 256#32
  let v50 : BitVec 32 := Scalar.muli arg2 c256_i32
  let c0_i32_20 : BitVec 32 := 0#32
  let v52 : BitVec 1 := Scalar.cmpi .sgt v50 c0_i32_20
  let v53 : BitVec 32 := Scalar.extui v52
  let c0_i32_21 : BitVec 32 := 0#32
  let v54 : BitVec 1 := Scalar.cmpi .slt v50 c0_i32_21
  let v55 : BitVec 32 := Scalar.extui v54
  let v56 : BitVec 32 := Scalar.subi v53 v55
  let c512_i32 : BitVec 32 := 512#32
  let c0_i32_22 : BitVec 32 := 0#32
  let v57 : BitVec 1 := Scalar.cmpi .sgt c512_i32 c0_i32_22
  let v58 : BitVec 32 := Scalar.extui v57
  let c0_i32_23 : BitVec 32 := 0#32
  let v59 : BitVec 1 := Scalar.cmpi .slt c512_i32 c0_i32_23
  let v60 : BitVec 32 := Scalar.extui v59
  let v61 : BitVec 32 := Scalar.subi v58 v60
  let v62 : BitVec 1 := Scalar.cmpi .ne v56 v61
  let v63 : BitVec 32 := Scalar.remsi v50 c512_i32
  let c0_i32_24 : BitVec 32 := 0#32
  let v64 : BitVec 1 := Scalar.cmpi .ne v63 c0_i32_24
  let v65 : BitVec 1 := Scalar.andi v62 v64
  let v51 : BitVec 32 := Scalar.divsi v50 c512_i32
  let c1_i32_25 : BitVec 32 := 1#32
  let v66 : BitVec 32 := Scalar.subi v51 c1_i32_25
  let v67 : BitVec 32 := Scalar.select v65 v66 v51
  let v80 : BitVec 32 := Scalar.subi v67 c0_i32_38
  let c1_i32_39 : BitVec 32 := 1#32
  let v82 : BitVec 32 := Scalar.divsi v80 c1_i32_39
  let v83 : BitVec 32 := Scalar.muli v82 c1_i32_39
  let v84 : BitVec 32 := Scalar.addi c0_i32_38 v83
  let c1_i32_41 : BitVec 32 := 1#32
  let arg9 : BitVec 32 := Scf.iv v84 c1_i32_41 k0_t2
  let c512_i32_99 : BitVec 32 := 512#32
  let v285 : BitVec 32 := Scalar.muli arg9 c512_i32_99
  let v286 : BitVec 32 := v285
  let v355 : Index := Scalar.indexCast v286
  let c256_118 : Index := 256#32
  ![v355.toNat, 256]
def k0_off10 (i : grid0.Coords) (k0_t2 : Fin (k0_t2_loop i).trips) : Fin 2 → Nat :=
  let c0_i32_38 : BitVec 32 := 0#32
  let arg2 : BitVec 32 := BitVec.ofNat 32 (i 2).val
  let c256_i32 : BitVec 32 := 256#32
  let v50 : BitVec 32 := Scalar.muli arg2 c256_i32
  let c0_i32_20 : BitVec 32 := 0#32
  let v52 : BitVec 1 := Scalar.cmpi .sgt v50 c0_i32_20
  let v53 : BitVec 32 := Scalar.extui v52
  let c0_i32_21 : BitVec 32 := 0#32
  let v54 : BitVec 1 := Scalar.cmpi .slt v50 c0_i32_21
  let v55 : BitVec 32 := Scalar.extui v54
  let v56 : BitVec 32 := Scalar.subi v53 v55
  let c512_i32 : BitVec 32 := 512#32
  let c0_i32_22 : BitVec 32 := 0#32
  let v57 : BitVec 1 := Scalar.cmpi .sgt c512_i32 c0_i32_22
  let v58 : BitVec 32 := Scalar.extui v57
  let c0_i32_23 : BitVec 32 := 0#32
  let v59 : BitVec 1 := Scalar.cmpi .slt c512_i32 c0_i32_23
  let v60 : BitVec 32 := Scalar.extui v59
  let v61 : BitVec 32 := Scalar.subi v58 v60
  let v62 : BitVec 1 := Scalar.cmpi .ne v56 v61
  let v63 : BitVec 32 := Scalar.remsi v50 c512_i32
  let c0_i32_24 : BitVec 32 := 0#32
  let v64 : BitVec 1 := Scalar.cmpi .ne v63 c0_i32_24
  let v65 : BitVec 1 := Scalar.andi v62 v64
  let v51 : BitVec 32 := Scalar.divsi v50 c512_i32
  let c1_i32_25 : BitVec 32 := 1#32
  let v66 : BitVec 32 := Scalar.subi v51 c1_i32_25
  let v67 : BitVec 32 := Scalar.select v65 v66 v51
  let v80 : BitVec 32 := Scalar.subi v67 c0_i32_38
  let c1_i32_39 : BitVec 32 := 1#32
  let v82 : BitVec 32 := Scalar.divsi v80 c1_i32_39
  let v83 : BitVec 32 := Scalar.muli v82 c1_i32_39
  let v84 : BitVec 32 := Scalar.addi c0_i32_38 v83
  let c1_i32_41 : BitVec 32 := 1#32
  let arg9 : BitVec 32 := Scf.iv v84 c1_i32_41 k0_t2
  let c512_i32_99 : BitVec 32 := 512#32
  let v285 : BitVec 32 := Scalar.muli arg9 c512_i32_99
  let v286 : BitVec 32 := v285
  let v389 : Index := Scalar.indexCast v286
  let c384_127 : Index := 384#32
  ![v389.toNat, 384]
def k0_mult3 (i : grid0.Coords) : BitVec 32 :=
  let arg2 : BitVec 32 := BitVec.ofNat 32 (i 2).val
  let c256_i32 : BitVec 32 := 256#32
  let v50 : BitVec 32 := Scalar.muli arg2 c256_i32
  let c0_i32_20 : BitVec 32 := 0#32
  let v52 : BitVec 1 := Scalar.cmpi .sgt v50 c0_i32_20
  let v53 : BitVec 32 := Scalar.extui v52
  let c0_i32_21 : BitVec 32 := 0#32
  let v54 : BitVec 1 := Scalar.cmpi .slt v50 c0_i32_21
  let v55 : BitVec 32 := Scalar.extui v54
  let v56 : BitVec 32 := Scalar.subi v53 v55
  let c512_i32 : BitVec 32 := 512#32
  let c0_i32_22 : BitVec 32 := 0#32
  let v57 : BitVec 1 := Scalar.cmpi .sgt c512_i32 c0_i32_22
  let v58 : BitVec 32 := Scalar.extui v57
  let c0_i32_23 : BitVec 32 := 0#32
  let v59 : BitVec 1 := Scalar.cmpi .slt c512_i32 c0_i32_23
  let v60 : BitVec 32 := Scalar.extui v59
  let v61 : BitVec 32 := Scalar.subi v58 v60
  let v62 : BitVec 1 := Scalar.cmpi .ne v56 v61
  let v63 : BitVec 32 := Scalar.remsi v50 c512_i32
  let c0_i32_24 : BitVec 32 := 0#32
  let v64 : BitVec 1 := Scalar.cmpi .ne v63 c0_i32_24
  let v65 : BitVec 1 := Scalar.andi v62 v64
  let v51 : BitVec 32 := Scalar.divsi v50 c512_i32
  let c1_i32_25 : BitVec 32 := 1#32
  let v66 : BitVec 32 := Scalar.subi v51 c1_i32_25
  let v67 : BitVec 32 := Scalar.select v65 v66 v51
  let c512_i32_42 : BitVec 32 := 512#32
  let v87 : BitVec 32 := Scalar.muli v67 c512_i32_42
  v87
def k0_off11 (i : grid0.Coords) : Fin 2 → Nat :=
  let arg2 : BitVec 32 := BitVec.ofNat 32 (i 2).val
  let c256_i32 : BitVec 32 := 256#32
  let v50 : BitVec 32 := Scalar.muli arg2 c256_i32
  let c0_i32_20 : BitVec 32 := 0#32
  let v52 : BitVec 1 := Scalar.cmpi .sgt v50 c0_i32_20
  let v53 : BitVec 32 := Scalar.extui v52
  let c0_i32_21 : BitVec 32 := 0#32
  let v54 : BitVec 1 := Scalar.cmpi .slt v50 c0_i32_21
  let v55 : BitVec 32 := Scalar.extui v54
  let v56 : BitVec 32 := Scalar.subi v53 v55
  let c512_i32 : BitVec 32 := 512#32
  let c0_i32_22 : BitVec 32 := 0#32
  let v57 : BitVec 1 := Scalar.cmpi .sgt c512_i32 c0_i32_22
  let v58 : BitVec 32 := Scalar.extui v57
  let c0_i32_23 : BitVec 32 := 0#32
  let v59 : BitVec 1 := Scalar.cmpi .slt c512_i32 c0_i32_23
  let v60 : BitVec 32 := Scalar.extui v59
  let v61 : BitVec 32 := Scalar.subi v58 v60
  let v62 : BitVec 1 := Scalar.cmpi .ne v56 v61
  let v63 : BitVec 32 := Scalar.remsi v50 c512_i32
  let c0_i32_24 : BitVec 32 := 0#32
  let v64 : BitVec 1 := Scalar.cmpi .ne v63 c0_i32_24
  let v65 : BitVec 1 := Scalar.andi v62 v64
  let v51 : BitVec 32 := Scalar.divsi v50 c512_i32
  let c1_i32_25 : BitVec 32 := 1#32
  let v66 : BitVec 32 := Scalar.subi v51 c1_i32_25
  let v67 : BitVec 32 := Scalar.select v65 v66 v51
  let c512_i32_42 : BitVec 32 := 512#32
  let v87 : BitVec 32 := Scalar.muli v67 c512_i32_42
  let v88 : BitVec 32 := v87
  let v89 : Index := Scalar.indexCast v88
  let c0_43 : Index := 0#32
  ![v89.toNat, 0]
def k0_off12 (i : grid0.Coords) (c0_i32_46 : BitVec 32) : Fin 3 → Nat :=
  let c0_47 : Index := 0#32
  let arg1 : BitVec 32 := BitVec.ofNat 32 (i 1).val
  let c4_i32_45 : BitVec 32 := 4#32
  let v95 : BitVec 32 := Scalar.muli arg1 c4_i32_45
  let v96 : BitVec 32 := Scalar.addi v95 c0_i32_46
  let v97 : Index := Scalar.indexCast v96
  let arg2 : BitVec 32 := BitVec.ofNat 32 (i 2).val
  let c256_i32 : BitVec 32 := 256#32
  let v50 : BitVec 32 := Scalar.muli arg2 c256_i32
  let c0_i32_20 : BitVec 32 := 0#32
  let v52 : BitVec 1 := Scalar.cmpi .sgt v50 c0_i32_20
  let v53 : BitVec 32 := Scalar.extui v52
  let c0_i32_21 : BitVec 32 := 0#32
  let v54 : BitVec 1 := Scalar.cmpi .slt v50 c0_i32_21
  let v55 : BitVec 32 := Scalar.extui v54
  let v56 : BitVec 32 := Scalar.subi v53 v55
  let c512_i32 : BitVec 32 := 512#32
  let c0_i32_22 : BitVec 32 := 0#32
  let v57 : BitVec 1 := Scalar.cmpi .sgt c512_i32 c0_i32_22
  let v58 : BitVec 32 := Scalar.extui v57
  let c0_i32_23 : BitVec 32 := 0#32
  let v59 : BitVec 1 := Scalar.cmpi .slt c512_i32 c0_i32_23
  let v60 : BitVec 32 := Scalar.extui v59
  let v61 : BitVec 32 := Scalar.subi v58 v60
  let v62 : BitVec 1 := Scalar.cmpi .ne v56 v61
  let v63 : BitVec 32 := Scalar.remsi v50 c512_i32
  let c0_i32_24 : BitVec 32 := 0#32
  let v64 : BitVec 1 := Scalar.cmpi .ne v63 c0_i32_24
  let v65 : BitVec 1 := Scalar.andi v62 v64
  let v51 : BitVec 32 := Scalar.divsi v50 c512_i32
  let c1_i32_25 : BitVec 32 := 1#32
  let v66 : BitVec 32 := Scalar.subi v51 c1_i32_25
  let v67 : BitVec 32 := Scalar.select v65 v66 v51
  let c512_i32_42 : BitVec 32 := 512#32
  let v87 : BitVec 32 := Scalar.muli v67 c512_i32_42
  let v88 : BitVec 32 := v87
  let v98 : Index := Scalar.indexCast v88
  ![0, v97.toNat, v98.toNat]
def k0_off13 (i : grid0.Coords) : Fin 2 → Nat :=
  let arg2 : BitVec 32 := BitVec.ofNat 32 (i 2).val
  let c256_i32 : BitVec 32 := 256#32
  let v50 : BitVec 32 := Scalar.muli arg2 c256_i32
  let c0_i32_20 : BitVec 32 := 0#32
  let v52 : BitVec 1 := Scalar.cmpi .sgt v50 c0_i32_20
  let v53 : BitVec 32 := Scalar.extui v52
  let c0_i32_21 : BitVec 32 := 0#32
  let v54 : BitVec 1 := Scalar.cmpi .slt v50 c0_i32_21
  let v55 : BitVec 32 := Scalar.extui v54
  let v56 : BitVec 32 := Scalar.subi v53 v55
  let c512_i32 : BitVec 32 := 512#32
  let c0_i32_22 : BitVec 32 := 0#32
  let v57 : BitVec 1 := Scalar.cmpi .sgt c512_i32 c0_i32_22
  let v58 : BitVec 32 := Scalar.extui v57
  let c0_i32_23 : BitVec 32 := 0#32
  let v59 : BitVec 1 := Scalar.cmpi .slt c512_i32 c0_i32_23
  let v60 : BitVec 32 := Scalar.extui v59
  let v61 : BitVec 32 := Scalar.subi v58 v60
  let v62 : BitVec 1 := Scalar.cmpi .ne v56 v61
  let v63 : BitVec 32 := Scalar.remsi v50 c512_i32
  let c0_i32_24 : BitVec 32 := 0#32
  let v64 : BitVec 1 := Scalar.cmpi .ne v63 c0_i32_24
  let v65 : BitVec 1 := Scalar.andi v62 v64
  let v51 : BitVec 32 := Scalar.divsi v50 c512_i32
  let c1_i32_25 : BitVec 32 := 1#32
  let v66 : BitVec 32 := Scalar.subi v51 c1_i32_25
  let v67 : BitVec 32 := Scalar.select v65 v66 v51
  let c512_i32_42 : BitVec 32 := 512#32
  let v87 : BitVec 32 := Scalar.muli v67 c512_i32_42
  let v88 : BitVec 32 := v87
  let v134 : Index := Scalar.indexCast v88
  let c128_55 : Index := 128#32
  ![v134.toNat, 128]
def k0_off14 (i : grid0.Coords) : Fin 2 → Nat :=
  let arg2 : BitVec 32 := BitVec.ofNat 32 (i 2).val
  let c256_i32 : BitVec 32 := 256#32
  let v50 : BitVec 32 := Scalar.muli arg2 c256_i32
  let c0_i32_20 : BitVec 32 := 0#32
  let v52 : BitVec 1 := Scalar.cmpi .sgt v50 c0_i32_20
  let v53 : BitVec 32 := Scalar.extui v52
  let c0_i32_21 : BitVec 32 := 0#32
  let v54 : BitVec 1 := Scalar.cmpi .slt v50 c0_i32_21
  let v55 : BitVec 32 := Scalar.extui v54
  let v56 : BitVec 32 := Scalar.subi v53 v55
  let c512_i32 : BitVec 32 := 512#32
  let c0_i32_22 : BitVec 32 := 0#32
  let v57 : BitVec 1 := Scalar.cmpi .sgt c512_i32 c0_i32_22
  let v58 : BitVec 32 := Scalar.extui v57
  let c0_i32_23 : BitVec 32 := 0#32
  let v59 : BitVec 1 := Scalar.cmpi .slt c512_i32 c0_i32_23
  let v60 : BitVec 32 := Scalar.extui v59
  let v61 : BitVec 32 := Scalar.subi v58 v60
  let v62 : BitVec 1 := Scalar.cmpi .ne v56 v61
  let v63 : BitVec 32 := Scalar.remsi v50 c512_i32
  let c0_i32_24 : BitVec 32 := 0#32
  let v64 : BitVec 1 := Scalar.cmpi .ne v63 c0_i32_24
  let v65 : BitVec 1 := Scalar.andi v62 v64
  let v51 : BitVec 32 := Scalar.divsi v50 c512_i32
  let c1_i32_25 : BitVec 32 := 1#32
  let v66 : BitVec 32 := Scalar.subi v51 c1_i32_25
  let v67 : BitVec 32 := Scalar.select v65 v66 v51
  let c512_i32_42 : BitVec 32 := 512#32
  let v87 : BitVec 32 := Scalar.muli v67 c512_i32_42
  let v88 : BitVec 32 := v87
  let v179 : Index := Scalar.indexCast v88
  let c256_67 : Index := 256#32
  ![v179.toNat, 256]
def k0_off15 (i : grid0.Coords) : Fin 2 → Nat :=
  let arg2 : BitVec 32 := BitVec.ofNat 32 (i 2).val
  let c256_i32 : BitVec 32 := 256#32
  let v50 : BitVec 32 := Scalar.muli arg2 c256_i32
  let c0_i32_20 : BitVec 32 := 0#32
  let v52 : BitVec 1 := Scalar.cmpi .sgt v50 c0_i32_20
  let v53 : BitVec 32 := Scalar.extui v52
  let c0_i32_21 : BitVec 32 := 0#32
  let v54 : BitVec 1 := Scalar.cmpi .slt v50 c0_i32_21
  let v55 : BitVec 32 := Scalar.extui v54
  let v56 : BitVec 32 := Scalar.subi v53 v55
  let c512_i32 : BitVec 32 := 512#32
  let c0_i32_22 : BitVec 32 := 0#32
  let v57 : BitVec 1 := Scalar.cmpi .sgt c512_i32 c0_i32_22
  let v58 : BitVec 32 := Scalar.extui v57
  let c0_i32_23 : BitVec 32 := 0#32
  let v59 : BitVec 1 := Scalar.cmpi .slt c512_i32 c0_i32_23
  let v60 : BitVec 32 := Scalar.extui v59
  let v61 : BitVec 32 := Scalar.subi v58 v60
  let v62 : BitVec 1 := Scalar.cmpi .ne v56 v61
  let v63 : BitVec 32 := Scalar.remsi v50 c512_i32
  let c0_i32_24 : BitVec 32 := 0#32
  let v64 : BitVec 1 := Scalar.cmpi .ne v63 c0_i32_24
  let v65 : BitVec 1 := Scalar.andi v62 v64
  let v51 : BitVec 32 := Scalar.divsi v50 c512_i32
  let c1_i32_25 : BitVec 32 := 1#32
  let v66 : BitVec 32 := Scalar.subi v51 c1_i32_25
  let v67 : BitVec 32 := Scalar.select v65 v66 v51
  let c512_i32_42 : BitVec 32 := 512#32
  let v87 : BitVec 32 := Scalar.muli v67 c512_i32_42
  let v88 : BitVec 32 := v87
  let v224 : Index := Scalar.indexCast v88
  let c384_79 : Index := 384#32
  ![v224.toNat, 384]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  let c0_i32_0 : BitVec 32 := 0#32
  ![v1.toNat, c0_i32.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, true]

abbrev stage0_4 : Fin 2 → Memref sig .tc .vmem S1x16x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 2 → Memref sig .tc .vmem S256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== ReferenceIdeal.lean ====
abbrev S8192x2048 : Shape := ⟨2, ![8192, 2048]⟩
abbrev S8192x128 : Shape := ⟨2, ![8192, 128]⟩
abbrev S4x2048x16x128 : Shape := ⟨4, ![4, 2048, 16, 128]⟩
abbrev S8192x16 : Shape := ⟨2, ![8192, 16]⟩
abbrev S4x2048x16 : Shape := ⟨3, ![4, 2048, 16]⟩
abbrev S4x16x2048 : Shape := ⟨3, ![4, 16, 2048]⟩
abbrev S2048 : Shape := ⟨1, ![2048]⟩
abbrev S4x16x2048x2048 : Shape := ⟨4, ![4, 16, 2048, 2048]⟩
abbrev S_ : Shape := ⟨0, ![]⟩
abbrev S4x16x2048x1 : Shape := ⟨4, ![4, 16, 2048, 1]⟩
abbrev S4x16x1x2048 : Shape := ⟨4, ![4, 16, 1, 2048]⟩
abbrev S1x2048 : Shape := ⟨2, ![1, 2048]⟩
abbrev S2048x1 : Shape := ⟨2, ![2048, 1]⟩
abbrev S2048x2048 : Shape := ⟨2, ![2048, 2048]⟩
abbrev S4x16x128x2048 : Shape := ⟨4, ![4, 16, 128, 2048]⟩

abbrev nBuf : Space → Nat
  | .hbm => 49
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S8192x2048, .f32⟩
  | .hbm, ⟨3, _⟩ => ⟨S8192x128, .f32⟩
  | .hbm, ⟨4, _⟩ => ⟨S4x2048x16x128, .f32⟩
  | .hbm, ⟨5, _⟩ => ⟨S4x2048x16x128, .f32⟩
  | .hbm, ⟨6, _⟩ => ⟨S4x2048x16x128, .f32⟩
  | .hbm, ⟨7, _⟩ => ⟨S8192x16, .f32⟩
  | .hbm, ⟨8, _⟩ => ⟨S4x2048x16, .f32⟩
  | .hbm, ⟨9, _⟩ => ⟨S4x16x2048, .f32⟩
  | .hbm, ⟨10, _⟩ => ⟨S2048, .i32⟩
  | .hbm, ⟨11, _⟩ => ⟨S4x16x2048x2048, .f32⟩
  | .hbm, ⟨12, _⟩ => ⟨S_, .f32⟩
  | .hbm, ⟨13, _⟩ => ⟨S4x16x2048x2048, .f32⟩
  | .hbm, ⟨14, _⟩ => ⟨S4x16x2048x2048, .f32⟩
  | .hbm, ⟨15, _⟩ => ⟨S4x16x2048x1, .f32⟩
  | .hbm, ⟨16, _⟩ => ⟨S4x16x2048x2048, .f32⟩
  | .hbm, ⟨17, _⟩ => ⟨S4x16x2048x2048, .f32⟩
  | .hbm, ⟨18, _⟩ => ⟨S4x16x1x2048, .f32⟩
  | .hbm, ⟨19, _⟩ => ⟨S4x16x2048x2048, .f32⟩
  | .hbm, ⟨20, _⟩ => ⟨S4x16x2048x2048, .f32⟩
  | .hbm, ⟨21, _⟩ => ⟨S1x2048, .i32⟩
  | .hbm, ⟨22, _⟩ => ⟨S2048x1, .i32⟩
  | .hbm, ⟨23, _⟩ => ⟨S2048x2048, .i32⟩
  | .hbm, ⟨24, _⟩ => ⟨S2048x2048, .i32⟩
  | .hbm, ⟨25, _⟩ => ⟨S2048x2048, .i1⟩
  | .hbm, ⟨26, _⟩ => ⟨S_, .f32⟩
  | .hbm, ⟨27, _⟩ => ⟨S_, .f32⟩
  | .hbm, ⟨28, _⟩ => ⟨S4x16x2048x2048, .i1⟩
  | .hbm, ⟨29, _⟩ => ⟨S4x16x2048x2048, .f32⟩
  | .hbm, ⟨30, _⟩ => ⟨S4x16x2048x2048, .f32⟩
  | .hbm, ⟨31, _⟩ => ⟨S_, .f32⟩
  | .hbm, ⟨32, _⟩ => ⟨S4x16x2048, .f32⟩
  | .hbm, ⟨33, _⟩ => ⟨S_, .f32⟩
  | .hbm, ⟨34, _⟩ => ⟨S4x16x2048, .f32⟩
  | .hbm, ⟨35, _⟩ => ⟨S4x16x2048, .f32⟩
  | .hbm, ⟨36, _⟩ => ⟨S4x16x2048x1, .f32⟩
  | .hbm, ⟨37, _⟩ => ⟨S4x16x2048x2048, .f32⟩
  | .hbm, ⟨38, _⟩ => ⟨S4x16x2048x2048, .f32⟩
  | .hbm, ⟨39, _⟩ => ⟨S4x16x2048x2048, .f32⟩
  | .hbm, ⟨40, _⟩ => ⟨S_, .f32⟩
  | .hbm, ⟨41, _⟩ => ⟨S4x16x2048, .f32⟩
  | .hbm, ⟨42, _⟩ => ⟨S4x16x2048x1, .f32⟩
  | .hbm, ⟨43, _⟩ => ⟨S4x16x2048x2048, .f32⟩
  | .hbm, ⟨44, _⟩ => ⟨S4x16x2048x2048, .f32⟩
  | .hbm, ⟨45, _⟩ => ⟨S4x16x128x2048, .f32⟩
  | .hbm, ⟨46, _⟩ => ⟨S4x2048x16x128, .f32⟩
  | .hbm, ⟨47, _⟩ => ⟨S8192x2048, .f32⟩
  | .hbm, ⟨48, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_cst_0 : Ref sig .tc := ⟨.hbm, 26, rfl⟩
abbrev main_call0_v0 : Ref sig .tc := ⟨.hbm, 27, rfl⟩
abbrev main_call0_v1 : Ref sig .tc := ⟨.hbm, 28, rfl⟩
abbrev main_call0_v2 : Ref sig .tc := ⟨.hbm, 29, rfl⟩
abbrev main_v21 : Ref sig .tc := ⟨.hbm, 30, rfl⟩
abbrev main_cst_1 : Ref sig .tc := ⟨.hbm, 31, rfl⟩
abbrev main_v22 : Ref sig .tc := ⟨.hbm, 32, rfl⟩
abbrev main_cst_2 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_3 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩

abbrev nD : Nat := 1
abbrev τ : Topo := Topo.v7x

variable {F : FTy → Type} [FloatOps F]
-- ==== Kernel2.lean ====
abbrev S8192x2048 : Shape := ⟨2, ![8192, 2048]⟩
abbrev S2x2048x24592 : Shape := ⟨3, ![2, 2048, 24592]⟩
abbrev S2x24592x2048 : Shape := ⟨3, ![2, 24592, 2048]⟩
abbrev S8192x8192 : Shape := ⟨2, ![8192, 8192]⟩
abbrev S1024x2048 : Shape := ⟨2, ![1024, 2048]⟩
abbrev S1x1024x2048 : Shape := ⟨3, ![1, 1024, 2048]⟩
abbrev S1024x1024 : Shape := ⟨2, ![1024, 1024]⟩
abbrev S2048x1024 : Shape := ⟨2, ![2048, 1024]⟩

abbrev nBuf : Space → Nat
  | .hbm => 4
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S2x2048x24592, .f32⟩
  | .hbm, ⟨2, _⟩ => ⟨S2x24592x2048, .f32⟩
  | .hbm, ⟨3, _⟩ => ⟨S8192x8192, .f32⟩
  | .local _ .vmem, ⟨0, _⟩ => ⟨S1024x2048, .bf16⟩
  | .local _ .vmem, ⟨1, _⟩ => ⟨S1024x2048, .bf16⟩
  | .local _ .vmem, ⟨2, _⟩ => ⟨S1x1024x2048, .f32⟩
  | .local _ .vmem, ⟨3, _⟩ => ⟨S1x1024x2048, .f32⟩
  | .local _ .vmem, ⟨4, _⟩ => ⟨S1024x1024, .f32⟩
  | .local _ .vmem, ⟨5, _⟩ => ⟨S1024x1024, .f32⟩
  | .local _ .vmem, ⟨6, _⟩ => ⟨S2048x1024, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  let c0_i32_2 : BitVec 32 := 0#32
  ![c0_i32_0.toNat, v0.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference2Ideal.lean ====
abbrev S8192x2048 : Shape := ⟨2, ![8192, 2048]⟩
abbrev S2x2048x24592 : Shape := ⟨3, ![2, 2048, 24592]⟩
abbrev S1x2048x24592 : Shape := ⟨3, ![1, 2048, 24592]⟩
abbrev S2048x24592 : Shape := ⟨2, ![2048, 24592]⟩
abbrev S8192x24592 : Shape := ⟨2, ![8192, 24592]⟩
abbrev S8192x8192 : Shape := ⟨2, ![8192, 8192]⟩

abbrev nBuf : Space → Nat
  | .hbm => 7
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2x2048x24592, .f32⟩
  | .hbm, ⟨2, _⟩ => ⟨S8192x2048, .f32⟩
  | .hbm, ⟨3, _⟩ => ⟨S1x2048x24592, .f32⟩
  | .hbm, ⟨4, _⟩ => ⟨S2048x24592, .f32⟩
  | .hbm, ⟨5, _⟩ => ⟨S8192x24592, .f32⟩
  | .hbm, ⟨6, _⟩ => ⟨S8192x8192, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel3.lean ====
abbrev S8192x2048 : Shape := ⟨2, ![8192, 2048]⟩
abbrev S2x2048x24592 : Shape := ⟨3, ![2, 2048, 24592]⟩
abbrev S2x24592x2048 : Shape := ⟨3, ![2, 24592, 2048]⟩
abbrev S1x16x2048 : Shape := ⟨3, ![1, 16, 2048]⟩
abbrev S16x2048 : Shape := ⟨2, ![16, 2048]⟩
abbrev S_ : Shape := ⟨0, ![]⟩
abbrev S128x2048 : Shape := ⟨2, ![128, 2048]⟩
abbrev S8192x6144 : Shape := ⟨2, ![8192, 6144]⟩
abbrev S1024x2048 : Shape := ⟨2, ![1024, 2048]⟩
abbrev S1x1024x2048 : Shape := ⟨3, ![1, 1024, 2048]⟩
abbrev S1x128x2048 : Shape := ⟨3, ![1, 128, 2048]⟩
abbrev S1024x1024 : Shape := ⟨2, ![1024, 1024]⟩
abbrev S2048x1024 : Shape := ⟨2, ![2048, 1024]⟩
abbrev S1152x2048 : Shape := ⟨2, ![1152, 2048]⟩

abbrev nBuf : Space → Nat
  | .hbm => 9
  | .vmem => 10
  | .smem => 0
  | _ => 0

abbrev bufTy : (tb : Table) → Fin (tcTables nBuf tb) → BufTy
  | .hbm, ⟨0, _⟩ => ⟨S8192x2048, .bf16⟩
  | .hbm, ⟨1, _⟩ => ⟨S2x2048x24592, .f32⟩
  | .hbm, ⟨2, _⟩ => ⟨S2x24592x2048, .f32⟩
  | .hbm, ⟨3, _⟩ => ⟨S1x16x2048, .f32⟩
  | .hbm, ⟨4, _⟩ => ⟨S16x2048, .f32⟩
  | .hbm, ⟨5, _⟩ => ⟨S_, .i32⟩
  | .hbm, ⟨6, _⟩ => ⟨S_, .f32⟩
  | .hbm, ⟨7, _⟩ => ⟨S128x2048, .f32⟩
  | .hbm, ⟨8, _⟩ => ⟨S8192x6144, .f32⟩
  | .local _ .vmem, ⟨0, _⟩ => ⟨S1024x2048, .bf16⟩
  | .local _ .vmem, ⟨1, _⟩ => ⟨S1024x2048, .bf16⟩
  | .local _ .vmem, ⟨2, _⟩ => ⟨S1x1024x2048, .f32⟩
  | .local _ .vmem, ⟨3, _⟩ => ⟨S1x1024x2048, .f32⟩
  | .local _ .vmem, ⟨4, _⟩ => ⟨S1x128x2048, .f32⟩
  | .local _ .vmem, ⟨5, _⟩ => ⟨S1x128x2048, .f32⟩
  | .local _ .vmem, ⟨6, _⟩ => ⟨S128x2048, .f32⟩
  | .local _ .vmem, ⟨7, _⟩ => ⟨S1024x1024, .f32⟩
  | .local _ .vmem, ⟨8, _⟩ => ⟨S1024x1024, .f32⟩
  | .local _ .vmem, ⟨9, _⟩ => ⟨S2048x1024, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_c : Ref sig .tc := ⟨.hbm, 5, rfl⟩
abbrev main_call0_v0 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![6, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c18_i32 : BitVec 32 := 18#32
  let v0 : BitVec 32 := Scalar.addi c18_i32 arg0
  let c0_i32 : BitVec 32 := 0#32
  let c0_i32_0 : BitVec 32 := 0#32
  let c0_i32_1 : BitVec 32 := 0#32
  ![c0_i32.toNat, v0.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c5_i32 : BitVec 32 := 5#32
  let v1 : BitVec 32 := Scalar.minsi v0 c5_i32
  let c18_i32 : BitVec 32 := 18#32
  let v2 : BitVec 32 := Scalar.addi c18_i32 v1
  let c8_i32 : BitVec 32 := 8#32
  let v3 : BitVec 32 := Scalar.muli v2 c8_i32
  let c0_i32 : BitVec 32 := 0#32
  let c0_i32_0 : BitVec 32 := 0#32
  let c0_i32_1 : BitVec 32 := 0#32
  ![c0_i32.toNat, v3.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S128x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference3Ideal.lean ====
abbrev S8192x2048 : Shape := ⟨2, ![8192, 2048]⟩
abbrev S2x2048x24592 : Shape := ⟨3, ![2, 2048, 24592]⟩
abbrev S1x2048x24592 : Shape := ⟨3, ![1, 2048, 24592]⟩
abbrev S2048x24592 : Shape := ⟨2, ![2048, 24592]⟩
abbrev S8192x24592 : Shape := ⟨2, ![8192, 24592]⟩
abbrev S8192x6144 : Shape := ⟨2, ![8192, 6144]⟩

abbrev nBuf : Space → Nat
  | .hbm => 7
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2x2048x24592, .f32⟩
  | .hbm, ⟨2, _⟩ => ⟨S8192x2048, .f32⟩
  | .hbm, ⟨3, _⟩ => ⟨S1x2048x24592, .f32⟩
  | .hbm, ⟨4, _⟩ => ⟨S2048x24592, .f32⟩
  | .hbm, ⟨5, _⟩ => ⟨S8192x24592, .f32⟩
  | .hbm, ⟨6, _⟩ => ⟨S8192x6144, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel4.lean ====
abbrev S8192x2048 : Shape := ⟨2, ![8192, 2048]⟩
abbrev S2x2048x2048 : Shape := ⟨3, ![2, 2048, 2048]⟩
abbrev S1024x2048 : Shape := ⟨2, ![1024, 2048]⟩
abbrev S1x2048x1024 : Shape := ⟨3, ![1, 2048, 1024]⟩
abbrev S1024x1024 : Shape := ⟨2, ![1024, 1024]⟩
abbrev S2048x1024 : Shape := ⟨2, ![2048, 1024]⟩

abbrev nBuf : Space → Nat
  | .hbm => 4
  | .vmem => 9
  | .smem => 0
  | _ => 0

abbrev bufTy : (tb : Table) → Fin (tcTables nBuf tb) → BufTy
  | .hbm, ⟨0, _⟩ => ⟨S8192x2048, .bf16⟩
  | .hbm, ⟨1, _⟩ => ⟨S2x2048x2048, .f32⟩
  | .hbm, ⟨2, _⟩ => ⟨S8192x2048, .f32⟩
  | .hbm, ⟨3, _⟩ => ⟨S8192x2048, .f32⟩
  | .local _ .vmem, ⟨0, _⟩ => ⟨S1024x2048, .bf16⟩
  | .local _ .vmem, ⟨1, _⟩ => ⟨S1024x2048, .bf16⟩
  | .local _ .vmem, ⟨2, _⟩ => ⟨S1x2048x1024, .f32⟩
  | .local _ .vmem, ⟨3, _⟩ => ⟨S1x2048x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S2048x1024, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  let c0_i32_2 : BitVec 32 := 0#32
  ![c0_i32_0.toNat, c0_i32_1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference4Ideal.lean ====
abbrev S8192x2048 : Shape := ⟨2, ![8192, 2048]⟩
abbrev S2x2048x2048 : Shape := ⟨3, ![2, 2048, 2048]⟩
abbrev S1x2048x2048 : Shape := ⟨3, ![1, 2048, 2048]⟩
abbrev S2048x2048 : Shape := ⟨2, ![2048, 2048]⟩

abbrev nBuf : Space → Nat
  | .hbm => 8
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2x2048x2048, .f32⟩
  | .hbm, ⟨2, _⟩ => ⟨S8192x2048, .f32⟩
  | .hbm, ⟨3, _⟩ => ⟨S8192x2048, .f32⟩
  | .hbm, ⟨4, _⟩ => ⟨S1x2048x2048, .f32⟩
  | .hbm, ⟨5, _⟩ => ⟨S2048x2048, .f32⟩
  | .hbm, ⟨6, _⟩ => ⟨S8192x2048, .f32⟩
  | .hbm, ⟨7, _⟩ => ⟨S8192x2048, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel5.lean ====
abbrev S8192x2048 : Shape := ⟨2, ![8192, 2048]⟩
abbrev S2x2048x11264 : Shape := ⟨3, ![2, 2048, 11264]⟩
abbrev S8192x11264 : Shape := ⟨2, ![8192, 11264]⟩
abbrev S1024x2048 : Shape := ⟨2, ![1024, 2048]⟩
abbrev S1x2048x1024 : Shape := ⟨3, ![1, 2048, 1024]⟩
abbrev S1024x1024 : Shape := ⟨2, ![1024, 1024]⟩
abbrev S2048x1024 : Shape := ⟨2, ![2048, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S2x2048x11264, .f32⟩
  | .hbm, ⟨2, _⟩ => ⟨S8192x11264, .f32⟩
  | .local _ .vmem, ⟨0, _⟩ => ⟨S1024x2048, .bf16⟩
  | .local _ .vmem, ⟨1, _⟩ => ⟨S1024x2048, .bf16⟩
  | .local _ .vmem, ⟨2, _⟩ => ⟨S1x2048x1024, .f32⟩
  | .local _ .vmem, ⟨3, _⟩ => ⟨S1x2048x1024, .f32⟩
  | .local _ .vmem, ⟨4, _⟩ => ⟨S1024x1024, .f32⟩
  | .local _ .vmem, ⟨5, _⟩ => ⟨S1024x1024, .f32⟩
  | .local _ .vmem, ⟨6, _⟩ => ⟨S2048x1024, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![11, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  let c0_i32_2 : BitVec 32 := 0#32
  ![c0_i32_0.toNat, c0_i32_1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference5Ideal.lean ====
abbrev S8192x2048 : Shape := ⟨2, ![8192, 2048]⟩
abbrev S2x2048x11264 : Shape := ⟨3, ![2, 2048, 11264]⟩
abbrev S1x2048x11264 : Shape := ⟨3, ![1, 2048, 11264]⟩
abbrev S2048x11264 : Shape := ⟨2, ![2048, 11264]⟩
abbrev S8192x11264 : Shape := ⟨2, ![8192, 11264]⟩

abbrev nBuf : Space → Nat
  | .hbm => 6
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2x2048x11264, .f32⟩
  | .hbm, ⟨2, _⟩ => ⟨S8192x2048, .f32⟩
  | .hbm, ⟨3, _⟩ => ⟨S1x2048x11264, .f32⟩
  | .hbm, ⟨4, _⟩ => ⟨S2048x11264, .f32⟩
  | .hbm, ⟨5, _⟩ => ⟨S8192x11264, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel6.lean ====
abbrev S8192x5632 : Shape := ⟨2, ![8192, 5632]⟩
abbrev S2x5632x2048 : Shape := ⟨3, ![2, 5632, 2048]⟩
abbrev S8192x2048 : Shape := ⟨2, ![8192, 2048]⟩
abbrev S512x5632 : Shape := ⟨2, ![512, 5632]⟩
abbrev S1x5632x512 : Shape := ⟨3, ![1, 5632, 512]⟩
abbrev S512x512 : Shape := ⟨2, ![512, 512]⟩
abbrev S5632x512 : Shape := ⟨2, ![5632, 512]⟩

abbrev nBuf : Space → Nat
  | .hbm => 4
  | .vmem => 9
  | .smem => 0
  | _ => 0

abbrev bufTy : (tb : Table) → Fin (tcTables nBuf tb) → BufTy
  | .hbm, ⟨0, _⟩ => ⟨S8192x5632, .bf16⟩
  | .hbm, ⟨1, _⟩ => ⟨S2x5632x2048, .f32⟩
  | .hbm, ⟨2, _⟩ => ⟨S8192x2048, .f32⟩
  | .hbm, ⟨3, _⟩ => ⟨S8192x2048, .f32⟩
  | .local _ .vmem, ⟨0, _⟩ => ⟨S512x5632, .bf16⟩
  | .local _ .vmem, ⟨1, _⟩ => ⟨S512x5632, .bf16⟩
  | .local _ .vmem, ⟨2, _⟩ => ⟨S1x5632x512, .f32⟩
  | .local _ .vmem, ⟨3, _⟩ => ⟨S1x5632x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S5632x512, .bf16⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  let c0_i32_2 : BitVec 32 := 0#32
  ![c0_i32_0.toNat, c0_i32_1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x5632x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference6Ideal.lean ====
abbrev S8192x5632 : Shape := ⟨2, ![8192, 5632]⟩
abbrev S2x5632x2048 : Shape := ⟨3, ![2, 5632, 2048]⟩
abbrev S8192x2048 : Shape := ⟨2, ![8192, 2048]⟩
abbrev S1x5632x2048 : Shape := ⟨3, ![1, 5632, 2048]⟩
abbrev S5632x2048 : Shape := ⟨2, ![5632, 2048]⟩

abbrev nBuf : Space → Nat
  | .hbm => 8
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S2x5632x2048, .f32⟩
  | .hbm, ⟨2, _⟩ => ⟨S8192x2048, .f32⟩
  | .hbm, ⟨3, _⟩ => ⟨S8192x5632, .f32⟩
  | .hbm, ⟨4, _⟩ => ⟨S1x5632x2048, .f32⟩
  | .hbm, ⟨5, _⟩ => ⟨S5632x2048, .f32⟩
  | .hbm, ⟨6, _⟩ => ⟨S8192x2048, .f32⟩
  | .hbm, ⟨7, _⟩ => ⟨S8192x2048, .f32⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel7.lean ====
abbrev S8192x2048 : Shape := ⟨2, ![8192, 2048]⟩
abbrev S2x2048x2048 : Shape := ⟨3, ![2, 2048, 2048]⟩
abbrev S1024x2048 : Shape := ⟨2, ![1024, 2048]⟩
abbrev S1x2048x1024 : Shape := ⟨3, ![1, 2048, 1024]⟩
abbrev S1024x1024 : Shape := ⟨2, ![1024, 1024]⟩
abbrev S2048x1024 : Shape := ⟨2, ![2048, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S2x2048x2048, .f32⟩
  | .hbm, ⟨2, _⟩ => ⟨S8192x2048, .bf16⟩
  | .local _ .vmem, ⟨0, _⟩ => ⟨S1024x2048, .bf16⟩
  | .local _ .vmem, ⟨1, _⟩ => ⟨S1024x2048, .bf16⟩
  | .local _ .vmem, ⟨2, _⟩ => ⟨S1x2048x1024, .f32⟩
  | .local _ .vmem, ⟨3, _⟩ => ⟨S1x2048x1024, .f32⟩
  | .local _ .vmem, ⟨4, _⟩ => ⟨S1024x1024, .bf16⟩
  | .local _ .vmem, ⟨5, _⟩ => ⟨S1024x1024, .bf16⟩
  | .local _ .vmem, ⟨6, _⟩ => ⟨S2048x1024, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  let c0_i32_2 : BitVec 32 := 0#32
  ![c0_i32_0.toNat, c0_i32_1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference7Ideal.lean ====
abbrev S8192x2048 : Shape := ⟨2, ![8192, 2048]⟩
abbrev S2x2048x2048 : Shape := ⟨3, ![2, 2048, 2048]⟩
abbrev S1x2048x2048 : Shape := ⟨3, ![1, 2048, 2048]⟩
abbrev S2048x2048 : Shape := ⟨2, ![2048, 2048]⟩

abbrev nBuf : Space → Nat
  | .hbm => 7
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2x2048x2048, .f32⟩
  | .hbm, ⟨2, _⟩ => ⟨S8192x2048, .f32⟩
  | .hbm, ⟨3, _⟩ => ⟨S1x2048x2048, .f32⟩
  | .hbm, ⟨4, _⟩ => ⟨S2048x2048, .f32⟩
  | .hbm, ⟨5, _⟩ => ⟨S8192x2048, .f32⟩
  | .hbm, ⟨6, _⟩ => ⟨S8192x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel8.lean ====
abbrev S8192x2048 : Shape := ⟨2, ![8192, 2048]⟩
abbrev S2x2048x2048 : Shape := ⟨3, ![2, 2048, 2048]⟩
abbrev S8192x6144 : Shape := ⟨2, ![8192, 6144]⟩
abbrev S256x2048 : Shape := ⟨2, ![256, 2048]⟩
abbrev S1x2048x512 : Shape := ⟨3, ![1, 2048, 512]⟩
abbrev S256x512 : Shape := ⟨2, ![256, 512]⟩
abbrev S2048x512 : Shape := ⟨2, ![2048, 512]⟩

abbrev nBuf : Space → Nat
  | .hbm => 8
  | .vmem => 23
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S8192x2048, .bf16⟩
  | .hbm, ⟨3, _⟩ => ⟨S2x2048x2048, .f32⟩
  | .hbm, ⟨4, _⟩ => ⟨S2x2048x2048, .f32⟩
  | .hbm, ⟨5, _⟩ => ⟨S2x2048x2048, .f32⟩
  | .hbm, ⟨6, _⟩ => ⟨S8192x6144, .f32⟩
  | .hbm, ⟨7, _⟩ => ⟨S8192x2048, .bf16⟩
  | .local _ .vmem, ⟨0, _⟩ => ⟨S256x2048, .bf16⟩
  | .local _ .vmem, ⟨1, _⟩ => ⟨S256x2048, .bf16⟩
  | .local _ .vmem, ⟨2, _⟩ => ⟨S256x2048, .bf16⟩
  | .local _ .vmem, ⟨3, _⟩ => ⟨S256x2048, .bf16⟩
  | .local _ .vmem, ⟨4, _⟩ => ⟨S256x2048, .bf16⟩
  | .local _ .vmem, ⟨5, _⟩ => ⟨S256x2048, .bf16⟩
  | .local _ .vmem, ⟨6, _⟩ => ⟨S1x2048x512, .f32⟩
  | .local _ .vmem, ⟨7, _⟩ => ⟨S1x2048x512, .f32⟩
  | .local _ .vmem, ⟨8, _⟩ => ⟨S1x2048x512, .f32⟩
  | .local _ .vmem, ⟨9, _⟩ => ⟨S1x2048x512, .f32⟩
  | .local _ .vmem, ⟨10, _⟩ => ⟨S1x2048x512, .f32⟩
  | .local _ .vmem, ⟨11, _⟩ => ⟨S1x2048x512, .f32⟩
  | .local _ .vmem, ⟨12, _⟩ => ⟨S256x512, .f32⟩
  | .local _ .vmem, ⟨13, _⟩ => ⟨S256x512, .f32⟩
  | .local _ .vmem, ⟨14, _⟩ => ⟨S256x512, .f32⟩
  | .local _ .vmem, ⟨15, _⟩ => ⟨S256x512, .f32⟩
  | .local _ .vmem, ⟨16, _⟩ => ⟨S256x512, .f32⟩
  | .local _ .vmem, ⟨17, _⟩ => ⟨S256x512, .f32⟩
  | .local _ .vmem, ⟨18, _⟩ => ⟨S256x512, .bf16⟩
  | .local _ .vmem, ⟨19, _⟩ => ⟨S256x512, .bf16⟩
  | .local _ .vmem, ⟨20, _⟩ => ⟨S2048x512, .bf16⟩
  | .local _ .vmem, ⟨21, _⟩ => ⟨S2048x512, .bf16⟩
  | .local _ .vmem, ⟨22, _⟩ => ⟨S2048x512, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_scratch0 : Ref sig .tc := ⟨.vmem, 20, rfl⟩
abbrev cc0_scratch1 : Ref sig .tc := ⟨.vmem, 21, rfl⟩
abbrev cc0_scratch2 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨2, ![4, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_7 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  ![arg1.toNat, v0.toNat]

def cc0_transform_8 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  ![arg1.toNat, v0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x2048x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x2048x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x2048x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S256x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S256x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== Reference8Ideal.lean ====
abbrev S8192x2048 : Shape := ⟨2, ![8192, 2048]⟩
abbrev S2x2048x2048 : Shape := ⟨3, ![2, 2048, 2048]⟩
abbrev S8192x6144 : Shape := ⟨2, ![8192, 6144]⟩
abbrev S1x2048x2048 : Shape := ⟨3, ![1, 2048, 2048]⟩
abbrev S2048x2048 : Shape := ⟨2, ![2048, 2048]⟩
abbrev S_ : Shape := ⟨0, ![]⟩

abbrev nBuf : Space → Nat
  | .hbm => 36
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S8192x2048, .bf16⟩
  | .hbm, ⟨3, _⟩ => ⟨S2x2048x2048, .f32⟩
  | .hbm, ⟨4, _⟩ => ⟨S2x2048x2048, .f32⟩
  | .hbm, ⟨5, _⟩ => ⟨S2x2048x2048, .f32⟩
  | .hbm, ⟨6, _⟩ => ⟨S8192x6144, .f32⟩
  | .hbm, ⟨7, _⟩ => ⟨S8192x2048, .f32⟩
  | .hbm, ⟨8, _⟩ => ⟨S1x2048x2048, .f32⟩
  | .hbm, ⟨9, _⟩ => ⟨S2048x2048, .f32⟩
  | .hbm, ⟨10, _⟩ => ⟨S8192x2048, .f32⟩
  | .hbm, ⟨11, _⟩ => ⟨S8192x2048, .f32⟩
  | .hbm, ⟨12, _⟩ => ⟨S1x2048x2048, .f32⟩
  | .hbm, ⟨13, _⟩ => ⟨S2048x2048, .f32⟩
  | .hbm, ⟨14, _⟩ => ⟨S8192x2048, .f32⟩
  | .hbm, ⟨15, _⟩ => ⟨S8192x2048, .f32⟩
  | .hbm, ⟨16, _⟩ => ⟨S1x2048x2048, .f32⟩
  | .hbm, ⟨17, _⟩ => ⟨S2048x2048, .f32⟩
  | .hbm, ⟨18, _⟩ => ⟨S8192x2048, .f32⟩
  | .hbm, ⟨19, _⟩ => ⟨S8192x6144, .f32⟩
  | .hbm, ⟨20, _⟩ => ⟨S8192x6144, .f32⟩
  | .hbm, ⟨21, _⟩ => ⟨S_, .f32⟩
  | .hbm, ⟨22, _⟩ => ⟨S8192x6144, .f32⟩
  | .hbm, ⟨23, _⟩ => ⟨S8192x6144, .f32⟩
  | .hbm, ⟨24, _⟩ => ⟨S_, .f32⟩
  | .hbm, ⟨25, _⟩ => ⟨S8192x6144, .f32⟩
  | .hbm, ⟨26, _⟩ => ⟨S8192x6144, .f32⟩
  | .hbm, ⟨27, _⟩ => ⟨S8192x2048, .f32⟩
  | .hbm, ⟨28, _⟩ => ⟨S8192x2048, .f32⟩
  | .hbm, ⟨29, _⟩ => ⟨S8192x2048, .f32⟩
  | .hbm, ⟨30, _⟩ => ⟨S8192x2048, .f32⟩
  | .hbm, ⟨31, _⟩ => ⟨S8192x2048, .f32⟩
  | .hbm, ⟨32, _⟩ => ⟨S8192x2048, .f32⟩
  | .hbm, ⟨33, _⟩ => ⟨S8192x2048, .f32⟩
  | .hbm, ⟨34, _⟩ => ⟨S8192x2048, .f32⟩
  | .hbm, ⟨35, _⟩ => ⟨S8192x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst : Ref sig .tc := ⟨.hbm, 21, rfl⟩
abbrev main_v14 : Ref sig .tc := ⟨.hbm, 22, rfl⟩
abbrev main_v15 : Ref sig .tc := ⟨.hbm, 23, rfl⟩
abbrev main_cst_0 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩

abbrev nD : Nat := 1
abbrev τ : Topo := Topo.v7x

variable {F : FTy → Type} [FloatOps F]
-- ==== Kernel9.lean ====
abbrev S8192x2048 : Shape := ⟨2, ![8192, 2048]⟩
abbrev S2x2048x24592 : Shape := ⟨3, ![2, 2048, 24592]⟩
abbrev S2x24592x2048 : Shape := ⟨3, ![2, 24592, 2048]⟩
abbrev S8192x4096 : Shape := ⟨2, ![8192, 4096]⟩
abbrev S1024x2048 : Shape := ⟨2, ![1024, 2048]⟩
abbrev S1x1024x2048 : Shape := ⟨3, ![1, 1024, 2048]⟩
abbrev S1024x1024 : Shape := ⟨2, ![1024, 1024]⟩
abbrev S2048x1024 : Shape := ⟨2, ![2048, 1024]⟩

abbrev nBuf : Space → Nat
  | .hbm => 4
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S2x2048x24592, .f32⟩
  | .hbm, ⟨2, _⟩ => ⟨S2x24592x2048, .f32⟩
  | .hbm, ⟨3, _⟩ => ⟨S8192x4096, .f32⟩
  | .local _ .vmem, ⟨0, _⟩ => ⟨S1024x2048, .bf16⟩
  | .local _ .vmem, ⟨1, _⟩ => ⟨S1024x2048, .bf16⟩
  | .local _ .vmem, ⟨2, _⟩ => ⟨S1x1024x2048, .f32⟩
  | .local _ .vmem, ⟨3, _⟩ => ⟨S1x1024x2048, .f32⟩
  | .local _ .vmem, ⟨4, _⟩ => ⟨S1024x1024, .f32⟩
  | .local _ .vmem, ⟨5, _⟩ => ⟨S1024x1024, .f32⟩
  | .local _ .vmem, ⟨6, _⟩ => ⟨S2048x1024, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  let c0_i32_0 : BitVec 32 := 0#32
  let c0_i32_1 : BitVec 32 := 0#32
  ![c0_i32.toNat, v0.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference9Ideal.lean ====
abbrev S8192x2048 : Shape := ⟨2, ![8192, 2048]⟩
abbrev S2x2048x24592 : Shape := ⟨3, ![2, 2048, 24592]⟩
abbrev S1x2048x24592 : Shape := ⟨3, ![1, 2048, 24592]⟩
abbrev S2048x24592 : Shape := ⟨2, ![2048, 24592]⟩
abbrev S8192x24592 : Shape := ⟨2, ![8192, 24592]⟩
abbrev S8192x4096 : Shape := ⟨2, ![8192, 4096]⟩

abbrev nBuf : Space → Nat
  | .hbm => 7
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2x2048x24592, .f32⟩
  | .hbm, ⟨2, _⟩ => ⟨S8192x2048, .f32⟩
  | .hbm, ⟨3, _⟩ => ⟨S1x2048x24592, .f32⟩
  | .hbm, ⟨4, _⟩ => ⟨S2048x24592, .f32⟩
  | .hbm, ⟨5, _⟩ => ⟨S8192x24592, .f32⟩
  | .hbm, ⟨6, _⟩ => ⟨S8192x4096, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel10.lean ====
abbrev S8192x2048 : Shape := ⟨2, ![8192, 2048]⟩
abbrev S2x2048x24592 : Shape := ⟨3, ![2, 2048, 24592]⟩
abbrev S2x24592x2048 : Shape := ⟨3, ![2, 24592, 2048]⟩
abbrev S1024x2048 : Shape := ⟨2, ![1024, 2048]⟩
abbrev S1x1024x2048 : Shape := ⟨3, ![1, 1024, 2048]⟩
abbrev S1024x1024 : Shape := ⟨2, ![1024, 1024]⟩
abbrev S2048x1024 : Shape := ⟨2, ![2048, 1024]⟩

abbrev nBuf : Space → Nat
  | .hbm => 4
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S2x2048x24592, .f32⟩
  | .hbm, ⟨2, _⟩ => ⟨S2x24592x2048, .f32⟩
  | .hbm, ⟨3, _⟩ => ⟨S8192x2048, .f32⟩
  | .local _ .vmem, ⟨0, _⟩ => ⟨S1024x2048, .bf16⟩
  | .local _ .vmem, ⟨1, _⟩ => ⟨S1024x2048, .bf16⟩
  | .local _ .vmem, ⟨2, _⟩ => ⟨S1x1024x2048, .f32⟩
  | .local _ .vmem, ⟨3, _⟩ => ⟨S1x1024x2048, .f32⟩
  | .local _ .vmem, ⟨4, _⟩ => ⟨S1024x1024, .f32⟩
  | .local _ .vmem, ⟨5, _⟩ => ⟨S1024x1024, .f32⟩
  | .local _ .vmem, ⟨6, _⟩ => ⟨S2048x1024, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c12_i32 : BitVec 32 := 12#32
  let v0 : BitVec 32 := Scalar.addi c12_i32 arg0
  let c0_i32 : BitVec 32 := 0#32
  let c0_i32_0 : BitVec 32 := 0#32
  let c0_i32_1 : BitVec 32 := 0#32
  ![c0_i32.toNat, v0.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference10Ideal.lean ====
abbrev S8192x2048 : Shape := ⟨2, ![8192, 2048]⟩
abbrev S2x2048x24592 : Shape := ⟨3, ![2, 2048, 24592]⟩
abbrev S1x2048x24592 : Shape := ⟨3, ![1, 2048, 24592]⟩
abbrev S2048x24592 : Shape := ⟨2, ![2048, 24592]⟩
abbrev S8192x24592 : Shape := ⟨2, ![8192, 24592]⟩

abbrev nBuf : Space → Nat
  | .hbm => 7
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2x2048x24592, .f32⟩
  | .hbm, ⟨2, _⟩ => ⟨S8192x2048, .f32⟩
  | .hbm, ⟨3, _⟩ => ⟨S1x2048x24592, .f32⟩
  | .hbm, ⟨4, _⟩ => ⟨S2048x24592, .f32⟩
  | .hbm, ⟨5, _⟩ => ⟨S8192x24592, .f32⟩
  | .hbm, ⟨6, _⟩ => ⟨S8192x2048, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel11.lean ====
abbrev S8192x2048 : Shape := ⟨2, ![8192, 2048]⟩
abbrev S2x2048x24592 : Shape := ⟨3, ![2, 2048, 24592]⟩
abbrev S2x24592x2048 : Shape := ⟨3, ![2, 24592, 2048]⟩
abbrev S1024x2048 : Shape := ⟨2, ![1024, 2048]⟩
abbrev S1x1024x2048 : Shape := ⟨3, ![1, 1024, 2048]⟩
abbrev S1024x1024 : Shape := ⟨2, ![1024, 1024]⟩
abbrev S2048x1024 : Shape := ⟨2, ![2048, 1024]⟩

abbrev nBuf : Space → Nat
  | .hbm => 4
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S2x2048x24592, .f32⟩
  | .hbm, ⟨2, _⟩ => ⟨S2x24592x2048, .f32⟩
  | .hbm, ⟨3, _⟩ => ⟨S8192x2048, .f32⟩
  | .local _ .vmem, ⟨0, _⟩ => ⟨S1024x2048, .bf16⟩
  | .local _ .vmem, ⟨1, _⟩ => ⟨S1024x2048, .bf16⟩
  | .local _ .vmem, ⟨2, _⟩ => ⟨S1x1024x2048, .f32⟩
  | .local _ .vmem, ⟨3, _⟩ => ⟨S1x1024x2048, .f32⟩
  | .local _ .vmem, ⟨4, _⟩ => ⟨S1024x1024, .f32⟩
  | .local _ .vmem, ⟨5, _⟩ => ⟨S1024x1024, .f32⟩
  | .local _ .vmem, ⟨6, _⟩ => ⟨S2048x1024, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c14_i32 : BitVec 32 := 14#32
  let v0 : BitVec 32 := Scalar.addi c14_i32 arg0
  let c0_i32 : BitVec 32 := 0#32
  let c0_i32_0 : BitVec 32 := 0#32
  let c0_i32_1 : BitVec 32 := 0#32
  ![c0_i32.toNat, v0.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference11Ideal.lean ====
abbrev S8192x2048 : Shape := ⟨2, ![8192, 2048]⟩
abbrev S2x2048x24592 : Shape := ⟨3, ![2, 2048, 24592]⟩
abbrev S1x2048x24592 : Shape := ⟨3, ![1, 2048, 24592]⟩
abbrev S2048x24592 : Shape := ⟨2, ![2048, 24592]⟩
abbrev S8192x24592 : Shape := ⟨2, ![8192, 24592]⟩

abbrev nBuf : Space → Nat
  | .hbm => 7
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2x2048x24592, .f32⟩
  | .hbm, ⟨2, _⟩ => ⟨S8192x2048, .f32⟩
  | .hbm, ⟨3, _⟩ => ⟨S1x2048x24592, .f32⟩
  | .hbm, ⟨4, _⟩ => ⟨S2048x24592, .f32⟩
  | .hbm, ⟨5, _⟩ => ⟨S8192x24592, .f32⟩
  | .hbm, ⟨6, _⟩ => ⟨S8192x2048, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel12.lean ====
abbrev S8192x2048 : Shape := ⟨2, ![8192, 2048]⟩
abbrev S2x2048x24592 : Shape := ⟨3, ![2, 2048, 24592]⟩
abbrev S2x24592x2048 : Shape := ⟨3, ![2, 24592, 2048]⟩
abbrev S1024x2048 : Shape := ⟨2, ![1024, 2048]⟩
abbrev S1x1024x2048 : Shape := ⟨3, ![1, 1024, 2048]⟩
abbrev S1024x1024 : Shape := ⟨2, ![1024, 1024]⟩
abbrev S2048x1024 : Shape := ⟨2, ![2048, 1024]⟩

abbrev nBuf : Space → Nat
  | .hbm => 4
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S2x2048x24592, .f32⟩
  | .hbm, ⟨2, _⟩ => ⟨S2x24592x2048, .f32⟩
  | .hbm, ⟨3, _⟩ => ⟨S8192x2048, .f32⟩
  | .local _ .vmem, ⟨0, _⟩ => ⟨S1024x2048, .bf16⟩
  | .local _ .vmem, ⟨1, _⟩ => ⟨S1024x2048, .bf16⟩
  | .local _ .vmem, ⟨2, _⟩ => ⟨S1x1024x2048, .f32⟩
  | .local _ .vmem, ⟨3, _⟩ => ⟨S1x1024x2048, .f32⟩
  | .local _ .vmem, ⟨4, _⟩ => ⟨S1024x1024, .f32⟩
  | .local _ .vmem, ⟨5, _⟩ => ⟨S1024x1024, .f32⟩
  | .local _ .vmem, ⟨6, _⟩ => ⟨S2048x1024, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg0
  let c0_i32 : BitVec 32 := 0#32
  let c0_i32_0 : BitVec 32 := 0#32
  let c0_i32_1 : BitVec 32 := 0#32
  ![c0_i32.toNat, v0.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference12Ideal.lean ====
abbrev S8192x2048 : Shape := ⟨2, ![8192, 2048]⟩
abbrev S2x2048x24592 : Shape := ⟨3, ![2, 2048, 24592]⟩
abbrev S1x2048x24592 : Shape := ⟨3, ![1, 2048, 24592]⟩
abbrev S2048x24592 : Shape := ⟨2, ![2048, 24592]⟩
abbrev S8192x24592 : Shape := ⟨2, ![8192, 24592]⟩

abbrev nBuf : Space → Nat
  | .hbm => 7
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2x2048x24592, .f32⟩
  | .hbm, ⟨2, _⟩ => ⟨S8192x2048, .f32⟩
  | .hbm, ⟨3, _⟩ => ⟨S1x2048x24592, .f32⟩
  | .hbm, ⟨4, _⟩ => ⟨S2048x24592, .f32⟩
  | .hbm, ⟨5, _⟩ => ⟨S8192x24592, .f32⟩
  | .hbm, ⟨6, _⟩ => ⟨S8192x2048, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel13.lean ====
abbrev S1024x2048 : Shape := ⟨2, ![1024, 2048]⟩
abbrev S2x2048x2048 : Shape := ⟨3, ![2, 2048, 2048]⟩
abbrev S1x2048x1024 : Shape := ⟨3, ![1, 2048, 1024]⟩
abbrev S1024x1024 : Shape := ⟨2, ![1024, 1024]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S1024x2048, .bf16⟩
  | .hbm, ⟨1, _⟩ => ⟨S2x2048x2048, .f32⟩
  | .hbm, ⟨2, _⟩ => ⟨S1024x2048, .f32⟩
  | .local _ .vmem, ⟨0, _⟩ => ⟨S1024x2048, .bf16⟩
  | .local _ .vmem, ⟨1, _⟩ => ⟨S1x2048x1024, .f32⟩
  | .local _ .vmem, ⟨2, _⟩ => ⟨S1x2048x1024, .f32⟩
  | .local _ .vmem, ⟨3, _⟩ => ⟨S1024x1024, .f32⟩
  | .local _ .vmem, ⟨4, _⟩ => ⟨S1024x1024, .f32⟩
  | .local _ .vmem, ⟨5, _⟩ => ⟨S2048x1024, .bf16⟩
  | _, _ => ⟨S1024x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![2, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  let c0_i32_2 : BitVec 32 := 0#32
  ![c0_i32_0.toNat, c0_i32_1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 1 → Memref sig .tc .vmem S1024x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true]

abbrev stage0_1 : Fin 2 → Memref sig .tc .vmem S1x2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference13Ideal.lean ====
abbrev S1024x2048 : Shape := ⟨2, ![1024, 2048]⟩
abbrev S2x2048x2048 : Shape := ⟨3, ![2, 2048, 2048]⟩
abbrev S1x2048x2048 : Shape := ⟨3, ![1, 2048, 2048]⟩
abbrev S2048x2048 : Shape := ⟨2, ![2048, 2048]⟩

abbrev nBuf : Space → Nat
  | .hbm => 6
  | .vmem => 0
  | .smem => 0
  | _ => 0

abbrev bufTy : (tb : Table) → Fin (tcTables nBuf tb) → BufTy
  | .hbm, ⟨0, _⟩ => ⟨S1024x2048, .bf16⟩
  | .hbm, ⟨1, _⟩ => ⟨S2x2048x2048, .f32⟩
  | .hbm, ⟨2, _⟩ => ⟨S1024x2048, .f32⟩
  | .hbm, ⟨3, _⟩ => ⟨S1x2048x2048, .f32⟩
  | .hbm, ⟨4, _⟩ => ⟨S2048x2048, .f32⟩
  | .hbm, ⟨5, _⟩ => ⟨S1024x2048, .f32⟩
  | _, _ => ⟨S1024x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel14.lean ====
abbrev S8192x2048 : Shape := ⟨2, ![8192, 2048]⟩
abbrev S2048 : Shape := ⟨1, ![2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 4
  | .vmem => 5
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S1x2048, .f32⟩
  | .hbm, ⟨3, _⟩ => ⟨S8192x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x2048, .f32⟩
  | .local _ .vmem, ⟨4, _⟩ => ⟨S512x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference14Ideal.lean ====
abbrev S8192x2048 : Shape := ⟨2, ![8192, 2048]⟩
abbrev S2048 : Shape := ⟨1, ![2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩

abbrev nBuf : Space → Nat
  | .hbm => 18
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S8192x2048, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S_, .f32⟩
  | .hbm, ⟨7, _⟩ => ⟨S8192x1, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S8192x1, .f32⟩
  | .hbm, ⟨13, _⟩ => ⟨S8192x2048, .f32⟩
  | .hbm, ⟨14, _⟩ => ⟨S8192x2048, .f32⟩
  | .hbm, ⟨15, _⟩ => ⟨S1x2048, .f32⟩
  | .hbm, ⟨16, _⟩ => ⟨S8192x2048, .f32⟩
  | .hbm, ⟨17, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Kernel15.lean ====
abbrev S8192x2048 : Shape := ⟨2, ![8192, 2048]⟩
abbrev S4x256x2048 : Shape := ⟨3, ![4, 256, 2048]⟩
abbrev S512x2048 : Shape := ⟨2, ![512, 2048]⟩
abbrev S1x256x2048 : Shape := ⟨3, ![1, 256, 2048]⟩
abbrev S512x512 : Shape := ⟨2, ![512, 512]⟩
abbrev S1x256x512 : Shape := ⟨3, ![1, 256, 512]⟩
abbrev S256x512 : Shape := ⟨2, ![256, 512]⟩
abbrev S512x256 : Shape := ⟨2, ![512, 256]⟩
abbrev S512 : Shape := ⟨1, ![512]⟩
abbrev S512x1 : Shape := ⟨2, ![512, 1]⟩

abbrev nBuf : Space → Nat
  | .hbm => 4
  | .vmem => 8
  | .smem => 0
  | _ => 0

abbrev bufTy : (tb : Table) → Fin (tcTables nBuf tb) → BufTy
  | .hbm, ⟨0, _⟩ => ⟨S8192x2048, .bf16⟩
  | .hbm, ⟨1, _⟩ => ⟨S4x256x2048, .f32⟩
  | .hbm, ⟨2, _⟩ => ⟨S4x256x2048, .f32⟩
  | .hbm, ⟨3, _⟩ => ⟨S8192x2048, .bf16⟩
  | .local _ .vmem, ⟨0, _⟩ => ⟨S512x2048, .bf16⟩
  | .local _ .vmem, ⟨1, _⟩ => ⟨S512x2048, .bf16⟩
  | .local _ .vmem, ⟨2, _⟩ => ⟨S1x256x2048, .f32⟩
  | .local _ .vmem, ⟨3, _⟩ => ⟨S1x256x2048, .f32⟩
  | .local _ .vmem, ⟨4, _⟩ => ⟨S1x256x2048, .f32⟩
  | .local _ .vmem, ⟨5, _⟩ => ⟨S1x256x2048, .f32⟩
  | .local _ .vmem, ⟨6, _⟩ => ⟨S512x2048, .bf16⟩
  | .local _ .vmem, ⟨7, _⟩ => ⟨S512x2048, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference15Ideal.lean ====
abbrev S8192x2048 : Shape := ⟨2, ![8192, 2048]⟩
abbrev S4x256x2048 : Shape := ⟨3, ![4, 256, 2048]⟩
abbrev S4x2048x4x512 : Shape := ⟨4, ![4, 2048, 4, 512]⟩
abbrev S4x256x4x512 : Shape := ⟨4, ![4, 256, 4, 512]⟩
abbrev S4x4x2048x256 : Shape := ⟨4, ![4, 4, 2048, 256]⟩
abbrev S_ : Shape := ⟨0, ![]⟩
abbrev S4x4x2048 : Shape := ⟨3, ![4, 4, 2048]⟩
abbrev S4x4x2048x1 : Shape := ⟨4, ![4, 4, 2048, 1]⟩
abbrev S4x4x512x2048 : Shape := ⟨4, ![4, 4, 512, 2048]⟩

abbrev nBuf : Space → Nat
  | .hbm => 29
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S4x256x2048, .f32⟩
  | .hbm, ⟨2, _⟩ => ⟨S4x256x2048, .f32⟩
  | .hbm, ⟨3, _⟩ => ⟨S8192x2048, .f32⟩
  | .hbm, ⟨4, _⟩ => ⟨S4x2048x4x512, .f32⟩
  | .hbm, ⟨5, _⟩ => ⟨S4x256x4x512, .f32⟩
  | .hbm, ⟨6, _⟩ => ⟨S4x256x4x512, .f32⟩
  | .hbm, ⟨7, _⟩ => ⟨S4x4x2048x256, .f32⟩
  | .hbm, ⟨8, _⟩ => ⟨S_, .f32⟩
  | .hbm, ⟨9, _⟩ => ⟨S4x4x2048x256, .f32⟩
  | .hbm, ⟨10, _⟩ => ⟨S4x4x2048x256, .f32⟩
  | .hbm, ⟨11, _⟩ => ⟨S_, .f32⟩
  | .hbm, ⟨12, _⟩ => ⟨S4x4x2048, .f32⟩
  | .hbm, ⟨13, _⟩ => ⟨S_, .f32⟩
  | .hbm, ⟨14, _⟩ => ⟨S4x4x2048, .f32⟩
  | .hbm, ⟨15, _⟩ => ⟨S4x4x2048, .f32⟩
  | .hbm, ⟨16, _⟩ => ⟨S4x4x2048x1, .f32⟩
  | .hbm, ⟨17, _⟩ => ⟨S4x4x2048x256, .f32⟩
  | .hbm, ⟨18, _⟩ => ⟨S4x4x2048x256, .f32⟩
  | .hbm, ⟨19, _⟩ => ⟨S4x4x2048x256, .f32⟩
  | .hbm, ⟨20, _⟩ => ⟨S_, .f32⟩
  | .hbm, ⟨21, _⟩ => ⟨S4x4x2048, .f32⟩
  | .hbm, ⟨22, _⟩ => ⟨S4x4x2048x1, .f32⟩
  | .hbm, ⟨23, _⟩ => ⟨S4x4x2048x256, .f32⟩
  | .hbm, ⟨24, _⟩ => ⟨S4x4x2048x256, .f32⟩
  | .hbm, ⟨25, _⟩ => ⟨S4x4x512x2048, .f32⟩
  | .hbm, ⟨26, _⟩ => ⟨S4x2048x4x512, .f32⟩
  | .hbm, ⟨27, _⟩ => ⟨S8192x2048, .f32⟩
  | .hbm, ⟨28, _⟩ => ⟨S8192x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_2 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩

abbrev nD : Nat := 1
abbrev τ : Topo := Topo.v7x

variable {F : FTy → Type} [FloatOps F]
-- ==== Kernel16.lean ====
abbrev S8192x11264 : Shape := ⟨2, ![8192, 11264]⟩
abbrev S4x2x5632 : Shape := ⟨3, ![4, 2, 5632]⟩
abbrev S3x5632 : Shape := ⟨2, ![3, 5632]⟩
abbrev S5632 : Shape := ⟨1, ![5632]⟩
abbrev S1x5632 : Shape := ⟨2, ![1, 5632]⟩
abbrev S8192x5632 : Shape := ⟨2, ![8192, 5632]⟩
abbrev S2048x512 : Shape := ⟨2, ![2048, 512]⟩
abbrev S1x2x512 : Shape := ⟨3, ![1, 2, 512]⟩
abbrev S3x512 : Shape := ⟨2, ![3, 512]⟩
abbrev S1x512 : Shape := ⟨2, ![1, 512]⟩
abbrev S2056x512 : Shape := ⟨2, ![2056, 512]⟩
abbrev S3x2048x512 : Shape := ⟨3, ![3, 2048, 512]⟩
abbrev S2x512 : Shape := ⟨2, ![2, 512]⟩
abbrev S1x2048x512 : Shape := ⟨3, ![1, 2048, 512]⟩

abbrev nBuf : Space → Nat
  | .hbm => 7
  | .vmem => 16
  | .smem => 0
  | _ => 0

abbrev bufTy : (tb : Table) → Fin (tcTables nBuf tb) → BufTy
  | .hbm, ⟨0, _⟩ => ⟨S8192x11264, .f32⟩
  | .hbm, ⟨1, _⟩ => ⟨S4x2x5632, .f32⟩
  | .hbm, ⟨2, _⟩ => ⟨S3x5632, .f32⟩
  | .hbm, ⟨3, _⟩ => ⟨S5632, .f32⟩
  | .hbm, ⟨4, _⟩ => ⟨S1x5632, .f32⟩
  | .hbm, ⟨5, _⟩ => ⟨S8192x5632, .bf16⟩
  | .hbm, ⟨6, _⟩ => ⟨S4x2x5632, .f32⟩
  | .local _ .vmem, ⟨0, _⟩ => ⟨S2048x512, .f32⟩
  | .local _ .vmem, ⟨1, _⟩ => ⟨S2048x512, .f32⟩
  | .local _ .vmem, ⟨2, _⟩ => ⟨S2048x512, .f32⟩
  | .local _ .vmem, ⟨3, _⟩ => ⟨S2048x512, .f32⟩
  | .local _ .vmem, ⟨4, _⟩ => ⟨S1x2x512, .f32⟩
  | .local _ .vmem, ⟨5, _⟩ => ⟨S1x2x512, .f32⟩
  | .local _ .vmem, ⟨6, _⟩ => ⟨S3x512, .f32⟩
  | .local _ .vmem, ⟨7, _⟩ => ⟨S3x512, .f32⟩
  | .local _ .vmem, ⟨8, _⟩ => ⟨S1x512, .f32⟩
  | .local _ .vmem, ⟨9, _⟩ => ⟨S1x512, .f32⟩
  | .local _ .vmem, ⟨10, _⟩ => ⟨S2048x512, .bf16⟩
  | .local _ .vmem, ⟨11, _⟩ => ⟨S2048x512, .bf16⟩
  | .local _ .vmem, ⟨12, _⟩ => ⟨S1x2x512, .f32⟩
  | .local _ .vmem, ⟨13, _⟩ => ⟨S1x2x512, .f32⟩
  | .local _ .vmem, ⟨14, _⟩ => ⟨S2056x512, .f32⟩
  | .local _ .vmem, ⟨15, _⟩ => ⟨S3x2048x512, .f32⟩
  | _, _ => ⟨S8192x11264, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![4, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi c11_i32 arg1
  let c0_i32 : BitVec 32 := 0#32
  ![arg0.toNat, v0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S3x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S2048x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x2x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference16Ideal.lean ====
abbrev S8192x11264 : Shape := ⟨2, ![8192, 11264]⟩
abbrev S4x2x5632 : Shape := ⟨3, ![4, 2, 5632]⟩
abbrev S3x5632 : Shape := ⟨2, ![3, 5632]⟩
abbrev S5632 : Shape := ⟨1, ![5632]⟩
abbrev S8192x5632 : Shape := ⟨2, ![8192, 5632]⟩
abbrev S4x2048x5632 : Shape := ⟨3, ![4, 2048, 5632]⟩
abbrev S4x2050x5632 : Shape := ⟨3, ![4, 2050, 5632]⟩
abbrev S1x5632 : Shape := ⟨2, ![1, 5632]⟩
abbrev S1x1x5632 : Shape := ⟨3, ![1, 1, 5632]⟩
abbrev S_ : Shape := ⟨0, ![]⟩

abbrev nBuf : Space → Nat
  | .hbm => 45
  | .vmem => 0
  | .smem => 0
  | _ => 0

abbrev bufTy : (tb : Table) → Fin (tcTables nBuf tb) → BufTy
  | .hbm, ⟨0, _⟩ => ⟨S8192x11264, .f32⟩
  | .hbm, ⟨1, _⟩ => ⟨S4x2x5632, .f32⟩
  | .hbm, ⟨2, _⟩ => ⟨S3x5632, .f32⟩
  | .hbm, ⟨3, _⟩ => ⟨S5632, .f32⟩
  | .hbm, ⟨4, _⟩ => ⟨S8192x5632, .f32⟩
  | .hbm, ⟨5, _⟩ => ⟨S4x2048x5632, .f32⟩
  | .hbm, ⟨6, _⟩ => ⟨S8192x5632, .f32⟩
  | .hbm, ⟨7, _⟩ => ⟨S4x2048x5632, .f32⟩
  | .hbm, ⟨8, _⟩ => ⟨S4x2050x5632, .f32⟩
  | .hbm, ⟨9, _⟩ => ⟨S1x5632, .f32⟩
  | .hbm, ⟨10, _⟩ => ⟨S5632, .f32⟩
  | .hbm, ⟨11, _⟩ => ⟨S4x2048x5632, .f32⟩
  | .hbm, ⟨12, _⟩ => ⟨S1x1x5632, .f32⟩
  | .hbm, ⟨13, _⟩ => ⟨S4x2048x5632, .f32⟩
  | .hbm, ⟨14, _⟩ => ⟨S4x2048x5632, .f32⟩
  | .hbm, ⟨15, _⟩ => ⟨S1x5632, .f32⟩
  | .hbm, ⟨16, _⟩ => ⟨S5632, .f32⟩
  | .hbm, ⟨17, _⟩ => ⟨S4x2048x5632, .f32⟩
  | .hbm, ⟨18, _⟩ => ⟨S1x1x5632, .f32⟩
  | .hbm, ⟨19, _⟩ => ⟨S4x2048x5632, .f32⟩
  | .hbm, ⟨20, _⟩ => ⟨S4x2048x5632, .f32⟩
  | .hbm, ⟨21, _⟩ => ⟨S4x2048x5632, .f32⟩
  | .hbm, ⟨22, _⟩ => ⟨S1x5632, .f32⟩
  | .hbm, ⟨23, _⟩ => ⟨S5632, .f32⟩
  | .hbm, ⟨24, _⟩ => ⟨S4x2048x5632, .f32⟩
  | .hbm, ⟨25, _⟩ => ⟨S1x1x5632, .f32⟩
  | .hbm, ⟨26, _⟩ => ⟨S4x2048x5632, .f32⟩
  | .hbm, ⟨27, _⟩ => ⟨S4x2048x5632, .f32⟩
  | .hbm, ⟨28, _⟩ => ⟨S4x2048x5632, .f32⟩
  | .hbm, ⟨29, _⟩ => ⟨S1x1x5632, .f32⟩
  | .hbm, ⟨30, _⟩ => ⟨S4x2048x5632, .f32⟩
  | .hbm, ⟨31, _⟩ => ⟨S4x2048x5632, .f32⟩
  | .hbm, ⟨32, _⟩ => ⟨S4x2048x5632, .f32⟩
  | .hbm, ⟨33, _⟩ => ⟨S4x2048x5632, .f32⟩
  | .hbm, ⟨34, _⟩ => ⟨S_, .f32⟩
  | .hbm, ⟨35, _⟩ => ⟨S4x2048x5632, .f32⟩
  | .hbm, ⟨36, _⟩ => ⟨S4x2048x5632, .f32⟩
  | .hbm, ⟨37, _⟩ => ⟨S_, .f32⟩
  | .hbm, ⟨38, _⟩ => ⟨S4x2048x5632, .f32⟩
  | .hbm, ⟨39, _⟩ => ⟨S4x2048x5632, .f32⟩
  | .hbm, ⟨40, _⟩ => ⟨S4x2048x5632, .f32⟩
  | .hbm, ⟨41, _⟩ => ⟨S4x2048x5632, .f32⟩
  | .hbm, ⟨42, _⟩ => ⟨S8192x5632, .f32⟩
  | .hbm, ⟨43, _⟩ => ⟨S8192x5632, .bf16⟩
  | .hbm, ⟨44, _⟩ => ⟨S4x2x5632, .f32⟩
  | _, _ => ⟨S8192x11264, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_call0_v0 : Ref sig .tc := ⟨.hbm, 32, rfl⟩
abbrev main_call0_v1 : Ref sig .tc := ⟨.hbm, 33, rfl⟩
abbrev main_call0_cst : Ref sig .tc := ⟨.hbm, 34, rfl⟩
abbrev main_call0_v2 : Ref sig .tc := ⟨.hbm, 35, rfl⟩
abbrev main_call0_v3 : Ref sig .tc := ⟨.hbm, 36, rfl⟩
abbrev main_call0_cst_0 : Ref sig .tc := ⟨.hbm, 37, rfl⟩
abbrev main_call0_v4 : Ref sig .tc := ⟨.hbm, 38, rfl⟩
abbrev main_call0_v5 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩

abbrev nD : Nat := 1
abbrev τ : Topo := Topo.v7x

variable {F : FTy → Type} [FloatOps F]
-- ==== Kernel17.lean ====
abbrev S8192x2048 : Shape := ⟨2, ![8192, 2048]⟩
abbrev S2x2048x24592 : Shape := ⟨3, ![2, 2048, 24592]⟩
abbrev S1x128 : Shape := ⟨2, ![1, 128]⟩
abbrev S2x24592x2048 : Shape := ⟨3, ![2, 24592, 2048]⟩
abbrev S8192x128 : Shape := ⟨2, ![8192, 128]⟩
abbrev S256x2048 : Shape := ⟨2, ![256, 2048]⟩
abbrev S1x128x2048 : Shape := ⟨3, ![1, 128, 2048]⟩
abbrev S256x128 : Shape := ⟨2, ![256, 128]⟩
abbrev S128x2048 : Shape := ⟨2, ![128, 2048]⟩
abbrev S256x256 : Shape := ⟨2, ![256, 256]⟩

abbrev nBuf : Space → Nat
  | .hbm => 6
  | .vmem => 9
  | .smem => 0
  | _ => 0

abbrev bufTy : (tb : Table) → Fin (tcTables nBuf tb) → BufTy
  | .hbm, ⟨0, _⟩ => ⟨S8192x2048, .bf16⟩
  | .hbm, ⟨1, _⟩ => ⟨S2x2048x24592, .f32⟩
  | .hbm, ⟨2, _⟩ => ⟨S1x128, .f32⟩
  | .hbm, ⟨3, _⟩ => ⟨S2x24592x2048, .f32⟩
  | .hbm, ⟨4, _⟩ => ⟨S8192x128, .f32⟩
  | .hbm, ⟨5, _⟩ => ⟨S8192x128, .f32⟩
  | .local _ .vmem, ⟨0, _⟩ => ⟨S256x2048, .bf16⟩
  | .local _ .vmem, ⟨1, _⟩ => ⟨S256x2048, .bf16⟩
  | .local _ .vmem, ⟨2, _⟩ => ⟨S1x128x2048, .f32⟩
  | .local _ .vmem, ⟨3, _⟩ => ⟨S1x128, .f32⟩
  | .local _ .vmem, ⟨4, _⟩ => ⟨S256x128, .f32⟩
  | .local _ .vmem, ⟨5, _⟩ => ⟨S256x128, .f32⟩
  | .local _ .vmem, ⟨6, _⟩ => ⟨S256x128, .f32⟩
  | .local _ .vmem, ⟨7, _⟩ => ⟨S256x128, .f32⟩
  | .local _ .vmem, ⟨8, _⟩ => ⟨S1x128, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c144_i32 : BitVec 32 := 144#32
  let c0_i32_0 : BitVec 32 := 0#32
  let c0_i32_1 : BitVec 32 := 0#32
  ![c0_i32.toNat, c144_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x128x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference17Ideal.lean ====
abbrev S8192x2048 : Shape := ⟨2, ![8192, 2048]⟩
abbrev S2x2048x24592 : Shape := ⟨3, ![2, 2048, 24592]⟩
abbrev S1x128 : Shape := ⟨2, ![1, 128]⟩
abbrev S1x2048x24592 : Shape := ⟨3, ![1, 2048, 24592]⟩
abbrev S2048x24592 : Shape := ⟨2, ![2048, 24592]⟩
abbrev S8192x24592 : Shape := ⟨2, ![8192, 24592]⟩
abbrev S8192x128 : Shape := ⟨2, ![8192, 128]⟩
abbrev S_ : Shape := ⟨0, ![]⟩
abbrev S4x2048x128 : Shape := ⟨3, ![4, 2048, 128]⟩

abbrev nBuf : Space → Nat
  | .hbm => 31
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2x2048x24592, .f32⟩
  | .hbm, ⟨2, _⟩ => ⟨S1x128, .f32⟩
  | .hbm, ⟨3, _⟩ => ⟨S8192x2048, .f32⟩
  | .hbm, ⟨4, _⟩ => ⟨S1x2048x24592, .f32⟩
  | .hbm, ⟨5, _⟩ => ⟨S2048x24592, .f32⟩
  | .hbm, ⟨6, _⟩ => ⟨S8192x24592, .f32⟩
  | .hbm, ⟨7, _⟩ => ⟨S8192x128, .f32⟩
  | .hbm, ⟨8, _⟩ => ⟨S8192x128, .f32⟩
  | .hbm, ⟨9, _⟩ => ⟨S8192x128, .f32⟩
  | .hbm, ⟨10, _⟩ => ⟨S8192x128, .f32⟩
  | .hbm, ⟨11, _⟩ => ⟨S_, .f32⟩
  | .hbm, ⟨12, _⟩ => ⟨S8192x128, .f32⟩
  | .hbm, ⟨13, _⟩ => ⟨S8192x128, .f32⟩
  | .hbm, ⟨14, _⟩ => ⟨S8192x128, .f32⟩
  | .hbm, ⟨15, _⟩ => ⟨S8192x128, .f32⟩
  | .hbm, ⟨16, _⟩ => ⟨S8192x128, .i1⟩
  | .hbm, ⟨17, _⟩ => ⟨S8192x128, .f32⟩
  | .hbm, ⟨18, _⟩ => ⟨S8192x128, .f32⟩
  | .hbm, ⟨19, _⟩ => ⟨S8192x128, .f32⟩
  | .hbm, ⟨20, _⟩ => ⟨S8192x128, .f32⟩
  | .hbm, ⟨21, _⟩ => ⟨S8192x128, .f32⟩
  | .hbm, ⟨22, _⟩ => ⟨S8192x128, .f32⟩
  | .hbm, ⟨23, _⟩ => ⟨S8192x128, .f32⟩
  | .hbm, ⟨24, _⟩ => ⟨S8192x128, .f32⟩
  | .hbm, ⟨25, _⟩ => ⟨S8192x128, .f32⟩
  | .hbm, ⟨26, _⟩ => ⟨S4x2048x128, .f32⟩
  | .hbm, ⟨27, _⟩ => ⟨S_, .f32⟩
  | .hbm, ⟨28, _⟩ => ⟨S_, .f32⟩
  | .hbm, ⟨29, _⟩ => ⟨S4x2048x128, .f32⟩
  | .hbm, ⟨30, _⟩ => ⟨S8192x128, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_call0_v0 : Ref sig .tc := ⟨.hbm, 10, rfl⟩
abbrev main_call0_call0_cst : Ref sig .tc := ⟨.hbm, 11, rfl⟩
abbrev main_call0_call0_v0 : Ref sig .tc := ⟨.hbm, 12, rfl⟩
abbrev main_call0_call0_v1 : Ref sig .tc := ⟨.hbm, 13, rfl⟩
abbrev main_call0_call0_v2 : Ref sig .tc := ⟨.hbm, 14, rfl⟩
abbrev main_call0_call0_v3 : Ref sig .tc := ⟨.hbm, 15, rfl⟩
abbrev main_call0_call0_v4 : Ref sig .tc := ⟨.hbm, 16, rfl⟩
abbrev main_call0_call0_v5 : Ref sig .tc := ⟨.hbm, 17, rfl⟩
abbrev main_call0_call0_v6 : Ref sig .tc := ⟨.hbm, 18, rfl⟩
abbrev main_call0_call0_v7 : Ref sig .tc := ⟨.hbm, 19, rfl⟩
abbrev main_call0_call0_v8 : Ref sig .tc := ⟨.hbm, 20, rfl⟩
abbrev main_call0_call0_v9 : Ref sig .tc := ⟨.hbm, 21, rfl⟩
abbrev main_call0_call0_v10 : Ref sig .tc := ⟨.hbm, 22, rfl⟩
abbrev main_call0_call0_v11 : Ref sig .tc := ⟨.hbm, 23, rfl⟩
abbrev main_call0_v1 : Ref sig .tc := ⟨.hbm, 24, rfl⟩
abbrev main_v7 : Ref sig .tc := ⟨.hbm, 25, rfl⟩
abbrev main_v8 : Ref sig .tc := ⟨.hbm, 26, rfl⟩
abbrev main_call1_call0_cst : Ref sig .tc := ⟨.hbm, 27, rfl⟩
abbrev main_call1_call0_v0 : Ref sig .tc := ⟨.hbm, 28, rfl⟩
abbrev main_v9 : Ref sig .tc := ⟨.hbm, 29, rfl⟩
abbrev main_v10 : Ref sig .tc := ⟨.hbm, 30, rfl⟩

abbrev nD : Nat := 1
abbrev τ : Topo := Topo.v7x

variable {F : FTy → Type} [FloatOps F]
-- ==== Kernel19.lean ====
abbrev S64x2048 : Shape := ⟨2, ![64, 2048]⟩
abbrev S2x2048x24592 : Shape := ⟨3, ![2, 2048, 24592]⟩
abbrev S2x24592x2048 : Shape := ⟨3, ![2, 24592, 2048]⟩
abbrev S1x1024x2048 : Shape := ⟨3, ![1, 1024, 2048]⟩
abbrev S64x1024 : Shape := ⟨2, ![64, 1024]⟩
abbrev S2048x1024 : Shape := ⟨2, ![2048, 1024]⟩
abbrev S1024x2048 : Shape := ⟨2, ![1024, 2048]⟩

abbrev nBuf : Space → Nat
  | .hbm => 4
  | .vmem => 6
  | .smem => 0
  | _ => 0

abbrev bufTy : (tb : Table) → Fin (tcTables nBuf tb) → BufTy
  | .hbm, ⟨0, _⟩ => ⟨S64x2048, .f32⟩
  | .hbm, ⟨1, _⟩ => ⟨S2x2048x24592, .f32⟩
  | .hbm, ⟨2, _⟩ => ⟨S2x24592x2048, .f32⟩
  | .hbm, ⟨3, _⟩ => ⟨S64x2048, .f32⟩
  | .local _ .vmem, ⟨0, _⟩ => ⟨S64x2048, .f32⟩
  | .local _ .vmem, ⟨1, _⟩ => ⟨S1x1024x2048, .f32⟩
  | .local _ .vmem, ⟨2, _⟩ => ⟨S1x1024x2048, .f32⟩
  | .local _ .vmem, ⟨3, _⟩ => ⟨S64x1024, .f32⟩
  | .local _ .vmem, ⟨4, _⟩ => ⟨S64x1024, .f32⟩
  | .local _ .vmem, ⟨5, _⟩ => ⟨S2048x1024, .bf16⟩
  | _, _ => ⟨S64x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![2, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c14_i32 : BitVec 32 := 14#32
  let v0 : BitVec 32 := Scalar.addi c14_i32 arg0
  let c0_i32 : BitVec 32 := 0#32
  let c0_i32_0 : BitVec 32 := 0#32
  let c0_i32_1 : BitVec 32 := 0#32
  ![c0_i32.toNat, v0.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 1 → Memref sig .tc .vmem S64x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true]

abbrev stage0_1 : Fin 2 → Memref sig .tc .vmem S1x1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S64x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference19Ideal.lean ====
abbrev S64x2048 : Shape := ⟨2, ![64, 2048]⟩
abbrev S2x2048x24592 : Shape := ⟨3, ![2, 2048, 24592]⟩
abbrev S1x2048x24592 : Shape := ⟨3, ![1, 2048, 24592]⟩
abbrev S2048x24592 : Shape := ⟨2, ![2048, 24592]⟩
abbrev S64x24592 : Shape := ⟨2, ![64, 24592]⟩

abbrev nBuf : Space → Nat
  | .hbm => 6
  | .vmem => 0
  | .smem => 0
  | _ => 0

abbrev bufTy : (tb : Table) → Fin (tcTables nBuf tb) → BufTy
  | .hbm, ⟨0, _⟩ => ⟨S64x2048, .f32⟩
  | .hbm, ⟨1, _⟩ => ⟨S2x2048x24592, .f32⟩
  | .hbm, ⟨2, _⟩ => ⟨S1x2048x24592, .f32⟩
  | .hbm, ⟨3, _⟩ => ⟨S2048x24592, .f32⟩
  | .hbm, ⟨4, _⟩ => ⟨S64x24592, .f32⟩
  | .hbm, ⟨5, _⟩ => ⟨S64x2048, .f32⟩
  | _, _ => ⟨S64x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel20.lean ====
abbrev S64x2048 : Shape := ⟨2, ![64, 2048]⟩
abbrev S2x2048x24592 : Shape := ⟨3, ![2, 2048, 24592]⟩
abbrev S2x24592x2048 : Shape := ⟨3, ![2, 24592, 2048]⟩
abbrev S1x1024x2048 : Shape := ⟨3, ![1, 1024, 2048]⟩
abbrev S64x1024 : Shape := ⟨2, ![64, 1024]⟩
abbrev S2048x1024 : Shape := ⟨2, ![2048, 1024]⟩
abbrev S1024x2048 : Shape := ⟨2, ![1024, 2048]⟩

abbrev nBuf : Space → Nat
  | .hbm => 4
  | .vmem => 6
  | .smem => 0
  | _ => 0

abbrev bufTy : (tb : Table) → Fin (tcTables nBuf tb) → BufTy
  | .hbm, ⟨0, _⟩ => ⟨S64x2048, .f32⟩
  | .hbm, ⟨1, _⟩ => ⟨S2x2048x24592, .f32⟩
  | .hbm, ⟨2, _⟩ => ⟨S2x24592x2048, .f32⟩
  | .hbm, ⟨3, _⟩ => ⟨S64x2048, .f32⟩
  | .local _ .vmem, ⟨0, _⟩ => ⟨S64x2048, .f32⟩
  | .local _ .vmem, ⟨1, _⟩ => ⟨S1x1024x2048, .f32⟩
  | .local _ .vmem, ⟨2, _⟩ => ⟨S1x1024x2048, .f32⟩
  | .local _ .vmem, ⟨3, _⟩ => ⟨S64x1024, .f32⟩
  | .local _ .vmem, ⟨4, _⟩ => ⟨S64x1024, .f32⟩
  | .local _ .vmem, ⟨5, _⟩ => ⟨S2048x1024, .bf16⟩
  | _, _ => ⟨S64x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![2, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg0
  let c0_i32 : BitVec 32 := 0#32
  let c0_i32_0 : BitVec 32 := 0#32
  let c0_i32_1 : BitVec 32 := 0#32
  ![c0_i32.toNat, v0.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 1 → Memref sig .tc .vmem S64x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true]

abbrev stage0_1 : Fin 2 → Memref sig .tc .vmem S1x1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S64x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference20Ideal.lean ====
abbrev S64x2048 : Shape := ⟨2, ![64, 2048]⟩
abbrev S2x2048x24592 : Shape := ⟨3, ![2, 2048, 24592]⟩
abbrev S1x2048x24592 : Shape := ⟨3, ![1, 2048, 24592]⟩
abbrev S2048x24592 : Shape := ⟨2, ![2048, 24592]⟩
abbrev S64x24592 : Shape := ⟨2, ![64, 24592]⟩

abbrev nBuf : Space → Nat
  | .hbm => 6
  | .vmem => 0
  | .smem => 0
  | _ => 0

abbrev bufTy : (tb : Table) → Fin (tcTables nBuf tb) → BufTy
  | .hbm, ⟨0, _⟩ => ⟨S64x2048, .f32⟩
  | .hbm, ⟨1, _⟩ => ⟨S2x2048x24592, .f32⟩
  | .hbm, ⟨2, _⟩ => ⟨S1x2048x24592, .f32⟩
  | .hbm, ⟨3, _⟩ => ⟨S2048x24592, .f32⟩
  | .hbm, ⟨4, _⟩ => ⟨S64x24592, .f32⟩
  | .hbm, ⟨5, _⟩ => ⟨S64x2048, .f32⟩
  | _, _ => ⟨S64x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel21.lean ====
abbrev S64x2048 : Shape := ⟨2, ![64, 2048]⟩
abbrev S2048 : Shape := ⟨1, ![2048]⟩
abbrev S1x2048 : Shape := ⟨2, ![1, 2048]⟩
abbrev S64 : Shape := ⟨1, ![64]⟩
abbrev S64x1 : Shape := ⟨2, ![64, 1]⟩

abbrev nBuf : Space → Nat
  | .hbm => 4
  | .vmem => 3
  | .smem => 0
  | _ => 0

abbrev bufTy : (tb : Table) → Fin (tcTables nBuf tb) → BufTy
  | .hbm, ⟨0, _⟩ => ⟨S64x2048, .f32⟩
  | .hbm, ⟨1, _⟩ => ⟨S2048, .f32⟩
  | .hbm, ⟨2, _⟩ => ⟨S1x2048, .f32⟩
  | .hbm, ⟨3, _⟩ => ⟨S64x2048, .f32⟩
  | .local _ .vmem, ⟨0, _⟩ => ⟨S64x2048, .f32⟩
  | .local _ .vmem, ⟨1, _⟩ => ⟨S1x2048, .f32⟩
  | .local _ .vmem, ⟨2, _⟩ => ⟨S64x2048, .f32⟩
  | _, _ => ⟨S64x2048, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S64x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]
-- ==== Reference21Ideal.lean ====
abbrev S64x2048 : Shape := ⟨2, ![64, 2048]⟩
abbrev S2048 : Shape := ⟨1, ![2048]⟩
abbrev S_ : Shape := ⟨0, ![]⟩
abbrev S64 : Shape := ⟨1, ![64]⟩
abbrev S64x1 : Shape := ⟨2, ![64, 1]⟩
abbrev S1x2048 : Shape := ⟨2, ![1, 2048]⟩

abbrev nBuf : Space → Nat
  | .hbm => 18
  | .vmem => 0
  | .smem => 0
  | _ => 0

abbrev bufTy : (tb : Table) → Fin (tcTables nBuf tb) → BufTy
  | .hbm, ⟨0, _⟩ => ⟨S64x2048, .f32⟩
  | .hbm, ⟨1, _⟩ => ⟨S2048, .f32⟩
  | .hbm, ⟨2, _⟩ => ⟨S64x2048, .f32⟩
  | .hbm, ⟨3, _⟩ => ⟨S_, .f32⟩
  | .hbm, ⟨4, _⟩ => ⟨S64, .f32⟩
  | .hbm, ⟨5, _⟩ => ⟨S64x1, .f32⟩
  | .hbm, ⟨6, _⟩ => ⟨S_, .f32⟩
  | .hbm, ⟨7, _⟩ => ⟨S64x1, .f32⟩
  | .hbm, ⟨8, _⟩ => ⟨S64x1, .f32⟩
  | .hbm, ⟨9, _⟩ => ⟨S_, .f32⟩
  | .hbm, ⟨10, _⟩ => ⟨S64x1, .f32⟩
  | .hbm, ⟨11, _⟩ => ⟨S64x1, .f32⟩
  | .hbm, ⟨12, _⟩ => ⟨S64x1, .f32⟩
  | .hbm, ⟨13, _⟩ => ⟨S64x2048, .f32⟩
  | .hbm, ⟨14, _⟩ => ⟨S64x2048, .f32⟩
  | .hbm, ⟨15, _⟩ => ⟨S1x2048, .f32⟩
  | .hbm, ⟨16, _⟩ => ⟨S64x2048, .f32⟩
  | .hbm, ⟨17, _⟩ => ⟨S64x2048, .f32⟩
  | _, _ => ⟨S64x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Kernel22.lean ====
abbrev S64x2048 : Shape := ⟨2, ![64, 2048]⟩
abbrev S2x2048x24592 : Shape := ⟨3, ![2, 2048, 24592]⟩
abbrev S1x128 : Shape := ⟨2, ![1, 128]⟩
abbrev S2x24592x2048 : Shape := ⟨3, ![2, 24592, 2048]⟩
abbrev S64x128 : Shape := ⟨2, ![64, 128]⟩
abbrev S8x2048 : Shape := ⟨2, ![8, 2048]⟩
abbrev S1x128x2048 : Shape := ⟨3, ![1, 128, 2048]⟩
abbrev S8x128 : Shape := ⟨2, ![8, 128]⟩
abbrev S128x2048 : Shape := ⟨2, ![128, 2048]⟩
abbrev S120x128 : Shape := ⟨2, ![120, 128]⟩
abbrev S128x128 : Shape := ⟨2, ![128, 128]⟩

abbrev nBuf : Space → Nat
  | .hbm => 6
  | .vmem => 9
  | .smem => 0
  | _ => 0

abbrev bufTy : (tb : Table) → Fin (tcTables nBuf tb) → BufTy
  | .hbm, ⟨0, _⟩ => ⟨S64x2048, .f32⟩
  | .hbm, ⟨1, _⟩ => ⟨S2x2048x24592, .f32⟩
  | .hbm, ⟨2, _⟩ => ⟨S1x128, .f32⟩
  | .hbm, ⟨3, _⟩ => ⟨S2x24592x2048, .f32⟩
  | .hbm, ⟨4, _⟩ => ⟨S64x128, .f32⟩
  | .hbm, ⟨5, _⟩ => ⟨S64x128, .f32⟩
  | .local _ .vmem, ⟨0, _⟩ => ⟨S8x2048, .f32⟩
  | .local _ .vmem, ⟨1, _⟩ => ⟨S8x2048, .f32⟩
  | .local _ .vmem, ⟨2, _⟩ => ⟨S1x128x2048, .f32⟩
  | .local _ .vmem, ⟨3, _⟩ => ⟨S1x128, .f32⟩
  | .local _ .vmem, ⟨4, _⟩ => ⟨S8x128, .f32⟩
  | .local _ .vmem, ⟨5, _⟩ => ⟨S8x128, .f32⟩
  | .local _ .vmem, ⟨6, _⟩ => ⟨S8x128, .f32⟩
  | .local _ .vmem, ⟨7, _⟩ => ⟨S8x128, .f32⟩
  | .local _ .vmem, ⟨8, _⟩ => ⟨S1x128, .f32⟩
  | _, _ => ⟨S64x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c144_i32 : BitVec 32 := 144#32
  let c0_i32_0 : BitVec 32 := 0#32
  let c0_i32_1 : BitVec 32 := 0#32
  ![c0_i32.toNat, c144_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S8x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x128x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S8x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S8x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference22Ideal.lean ====
abbrev S64x2048 : Shape := ⟨2, ![64, 2048]⟩
abbrev S2x2048x24592 : Shape := ⟨3, ![2, 2048, 24592]⟩
abbrev S1x128 : Shape := ⟨2, ![1, 128]⟩
abbrev S1x2048x24592 : Shape := ⟨3, ![1, 2048, 24592]⟩
abbrev S2048x24592 : Shape := ⟨2, ![2048, 24592]⟩
abbrev S64x24592 : Shape := ⟨2, ![64, 24592]⟩
abbrev S64x128 : Shape := ⟨2, ![64, 128]⟩
abbrev S_ : Shape := ⟨0, ![]⟩
abbrev S8x8x128 : Shape := ⟨3, ![8, 8, 128]⟩

abbrev nBuf : Space → Nat
  | .hbm => 30
  | .vmem => 0
  | .smem => 0
  | _ => 0

abbrev bufTy : (tb : Table) → Fin (tcTables nBuf tb) → BufTy
  | .hbm, ⟨0, _⟩ => ⟨S64x2048, .f32⟩
  | .hbm, ⟨1, _⟩ => ⟨S2x2048x24592, .f32⟩
  | .hbm, ⟨2, _⟩ => ⟨S1x128, .f32⟩
  | .hbm, ⟨3, _⟩ => ⟨S1x2048x24592, .f32⟩
  | .hbm, ⟨4, _⟩ => ⟨S2048x24592, .f32⟩
  | .hbm, ⟨5, _⟩ => ⟨S64x24592, .f32⟩
  | .hbm, ⟨6, _⟩ => ⟨S64x128, .f32⟩
  | .hbm, ⟨7, _⟩ => ⟨S64x128, .f32⟩
  | .hbm, ⟨8, _⟩ => ⟨S64x128, .f32⟩
  | .hbm, ⟨9, _⟩ => ⟨S64x128, .f32⟩
  | .hbm, ⟨10, _⟩ => ⟨S_, .f32⟩
  | .hbm, ⟨11, _⟩ => ⟨S64x128, .f32⟩
  | .hbm, ⟨12, _⟩ => ⟨S64x128, .f32⟩
  | .hbm, ⟨13, _⟩ => ⟨S64x128, .f32⟩
  | .hbm, ⟨14, _⟩ => ⟨S64x128, .f32⟩
  | .hbm, ⟨15, _⟩ => ⟨S64x128, .i1⟩
  | .hbm, ⟨16, _⟩ => ⟨S64x128, .f32⟩
  | .hbm, ⟨17, _⟩ => ⟨S64x128, .f32⟩
  | .hbm, ⟨18, _⟩ => ⟨S64x128, .f32⟩
  | .hbm, ⟨19, _⟩ => ⟨S64x128, .f32⟩
  | .hbm, ⟨20, _⟩ => ⟨S64x128, .f32⟩
  | .hbm, ⟨21, _⟩ => ⟨S64x128, .f32⟩
  | .hbm, ⟨22, _⟩ => ⟨S64x128, .f32⟩
  | .hbm, ⟨23, _⟩ => ⟨S64x128, .f32⟩
  | .hbm, ⟨24, _⟩ => ⟨S64x128, .f32⟩
  | .hbm, ⟨25, _⟩ => ⟨S8x8x128, .f32⟩
  | .hbm, ⟨26, _⟩ => ⟨S_, .f32⟩
  | .hbm, ⟨27, _⟩ => ⟨S_, .f32⟩
  | .hbm, ⟨28, _⟩ => ⟨S8x8x128, .f32⟩
  | .hbm, ⟨29, _⟩ => ⟨S64x128, .f32⟩
  | _, _ => ⟨S64x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_call0_v0 : Ref sig .tc := ⟨.hbm, 9, rfl⟩
abbrev main_call0_call0_cst : Ref sig .tc := ⟨.hbm, 10, rfl⟩
abbrev main_call0_call0_v0 : Ref sig .tc := ⟨.hbm, 11, rfl⟩
abbrev main_call0_call0_v1 : Ref sig .tc := ⟨.hbm, 12, rfl⟩
abbrev main_call0_call0_v2 : Ref sig .tc := ⟨.hbm, 13, rfl⟩
abbrev main_call0_call0_v3 : Ref sig .tc := ⟨.hbm, 14, rfl⟩
abbrev main_call0_call0_v4 : Ref sig .tc := ⟨.hbm, 15, rfl⟩
abbrev main_call0_call0_v5 : Ref sig .tc := ⟨.hbm, 16, rfl⟩
abbrev main_call0_call0_v6 : Ref sig .tc := ⟨.hbm, 17, rfl⟩
abbrev main_call0_call0_v7 : Ref sig .tc := ⟨.hbm, 18, rfl⟩
abbrev main_call0_call0_v8 : Ref sig .tc := ⟨.hbm, 19, rfl⟩
abbrev main_call0_call0_v9 : Ref sig .tc := ⟨.hbm, 20, rfl⟩
abbrev main_call0_call0_v10 : Ref sig .tc := ⟨.hbm, 21, rfl⟩
abbrev main_call0_call0_v11 : Ref sig .tc := ⟨.hbm, 22, rfl⟩
abbrev main_call0_v1 : Ref sig .tc := ⟨.hbm, 23, rfl⟩
abbrev main_v6 : Ref sig .tc := ⟨.hbm, 24, rfl⟩
abbrev main_v7 : Ref sig .tc := ⟨.hbm, 25, rfl⟩
abbrev main_call1_call0_cst : Ref sig .tc := ⟨.hbm, 26, rfl⟩
abbrev main_call1_call0_v0 : Ref sig .tc := ⟨.hbm, 27, rfl⟩
abbrev main_v8 : Ref sig .tc := ⟨.hbm, 28, rfl⟩
abbrev main_v9 : Ref sig .tc := ⟨.hbm, 29, rfl⟩

abbrev nD : Nat := 1
abbrev τ : Topo := Topo.v7x

variable {F : FTy → Type} [FloatOps F]
-- ==== Kernel23.lean ====
abbrev S64x11264 : Shape := ⟨2, ![64, 11264]⟩
abbrev S8x2x5632 : Shape := ⟨3, ![8, 2, 5632]⟩
abbrev S3x5632 : Shape := ⟨2, ![3, 5632]⟩
abbrev S5632 : Shape := ⟨1, ![5632]⟩
abbrev S1x5632 : Shape := ⟨2, ![1, 5632]⟩
abbrev S64x5632 : Shape := ⟨2, ![64, 5632]⟩
abbrev S8x512 : Shape := ⟨2, ![8, 512]⟩
abbrev S1x2x512 : Shape := ⟨3, ![1, 2, 512]⟩
abbrev S3x512 : Shape := ⟨2, ![3, 512]⟩
abbrev S1x512 : Shape := ⟨2, ![1, 512]⟩
abbrev S16x512 : Shape := ⟨2, ![16, 512]⟩
abbrev S3x8x512 : Shape := ⟨3, ![3, 8, 512]⟩
abbrev S2x512 : Shape := ⟨2, ![2, 512]⟩
abbrev S1x8x512 : Shape := ⟨3, ![1, 8, 512]⟩

abbrev nBuf : Space → Nat
  | .hbm => 7
  | .vmem => 16
  | .smem => 0
  | _ => 0

abbrev bufTy : (tb : Table) → Fin (tcTables nBuf tb) → BufTy
  | .hbm, ⟨0, _⟩ => ⟨S64x11264, .f32⟩
  | .hbm, ⟨1, _⟩ => ⟨S8x2x5632, .f32⟩
  | .hbm, ⟨2, _⟩ => ⟨S3x5632, .f32⟩
  | .hbm, ⟨3, _⟩ => ⟨S5632, .f32⟩
  | .hbm, ⟨4, _⟩ => ⟨S1x5632, .f32⟩
  | .hbm, ⟨5, _⟩ => ⟨S64x5632, .f32⟩
  | .hbm, ⟨6, _⟩ => ⟨S8x2x5632, .f32⟩
  | .local _ .vmem, ⟨0, _⟩ => ⟨S8x512, .f32⟩
  | .local _ .vmem, ⟨1, _⟩ => ⟨S8x512, .f32⟩
  | .local _ .vmem, ⟨2, _⟩ => ⟨S8x512, .f32⟩
  | .local _ .vmem, ⟨3, _⟩ => ⟨S8x512, .f32⟩
  | .local _ .vmem, ⟨4, _⟩ => ⟨S1x2x512, .f32⟩
  | .local _ .vmem, ⟨5, _⟩ => ⟨S1x2x512, .f32⟩
  | .local _ .vmem, ⟨6, _⟩ => ⟨S3x512, .f32⟩
  | .local _ .vmem, ⟨7, _⟩ => ⟨S3x512, .f32⟩
  | .local _ .vmem, ⟨8, _⟩ => ⟨S1x512, .f32⟩
  | .local _ .vmem, ⟨9, _⟩ => ⟨S1x512, .f32⟩
  | .local _ .vmem, ⟨10, _⟩ => ⟨S8x512, .f32⟩
  | .local _ .vmem, ⟨11, _⟩ => ⟨S8x512, .f32⟩
  | .local _ .vmem, ⟨12, _⟩ => ⟨S1x2x512, .f32⟩
  | .local _ .vmem, ⟨13, _⟩ => ⟨S1x2x512, .f32⟩
  | .local _ .vmem, ⟨14, _⟩ => ⟨S16x512, .f32⟩
  | .local _ .vmem, ⟨15, _⟩ => ⟨S3x8x512, .f32⟩
  | _, _ => ⟨S64x11264, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![8, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi c11_i32 arg1
  let c0_i32 : BitVec 32 := 0#32
  ![arg0.toNat, v0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S8x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S3x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S8x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x2x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference23Ideal.lean ====
abbrev S64x11264 : Shape := ⟨2, ![64, 11264]⟩
abbrev S8x2x5632 : Shape := ⟨3, ![8, 2, 5632]⟩
abbrev S3x5632 : Shape := ⟨2, ![3, 5632]⟩
abbrev S5632 : Shape := ⟨1, ![5632]⟩
abbrev S64x5632 : Shape := ⟨2, ![64, 5632]⟩
abbrev S8x8x5632 : Shape := ⟨3, ![8, 8, 5632]⟩
abbrev S8x10x5632 : Shape := ⟨3, ![8, 10, 5632]⟩
abbrev S1x5632 : Shape := ⟨2, ![1, 5632]⟩
abbrev S1x1x5632 : Shape := ⟨3, ![1, 1, 5632]⟩
abbrev S_ : Shape := ⟨0, ![]⟩

abbrev nBuf : Space → Nat
  | .hbm => 44
  | .vmem => 0
  | .smem => 0
  | _ => 0

abbrev bufTy : (tb : Table) → Fin (tcTables nBuf tb) → BufTy
  | .hbm, ⟨0, _⟩ => ⟨S64x11264, .f32⟩
  | .hbm, ⟨1, _⟩ => ⟨S8x2x5632, .f32⟩
  | .hbm, ⟨2, _⟩ => ⟨S3x5632, .f32⟩
  | .hbm, ⟨3, _⟩ => ⟨S5632, .f32⟩
  | .hbm, ⟨4, _⟩ => ⟨S64x5632, .f32⟩
  | .hbm, ⟨5, _⟩ => ⟨S8x8x5632, .f32⟩
  | .hbm, ⟨6, _⟩ => ⟨S64x5632, .f32⟩
  | .hbm, ⟨7, _⟩ => ⟨S8x8x5632, .f32⟩
  | .hbm, ⟨8, _⟩ => ⟨S8x10x5632, .f32⟩
  | .hbm, ⟨9, _⟩ => ⟨S1x5632, .f32⟩
  | .hbm, ⟨10, _⟩ => ⟨S5632, .f32⟩
  | .hbm, ⟨11, _⟩ => ⟨S8x8x5632, .f32⟩
  | .hbm, ⟨12, _⟩ => ⟨S1x1x5632, .f32⟩
  | .hbm, ⟨13, _⟩ => ⟨S8x8x5632, .f32⟩
  | .hbm, ⟨14, _⟩ => ⟨S8x8x5632, .f32⟩
  | .hbm, ⟨15, _⟩ => ⟨S1x5632, .f32⟩
  | .hbm, ⟨16, _⟩ => ⟨S5632, .f32⟩
  | .hbm, ⟨17, _⟩ => ⟨S8x8x5632, .f32⟩
  | .hbm, ⟨18, _⟩ => ⟨S1x1x5632, .f32⟩
  | .hbm, ⟨19, _⟩ => ⟨S8x8x5632, .f32⟩
  | .hbm, ⟨20, _⟩ => ⟨S8x8x5632, .f32⟩
  | .hbm, ⟨21, _⟩ => ⟨S8x8x5632, .f32⟩
  | .hbm, ⟨22, _⟩ => ⟨S1x5632, .f32⟩
  | .hbm, ⟨23, _⟩ => ⟨S5632, .f32⟩
  | .hbm, ⟨24, _⟩ => ⟨S8x8x5632, .f32⟩
  | .hbm, ⟨25, _⟩ => ⟨S1x1x5632, .f32⟩
  | .hbm, ⟨26, _⟩ => ⟨S8x8x5632, .f32⟩
  | .hbm, ⟨27, _⟩ => ⟨S8x8x5632, .f32⟩
  | .hbm, ⟨28, _⟩ => ⟨S8x8x5632, .f32⟩
  | .hbm, ⟨29, _⟩ => ⟨S1x1x5632, .f32⟩
  | .hbm, ⟨30, _⟩ => ⟨S8x8x5632, .f32⟩
  | .hbm, ⟨31, _⟩ => ⟨S8x8x5632, .f32⟩
  | .hbm, ⟨32, _⟩ => ⟨S8x8x5632, .f32⟩
  | .hbm, ⟨33, _⟩ => ⟨S8x8x5632, .f32⟩
  | .hbm, ⟨34, _⟩ => ⟨S_, .f32⟩
  | .hbm, ⟨35, _⟩ => ⟨S8x8x5632, .f32⟩
  | .hbm, ⟨36, _⟩ => ⟨S8x8x5632, .f32⟩
  | .hbm, ⟨37, _⟩ => ⟨S_, .f32⟩
  | .hbm, ⟨38, _⟩ => ⟨S8x8x5632, .f32⟩
  | .hbm, ⟨39, _⟩ => ⟨S8x8x5632, .f32⟩
  | .hbm, ⟨40, _⟩ => ⟨S8x8x5632, .f32⟩
  | .hbm, ⟨41, _⟩ => ⟨S8x8x5632, .f32⟩
  | .hbm, ⟨42, _⟩ => ⟨S64x5632, .f32⟩
  | .hbm, ⟨43, _⟩ => ⟨S8x2x5632, .f32⟩
  | _, _ => ⟨S64x11264, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_call0_v0 : Ref sig .tc := ⟨.hbm, 32, rfl⟩
abbrev main_call0_v1 : Ref sig .tc := ⟨.hbm, 33, rfl⟩
abbrev main_call0_cst : Ref sig .tc := ⟨.hbm, 34, rfl⟩
abbrev main_call0_v2 : Ref sig .tc := ⟨.hbm, 35, rfl⟩
abbrev main_call0_v3 : Ref sig .tc := ⟨.hbm, 36, rfl⟩
abbrev main_call0_cst_0 : Ref sig .tc := ⟨.hbm, 37, rfl⟩
abbrev main_call0_v4 : Ref sig .tc := ⟨.hbm, 38, rfl⟩
abbrev main_call0_v5 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩

abbrev nD : Nat := 1
abbrev τ : Topo := Topo.v7x

variable {F : FTy → Type} [FloatOps F]
-- ==== Proof.Fox.Softmax.lean ====
/-
  The online softmax over the extended reals. Keys are numbered by naturals; a masked key has the score `-∞`. The
  running state of a query after its first `n` keys is their greatest score, the sum of the exponentials of the
  scores below it, and the same sum weighted by the values. `top_add`, `den_add` and `num_add` say how that state moves over one
  more block of keys: the sums of before are multiplied by the exponential of the old greatest score below the new one.
-/
module

public import Idealize.ShloMosaic.Lib.Pipeline.ValueKit

@[expose] public section

noncomputable section

namespace Cert.Fox

open Idealize.ShloMosaic Finset

/-- The greatest score of the first `n` keys; `-∞` of none. -/
def top (s : ℕ → EReal) (n : ℕ) : EReal := (range n).sup s
/-- The softmax denominator of the first `n` keys, relative to their greatest score. -/
def den (s : ℕ → EReal) (n : ℕ) : EReal := ∑ k ∈ range n, Ideal.exp (s k - top s n)
/-- The softmax numerator of the first `n` keys, relative to their greatest score. -/
def num (s v : ℕ → EReal) (n : ℕ) : EReal := ∑ k ∈ range n, Ideal.exp (s k - top s n) * v k

theorem exp_bot : Ideal.exp ⊥ = 0 := rfl
theorem exp_coe (r : ℝ) : Ideal.exp (r : EReal) = (Real.exp r : EReal) := rfl

theorem exp_nonneg (x : EReal) : 0 ≤ Ideal.exp x := by
  induction x with
  | bot => exact le_rfl
  | top => exact le_top
  | coe r => rw [exp_coe]; exact EReal.coe_nonneg.2 (Real.exp_pos r).le

theorem sub_top' (x : EReal) : x - ⊤ = ⊥ := by
  rw [sub_eq_add_neg, EReal.neg_top, EReal.add_bot]

theorem bot_sub' (x : EReal) : ⊥ - x = ⊥ := by
  rw [sub_eq_add_neg, EReal.bot_add]

theorem exp_sub_ne_top {s m : EReal} (h : s ≤ m) : Ideal.exp (s - m) ≠ ⊤ := by
  induction m with
  | top => rw [sub_top', exp_bot]; exact EReal.zero_ne_top
  | bot => rw [le_bot_iff.1 h, bot_sub', exp_bot]; exact EReal.zero_ne_top
  | coe m =>
    induction s with
    | bot => rw [bot_sub', exp_bot]; exact EReal.zero_ne_top
    | top => exact absurd (top_le_iff.1 h) (EReal.coe_ne_top m)
    | coe s => rw [← EReal.coe_sub, exp_coe]; exact EReal.coe_ne_top _

/-- Two shifts in turn are one shift. -/
theorem exp_shift {s m m' : EReal} (h : s ≤ m) (h' : m ≤ m') :
    Ideal.exp (m - m') * Ideal.exp (s - m) = Ideal.exp (s - m') := by
  induction m' with
  | top => rw [sub_top', sub_top', exp_bot, zero_mul]
  | bot =>
    have hm := le_bot_iff.1 h'
    subst hm
    rw [le_bot_iff.1 h, bot_sub', exp_bot, zero_mul]
  | coe m' =>
    induction m with
    | bot => rw [le_bot_iff.1 h, bot_sub', bot_sub', exp_bot, zero_mul]
    | top => exact absurd (top_le_iff.1 h') (EReal.coe_ne_top m')
    | coe m =>
      induction s with
      | bot => rw [bot_sub', bot_sub', exp_bot, mul_zero]
      | top => exact absurd (top_le_iff.1 h) (EReal.coe_ne_top m)
      | coe s =>
        rw [← EReal.coe_sub, ← EReal.coe_sub, ← EReal.coe_sub, exp_coe, exp_coe, exp_coe, ← EReal.coe_mul, ← Real.exp_add]
        congr 2; ring

/-- A finite nonnegative factor goes into a sum. -/
theorem mul_sum' {ι : Type*} (S : Finset ι) {c : EReal} (h0 : 0 ≤ c) (ht : c ≠ ⊤) (f : ι → EReal) :
    c * ∑ k ∈ S, f k = ∑ k ∈ S, c * f k := by
  classical
  induction S using Finset.induction_on with
  | empty => simp
  | insert a S ha ih =>
    rw [sum_insert ha, sum_insert ha, EReal.left_distrib_of_nonneg_of_ne_top h0 ht, ih]

/-- A finite sum of reals in the extended reals. -/
theorem coe_sum' {ι : Type*} (S : Finset ι) (f : ι → ℝ) : ((∑ k ∈ S, f k : ℝ) : EReal) = ∑ k ∈ S, (f k : EReal) := by
  classical
  induction S using Finset.induction_on with
  | empty => simp
  | insert a S ha ih => rw [sum_insert ha, sum_insert ha, EReal.coe_add, ih]

theorem le_top_of_lt {s : ℕ → EReal} {k n : ℕ} (h : k < n) : s k ≤ top s n := le_sup (mem_range.2 h)

theorem top_mono (s : ℕ → EReal) {n n' : ℕ} (h : n ≤ n') : top s n ≤ top s n' :=
  Finset.sup_mono (range_subset_range.2 h)

/-- The greatest score after one more block of `b` keys. -/
theorem top_add (s : ℕ → EReal) (n b : ℕ) :
    top s (n + b) = max (top s n) ((univ : Finset (Fin b)).fold max ⊥ fun a : Fin b => s (n + a)) := by
  have hf : ((univ : Finset (Fin b)).fold max ⊥ fun a : Fin b => s (n + a)) = (univ : Finset (Fin b)).sup fun a : Fin b => s (n + a) := rfl
  rw [hf]
  apply le_antisymm
  · refine Finset.sup_le fun k hk => ?_
    rcases lt_or_ge k n with h | h
    · exact le_max_of_le_left (le_top_of_lt h)
    · refine le_max_of_le_right ?_
      have hk' := mem_range.1 hk
      have := Finset.le_sup (f := fun a : Fin b => s (n + a)) (mem_univ (⟨k - n, by omega⟩ : Fin b))
      simpa only [Nat.add_sub_cancel' h] using this
  · refine max_le (top_mono s (by omega)) (Finset.sup_le fun a _ => le_top_of_lt (by omega))

/-- The denominator after one more block of `b` keys. -/
theorem den_add (s : ℕ → EReal) (n b : ℕ) :
    den s (n + b) = Ideal.exp (top s n - top s (n + b)) * den s n + ∑ a : Fin b, Ideal.exp (s (n + a) - top s (n + b)) := by
  have hm := top_mono s (Nat.le_add_right n b)
  unfold den
  rw [sum_range_add, mul_sum' _ (exp_nonneg _) (exp_sub_ne_top hm), sum_range (fun x => Ideal.exp (s (n + x) - _))]
  congr 1
  exact sum_congr rfl fun k hk => (exp_shift (le_top_of_lt (mem_range.1 hk)) hm).symm

/-- The numerator after one more block of `b` keys. -/
theorem num_add (s v : ℕ → EReal) (n b : ℕ) :
    num s v (n + b) = Ideal.exp (top s n - top s (n + b)) * num s v n
      + ∑ a : Fin b, Ideal.exp (s (n + a) - top s (n + b)) * v (n + a) := by
  have hm := top_mono s (Nat.le_add_right n b)
  unfold num
  rw [sum_range_add, mul_sum' _ (exp_nonneg _) (exp_sub_ne_top hm), sum_range (fun x => Ideal.exp (s (n + x) - _) * _)]
  congr 1
  exact sum_congr rfl fun k hk => by rw [← mul_assoc, exp_shift (le_top_of_lt (mem_range.1 hk)) hm]

/-- Keys from `n` on that are all masked change nothing. -/
theorem top_of_masked {s : ℕ → EReal} {n n' : ℕ} (h : n ≤ n') (hs : ∀ k, n ≤ k → k < n' → s k = ⊥) : top s n' = top s n := by
  refine le_antisymm (Finset.sup_le fun k hk => ?_) (top_mono s h)
  rcases lt_or_ge k n with h1 | h1
  · exact le_top_of_lt h1
  · rw [hs k h1 (mem_range.1 hk)]; exact bot_le

theorem den_of_masked {s : ℕ → EReal} {n n' : ℕ} (h : n ≤ n') (hs : ∀ k, n ≤ k → k < n' → s k = ⊥) : den s n' = den s n := by
  unfold den
  rw [top_of_masked h hs]
  refine (sum_subset (range_subset_range.2 h) fun k hk hk' => ?_).symm
  rw [hs k (by simpa using hk') (mem_range.1 hk), bot_sub', exp_bot]

theorem num_of_masked {s v : ℕ → EReal} {n n' : ℕ} (h : n ≤ n') (hs : ∀ k, n ≤ k → k < n' → s k = ⊥) : num s v n' = num s v n := by
  unfold num
  rw [top_of_masked h hs]
  refine (sum_subset (range_subset_range.2 h) fun k hk hk' => ?_).symm
  rw [hs k (by simpa using hk') (mem_range.1 hk), bot_sub', exp_bot, zero_mul]

/-- With a finite greatest score the denominator is a positive real. -/
theorem den_real {s : ℕ → EReal} {n : ℕ} {M : ℝ} (hM : top s n = M) (h0 : 0 < n) : ∃ L : ℝ, 0 < L ∧ den s n = L := by
  have hle : ∀ k ∈ range n, s k ≤ (M : EReal) := fun k hk => hM ▸ le_top_of_lt (mem_range.1 hk)
  obtain ⟨k, hk, hkM⟩ := Finset.exists_mem_eq_sup (range n) ⟨0, mem_range.2 h0⟩ s
  have hkM' : s k = M := hkM.symm.trans hM
  have hreal : ∀ j ∈ range n, ((Ideal.exp (s j - top s n)).toReal : EReal) = Ideal.exp (s j - top s n) := fun j hj =>
    EReal.coe_toReal (exp_sub_ne_top (le_top_of_lt (mem_range.1 hj))) (ne_bot_of_le_ne_bot EReal.zero_ne_bot (exp_nonneg _))
  refine ⟨∑ j ∈ range n, (Ideal.exp (s j - top s n)).toReal, ?_, ?_⟩
  · refine Finset.sum_pos' (fun j _ => EReal.toReal_nonneg (exp_nonneg _)) ⟨k, hk, ?_⟩
    rw [hkM', hM, ← EReal.coe_sub, exp_coe, EReal.toReal_coe]
    exact Real.exp_pos _
  · unfold den
    rw [coe_sum']
    exact sum_congr rfl fun j hj => (hreal j hj).symm

/-- Dividing at the end is dividing every weight: the kernel's quotient is the reference's softmax-weighted sum. -/
theorem num_div_den {s v : ℕ → EReal} {n : ℕ} {M : ℝ} (hM : top s n = M) (h0 : 0 < n) :
    Ideal.div (num s v n) (den s n) = ∑ k ∈ range n, Ideal.div (Ideal.exp (s k - top s n)) (den s n) * v k := by
  obtain ⟨L, hL, hd⟩ := den_real hM h0
  have hne : ((L : ℝ) : EReal) ≠ 0 := by exact_mod_cast hL.ne'
  have hi : (0 : EReal) ≤ ((L : ℝ) : EReal)⁻¹ := EReal.inv_nonneg_of_nonneg (by exact_mod_cast hL.le)
  have hit : ((L : ℝ) : EReal)⁻¹ ≠ ⊤ := by rw [← EReal.coe_inv]; exact EReal.coe_ne_top _
  rw [hd]
  unfold Ideal.div num
  simp only [if_neg hne]
  rw [mul_comm, mul_sum' _ hi hit]
  exact sum_congr rfl fun k _ => by rw [← mul_assoc, mul_comm (Ideal.exp _)]

end Cert.Fox

end
-- ==== Proof.Fox.Step.lean ====
/-
  One block of keys of the online softmax, on the kernel's blocks of 256 queries: from the scores and the values of
  512 keys it moves the running maximum, denominator and numerator of every query. `Holds` ties the three running
  arrays to the recurrence of `Softmax`, `holds_step` moves it over one block, `finish_apply` divides at the end.
-/
module

public import proofs.«01_k».proof.Proof.Gen.KernelIdeal.Value
public import proofs.«01_k».proof.Proof.Fox.Softmax

@[expose] public section

set_option maxRecDepth 16384

noncomputable section

namespace Cert.Fox

open Idealize.ShloMosaic Idealize.ShloMosaic.TcCoe Idealize.SL.Sem Cert.KernelIdeal Cert.KernelIdeal.Gen

/-- The running maximum after a block of scores. -/
def mNew (m : FVec Ideal S256x1 .f32) (S : FVec Ideal S256x512 .f32) : FVec Ideal S256x1 .f32 :=
  maximumf m (shapeCast S256x1
    (multiReduction .maximumf [1] S256 S 0xFF800000#32 reduces_S256x512_S256 (.inl rfl) rfl) shapeCasts_S256_S256x1)
/-- The block's scores, exponentiated below the new maximum. -/
def pNew (m : FVec Ideal S256x1 .f32) (S : FVec Ideal S256x512 .f32) : FVec Ideal S256x512 .f32 :=
  exp (subf S (broadcastTo S256x512 (mNew m S) broadcasts_S256x1_S256x512))
/-- The factor that takes the old sums to the new maximum. -/
def fNew (m : FVec Ideal S256x1 .f32) (S : FVec Ideal S256x512 .f32) : FVec Ideal S256x1 .f32 :=
  exp (subf m (mNew m S))
/-- The running denominator after the block. -/
def lNew (m l : FVec Ideal S256x1 .f32) (S : FVec Ideal S256x512 .f32) : FVec Ideal S256x1 .f32 :=
  addf (mulf (fNew m S) l) (shapeCast S256x1
    (multiReduction .add [1] S256 (pNew m S) 0x00000000#32 reduces_S256x512_S256 (.inl rfl) rfl) shapeCasts_S256_S256x1)
/-- The running numerator after the block, of the values `V` in their narrow type. -/
def aNew (m : FVec Ideal S256x1 .f32) (a : FVec Ideal S256x128 .f32) (S : FVec Ideal S256x512 .f32)
    (V : FVec Ideal S512x128 .bf16) : FVec Ideal S256x128 .f32 :=
  addf (mulf (broadcastTo S256x128 (fNew m S) broadcasts_S256x1_S256x128) a)
    (matmul dot_S256x512_S512x128_S256x128_1_0_0_1_n_n none (truncf .bf16 (pNew m S) bitsLt_bf16_f32) V
      (constant S256x128 .f32 0x00000000#32))
/-- Numerator over denominator, narrowed for the result. -/
def fin (l : FVec Ideal S256x1 .f32) (a : FVec Ideal S256x128 .f32) : FVec Ideal S256x128 .bf16 :=
  truncf .bf16 (divf a (broadcastTo S256x128 l broadcasts_S256x1_S256x128)) bitsLt_bf16_f32

theorem ninf : Ideal.ofBits .f32 0xFF800000#32 = (⊥ : EReal) := by decide +kernel

theorem mNew_apply (m : FVec Ideal S256x1 .f32) (S : FVec Ideal S256x512 .f32) (r : Fin 256) :
    mNew m S (ix2 r 0) = max (m (ix2 r 0)) (Finset.univ.fold max ⊥ fun a : Fin 512 => S (ix2 r a)) := by
  pointwise [mNew]
  rw [ninf]

theorem pNew_apply (m : FVec Ideal S256x1 .f32) (S : FVec Ideal S256x512 .f32) (r : Fin 256) (a : Fin 512) :
    pNew m S (ix2 r a) = Ideal.exp (S (ix2 r a) - mNew m S (ix2 r 0)) := by
  pointwise [pNew]

theorem fNew_apply (m : FVec Ideal S256x1 .f32) (S : FVec Ideal S256x512 .f32) (r : Fin 256) :
    fNew m S (ix2 r 0) = Ideal.exp (m (ix2 r 0) - mNew m S (ix2 r 0)) := by
  pointwise [fNew]

theorem lNew_apply (m l : FVec Ideal S256x1 .f32) (S : FVec Ideal S256x512 .f32) (r : Fin 256) :
    lNew m l S (ix2 r 0) = fNew m S (ix2 r 0) * l (ix2 r 0) + ∑ a : Fin 512, pNew m S (ix2 r a) := by
  pointwise [lNew]

theorem aNew_apply (m : FVec Ideal S256x1 .f32) (a : FVec Ideal S256x128 .f32) (S : FVec Ideal S256x512 .f32)
    (V : FVec Ideal S512x128 .bf16) (r : Fin 256) (d : Fin 128) :
    aNew m a S V (ix2 r d)
      = fNew m S (ix2 r 0) * a (ix2 r d) + ∑ k : Fin 512, pNew m S (ix2 r k) * V (ix2 k d) := by
  pointwise [aNew]

/-- The three running arrays hold, for every query `r` of the block, the maximum, the denominator and the numerator of
the first `n` keys. -/
structure Holds (s : Fin 256 → ℕ → EReal) (v : Fin 128 → ℕ → EReal) (n : ℕ)
    (m l : FVec Ideal S256x1 .f32) (a : FVec Ideal S256x128 .f32) : Prop where
  hm : ∀ r, m (ix2 r 0) = top (s r) n
  hl : ∀ r, l (ix2 r 0) = den (s r) n
  ha : ∀ r d, a (ix2 r d) = num (s r) (v d) n

theorem holds_init (s : Fin 256 → ℕ → EReal) (v : Fin 128 → ℕ → EReal) :
    Holds s v 0 k0_pay51 k0_pay52 k0_pay53 := by
  constructor
  · intro r; pointwise [k0_pay51]; rw [ninf]; simp [top]
  · intro r; pointwise [k0_pay52]; simp [den]
  · intro r d; pointwise [k0_pay53]; simp [num]

/-- One more block of 512 keys. -/
theorem holds_step {s : Fin 256 → ℕ → EReal} {v : Fin 128 → ℕ → EReal} {n : ℕ} {m l : FVec Ideal S256x1 .f32}
    {a : FVec Ideal S256x128 .f32} {S : FVec Ideal S256x512 .f32} {V : FVec Ideal S512x128 .bf16}
    (h : Holds s v n m l a) (hS : ∀ (r : Fin 256) (k : Fin 512), S (ix2 r k) = s r (n + k))
    (hV : ∀ (k : Fin 512) (d : Fin 128), V (ix2 k d) = v d (n + k)) :
    Holds s v (n + 512) (mNew m S) (lNew m l S) (aNew m a S V) := by
  have hm : ∀ r, mNew m S (ix2 r 0) = top (s r) (n + 512) := fun r => by
    rw [mNew_apply, h.hm, top_add]
    simp only [hS]
  refine ⟨hm, fun r => ?_, fun r d => ?_⟩
  · rw [lNew_apply, fNew_apply, h.hm, h.hl, hm, den_add]
    simp only [pNew_apply, hm, hS]
  · rw [aNew_apply, fNew_apply, h.hm, h.ha, hm, num_add]
    simp only [pNew_apply, hm, hS, hV]

theorem fin_apply {s : Fin 256 → ℕ → EReal} {v : Fin 128 → ℕ → EReal} {n : ℕ} {m l : FVec Ideal S256x1 .f32}
    {a : FVec Ideal S256x128 .f32} (h : Holds s v n m l a) (r : Fin 256) (d : Fin 128) :
    fin l a (ix2 r d) = Ideal.div (num (s r) (v d) n) (den (s r) n) := by
  pointwise [fin]
  rw [h.hl, h.ha]

end Cert.Fox
-- ==== Proof.Fox.Trip.lean ====
/-
  The kernel's loop over the blocks of keys that lie wholly at or before its queries. Each trip moves the running
  maximum, denominator and numerator of four heads over one block of 512 keys; after all trips they hold the sums of
  all keys of the loop. The payloads named by the generated modules are the steps of `Step`, by computation.
-/
module

public import proofs.«01_k».proof.Proof.Fox.Step

@[expose] public section

set_option maxRecDepth 16384

noncomputable section

namespace Cert.Fox

open Idealize.ShloMosaic Idealize.ShloMosaic.TcCoe Idealize.SL.Sem Cert.KernelIdeal Cert.KernelIdeal.Gen

/-- The scores of a block of keys: the products with the scaled queries, plus the queries' decay, less the keys'. -/
abbrev sc (q : FVec Ideal S256x128 .bf16) (cq : FVec Ideal S256x1 .f32) (K : FVec Ideal S512x128 .f32)
    (ct : FVec Ideal S1x1x512 .f32) : FVec Ideal S256x512 .f32 := k0_pay5 q cq K ct
/-- The values of a block, narrowed. -/
abbrev vb (V : FVec Ideal S512x128 .f32) : FVec Ideal S512x128 .bf16 := truncf .bf16 V bitsLt_bf16_f32

/-- The four heads' running arrays, as the loop carries them. -/
abbrev Acc : Type := FVec Ideal S256x1 .f32 × FVec Ideal S256x1 .f32 × FVec Ideal S256x128 .f32 ×
  FVec Ideal S256x1 .f32 × FVec Ideal S256x1 .f32 × FVec Ideal S256x128 .f32 ×
  FVec Ideal S256x1 .f32 × FVec Ideal S256x1 .f32 × FVec Ideal S256x128 .f32 ×
  FVec Ideal S256x1 .f32 × FVec Ideal S256x1 .f32 × FVec Ideal S256x128 .f32

/-- Every head's running arrays hold the sums of the first `n` keys. -/
structure Holds4 (s : Fin 4 → Fin 256 → ℕ → EReal) (v : Fin 4 → Fin 128 → ℕ → EReal) (n : ℕ) (acc : Acc) : Prop where
  h0 : Holds (s 0) (v 0) n acc.1 acc.2.1 acc.2.2.1
  h1 : Holds (s 1) (v 1) n acc.2.2.2.1 acc.2.2.2.2.1 acc.2.2.2.2.2.1
  h2 : Holds (s 2) (v 2) n acc.2.2.2.2.2.2.1 acc.2.2.2.2.2.2.2.1 acc.2.2.2.2.2.2.2.2.1
  h3 : Holds (s 3) (v 3) n acc.2.2.2.2.2.2.2.2.2.1 acc.2.2.2.2.2.2.2.2.2.2.1 acc.2.2.2.2.2.2.2.2.2.2.2

variable (𝒱 : Variants) (c : Dev nD) (bd : Option 𝒱.V) (i : grid0.Coords)
  (arg3 : Memref sig .tc .vmem S256x512 .f32) (harg3 : arg3.IsWhole)
  (arg4 : Memref sig .tc .vmem S2048x512 .f32) (harg4 : arg4.IsWhole)
  (arg5 : Memref sig .tc .vmem S2048x512 .f32) (harg5 : arg5.IsWhole)
  (arg6 : Memref sig .tc .vmem S256x128 .f32) (harg6 : arg6.IsWhole)
  (arg7 : Memref sig .tc .vmem S1x16x2048 .f32) (harg7 : arg7.IsWhole)
  (arg8 : Memref sig .tc .vmem S256x512 .bf16) (harg8 : arg8.IsWhole) (arg1 arg2 : BitVec 32)
  (v5 : FVec Ideal S256x128 .bf16) (v13 : FVec Ideal S256x1 .f32)
  (v17 : FVec Ideal S256x128 .bf16) (v25 : FVec Ideal S256x1 .f32)
  (v29 : FVec Ideal S256x128 .bf16) (v37 : FVec Ideal S256x1 .f32)
  (v41 : FVec Ideal S256x128 .bf16) (v49 : FVec Ideal S256x1 .f32)
  (v67 : BitVec 32) (v68 v69 : FVec Ideal S256x1 .f32) (v70 : FVec Ideal S256x128 .f32)
  (v71 v72 : FVec Ideal S256x1 .f32) (cst_31 : Ideal .f32)
  (x4 : S2048x512.Idx → EReal) (x5 : S2048x512.Idx → EReal) (x7 : S1x16x2048.Idx → EReal)

/-- What a trip reads, block by block: the scores and the values of keys `512·k` and on are those of the sequences `s` and `v`. -/
structure Reads (s : Fin 4 → Fin 256 → ℕ → EReal) (v : Fin 4 → Fin 128 → ℕ → EReal) (n : ℕ)
    (k : Fin (k0_t1_loop i).trips) : Prop where
  s0 : ∀ hk hc (r : Fin 256) (a : Fin 512), sc v5 v13 (View.ld (Val := Elt Ideal) (e' := .f32) x4 (Rect.unit (s := S2048x512) (k0_off1 i k) ![512, 128] hk))
    (View.ld (Val := Elt Ideal) (e' := .f32) x7 (Rect.unit (s := S1x16x2048) (k0_off2 i k 0#32) ![1, 1, 512] hc)) (ix2 r a) = s 0 r (n + a)
  v0 : ∀ hk (a : Fin 512) (d : Fin 128), vb (View.ld (Val := Elt Ideal) (e' := .f32) x5 (Rect.unit (s := S2048x512) (k0_off1 i k) ![512, 128] hk)) (ix2 a d) = v 0 d (n + a)
  s1 : ∀ hk hc (r : Fin 256) (a : Fin 512), sc v17 v25 (View.ld (Val := Elt Ideal) (e' := .f32) x4 (Rect.unit (s := S2048x512) (k0_off3 i k) ![512, 128] hk))
    (View.ld (Val := Elt Ideal) (e' := .f32) x7 (Rect.unit (s := S1x16x2048) (k0_off2 i k 1#32) ![1, 1, 512] hc)) (ix2 r a) = s 1 r (n + a)
  v1 : ∀ hk (a : Fin 512) (d : Fin 128), vb (View.ld (Val := Elt Ideal) (e' := .f32) x5 (Rect.unit (s := S2048x512) (k0_off3 i k) ![512, 128] hk)) (ix2 a d) = v 1 d (n + a)
  s2 : ∀ hk hc (r : Fin 256) (a : Fin 512), sc v29 v37 (View.ld (Val := Elt Ideal) (e' := .f32) x4 (Rect.unit (s := S2048x512) (k0_off4 i k) ![512, 128] hk))
    (View.ld (Val := Elt Ideal) (e' := .f32) x7 (Rect.unit (s := S1x16x2048) (k0_off2 i k 2#32) ![1, 1, 512] hc)) (ix2 r a) = s 2 r (n + a)
  v2 : ∀ hk (a : Fin 512) (d : Fin 128), vb (View.ld (Val := Elt Ideal) (e' := .f32) x5 (Rect.unit (s := S2048x512) (k0_off4 i k) ![512, 128] hk)) (ix2 a d) = v 2 d (n + a)
  s3 : ∀ hk hc (r : Fin 256) (a : Fin 512), sc v41 v49 (View.ld (Val := Elt Ideal) (e' := .f32) x4 (Rect.unit (s := S2048x512) (k0_off5 i k) ![512, 128] hk))
    (View.ld (Val := Elt Ideal) (e' := .f32) x7 (Rect.unit (s := S1x16x2048) (k0_off2 i k 3#32) ![1, 1, 512] hc)) (ix2 r a) = s 3 r (n + a)
  v3 : ∀ hk (a : Fin 512) (d : Fin 128), vb (View.ld (Val := Elt Ideal) (e' := .f32) x5 (Rect.unit (s := S2048x512) (k0_off5 i k) ![512, 128] hk)) (ix2 a d) = v 3 d (n + a)

theorem holds_trip (s : Fin 4 → Fin 256 → ℕ → EReal) (v : Fin 4 → Fin 128 → ℕ → EReal) (n : ℕ)
    (k : Fin (k0_t1_loop i).trips) (acc : Acc) (h : Holds4 s v n acc)
    (hr : Reads i v5 v13 v17 v25 v29 v37 v41 v49 x4 x5 x7 s v n k) :
    Holds4 s v (n + 512) (tripR_k0_t1 𝒱 c bd i arg3 harg3 arg4 harg4 arg5 harg5 arg6 harg6 arg7 harg7 arg8 harg8 arg1 arg2 v5 v13 v17 v25 v29 v37 v41 v49 v67 v68 v69 v70 v71 v72 cst_31 (harg4.unread x4) (harg5.unread x5) (harg7.unread x7) k acc) := by
  unfold tripR_k0_t1 trip_k0_t1
  frame_out
  exact ⟨holds_step h.h0 (hr.s0 _ _) (hr.v0 _), holds_step h.h1 (hr.s1 _ _) (hr.v1 _),
    holds_step h.h2 (hr.s2 _ _) (hr.v2 _), holds_step h.h3 (hr.s3 _ _) (hr.v3 _)⟩

theorem holds_loop (s : Fin 4 → Fin 256 → ℕ → EReal) (v : Fin 4 → Fin 128 → ℕ → EReal) (acc : Acc) (h : Holds4 s v 0 acc)
    (hr : ∀ k, Reads i v5 v13 v17 v25 v29 v37 v41 v49 x4 x5 x7 s v (512 * k.val) k) (n : ℕ) (hn : n ≤ (k0_t1_loop i).trips) :
    Holds4 s v (512 * n) (st_k0_t1 𝒱 c bd i arg3 harg3 arg4 harg4 arg5 harg5 arg6 harg6 arg7 harg7 arg8 harg8 arg1 arg2 v5 v13 v17 v25 v29 v37 v41 v49 v67 v68 v69 v70 v71 v72 cst_31 (harg4.unread x4) (harg5.unread x5) (harg7.unread x7) acc n) := by
  induction n with
  | zero => exact h
  | succ n ih =>
    have e := st_k0_t1_succ (F := Ideal) 𝒱 c bd i arg3 harg3 arg4 harg4 arg5 harg5 arg6 harg6 arg7 harg7 arg8 harg8 arg1 arg2 v5 v13 v17 v25 v29 v37 v41 v49 v67 v68 v69 v70 v71 v72 cst_31 (harg4.unread x4) (harg5.unread x5) (harg7.unread x7) acc ⟨n, hn⟩
    rw [e]
    exact holds_trip 𝒱 c bd i arg3 harg3 arg4 harg4 arg5 harg5 arg6 harg6 arg7 harg7 arg8 harg8 arg1 arg2 v5 v13 v17 v25 v29 v37 v41 v49 v67 v68 v69 v70 v71 v72 cst_31 x4 x5 x7 s v (512 * n) ⟨n, hn⟩ _ (ih (Nat.le_of_succ_le hn)) (hr ⟨n, hn⟩)

end Cert.Fox
-- ==== Proof.Fox.Score.lean ====
/-
  The scores and the values of the whole problem, by batch, head and position, and how the kernel's blocks read them:
  the product with the scaled queries is the scaled product, the mask of the last block is the causal one.
-/
module

public import proofs.«01_k».proof.Proof.Fox.Trip

@[expose] public section

set_option maxRecDepth 16384

noncomputable section

namespace Cert.Fox

open Idealize.ShloMosaic Idealize.ShloMosaic.TcCoe Idealize.SL.Sem Cert.KernelIdeal Cert.KernelIdeal.Gen

/-- `1 / √128` as the programs' f32 constant. -/
def scl : EReal := Ideal.ofBits .f32 0x3DB504F3#32

theorem scl_eq : scl = ((11863283 / 134217728 : ℝ) : EReal) := by
  unfold scl
  simp [Ideal.ofBits, Ideal.ieee, -EReal.coe_mul]; norm_num

theorem scl_nonneg : 0 ≤ scl := by rw [scl_eq]; exact EReal.coe_nonneg.mpr (by norm_num)
theorem scl_ne_top : scl ≠ ⊤ := by rw [scl_eq]; exact EReal.coe_ne_top _

/-- The row of position `p` of batch `b`. -/
abbrev row (b : Fin 4) (p : ℕ) : Fin 8192 := ⟨2048 * b.val + p % 2048, by omega⟩
/-- The column of component `d` of head `h`. -/
abbrev col (h : Fin 16) (d : Fin 128) : Fin 2048 := ⟨128 * h.val + d.val, by omega⟩
/-- The lane of head `h` in the padded decay array. -/
abbrev lane (h : Fin 16) : Fin 128 := ⟨h.val, by omega⟩

variable (Q K V : S8192x2048.Idx → EReal) (C : S8192x128.Idx → EReal)

/-- The score of query `p` against key `k`, without the mask. -/
def raw (b : Fin 4) (h : Fin 16) (p k : ℕ) : EReal :=
  (∑ d : Fin 128, Q (ix2 (row b p) (col h d)) * K (ix2 (row b k) (col h d))) * scl
    + C (ix2 (row b p) (lane h)) - C (ix2 (row b k) (lane h))
/-- The causally masked score. -/
def score (b : Fin 4) (h : Fin 16) (p k : ℕ) : EReal := if k ≤ p then raw Q K C b h p k else ⊥
/-- The value of key `k`. -/
def val (b : Fin 4) (h : Fin 16) (d : Fin 128) (k : ℕ) : EReal := V (ix2 (row b k) (col h d))

theorem sc_apply (q : FVec Ideal S256x128 .bf16) (cq : FVec Ideal S256x1 .f32) (Kb : FVec Ideal S512x128 .f32)
    (ct : FVec Ideal S1x1x512 .f32) (r : Fin 256) (a : Fin 512) :
    sc q cq Kb ct (ix2 r a) = (∑ d : Fin 128, q (ix2 r d) * Kb (ix2 a d)) + cq (ix2 r 0) - ct (ix3 0 0 a) := by
  pointwise [sc, k0_pay5]

/-- A block's scores are the problem's, unmasked. -/
theorem sc_raw {b : Fin 4} {h : Fin 16} {p0 n : ℕ} {q : FVec Ideal S256x128 .bf16} {cq : FVec Ideal S256x1 .f32}
    {Kb : FVec Ideal S512x128 .f32} {ct : FVec Ideal S1x1x512 .f32}
    (hq : ∀ r d, q (ix2 r d) = Q (ix2 (row b (p0 + r)) (col h d)) * scl)
    (hcq : ∀ r, cq (ix2 r 0) = C (ix2 (row b (p0 + r)) (lane h)))
    (hK : ∀ a d, Kb (ix2 a d) = K (ix2 (row b (n + a)) (col h d)))
    (hct : ∀ a, ct (ix3 0 0 a) = C (ix2 (row b (n + a)) (lane h))) (r : Fin 256) (a : Fin 512) :
    sc q cq Kb ct (ix2 r a) = raw Q K C b h (p0 + r) (n + a) := by
  rw [sc_apply, raw, hcq, hct, mul_comm _ scl, mul_sum' _ scl_nonneg scl_ne_top]
  simp only [hq, hK, mul_comm, mul_left_comm, mul_assoc]

/-- The last block's scores, masked by comparing the key's position with the query's. -/
def msk (a2 w : BitVec 32) (S : FVec Ideal S256x512 .f32) : FVec Ideal S256x512 .f32 :=
  k0_pay85 S (k0_pay83 a2) (k0_pay84 w)

theorem word_le {x y : ℕ} (hx : x < 2 ^ 31) (hy : y < 2 ^ 31) :
    IntOp.cmpi .sle (BitVec.ofNat 32 x) (BitVec.ofNat 32 y) = 1#1 ↔ x ≤ y := by
  rw [IntOp.cmpi_sle, BitVec.toInt_eq_toNat_of_lt (by simp; omega), BitVec.toInt_eq_toNat_of_lt (by simp; omega)]
  simp only [BitVec.toNat_ofNat]
  omega

theorem msk_apply (x y : ℕ) (hx : x < 4096) (hy : y < 4096) (S : FVec Ideal S256x512 .f32) (r : Fin 256) (a : Fin 512) :
    msk (BitVec.ofNat 32 x) (BitVec.ofNat 32 y) S (ix2 r a)
      = if 512 * y + a.val ≤ 256 * x + r.val then S (ix2 r a) else ⊥ := by
  pointwise [msk, k0_pay85, k0_pay83, k0_pay84]
  have e1 : IntOp.addi (Scalar.muli (BitVec.ofNat 32 y) 512#32) (BitVec.ofNat 32 a.val) = BitVec.ofNat 32 (512 * y + a.val) := by
    apply BitVec.eq_of_toNat_eq
    simp only [IntOp.addi, Scalar.muli, IntOp.muli, BitVec.toNat_add, BitVec.toNat_mul, BitVec.toNat_ofNat]
    omega
  have e2 : IntOp.addi (Scalar.muli (BitVec.ofNat 32 x) 256#32) (BitVec.ofNat 32 r.val) = BitVec.ofNat 32 (256 * x + r.val) := by
    apply BitVec.eq_of_toNat_eq
    simp only [IntOp.addi, Scalar.muli, IntOp.muli, BitVec.toNat_add, BitVec.toNat_mul, BitVec.toNat_ofNat]
    omega
  rw [e1, e2, ninf]
  have hw := word_le (x := 512 * y + a.val) (y := 256 * x + r.val) (by omega) (by omega)
  by_cases h : 512 * y + a.val ≤ 256 * x + r.val
  · rw [if_pos h, hw.2 h]; rfl
  · rw [if_neg h, show Scalar.select _ _ _ = (⊥ : EReal) from if_neg (fun hc => h (hw.1 hc))]

/-- The decay of a query, summed out of its row by the lane of its head. -/
theorem lane_sum (w : ℕ) (hw : w < 128) (f : Fin 128 → EReal) :
    (∑ l : Fin 128, Scalar.select (IntOp.cmpi .eq (BitVec.ofNat 32 l.val) (BitVec.ofNat 32 w)) (f l) 0) = f ⟨w, hw⟩ := by
  rw [Finset.sum_eq_single ⟨w, hw⟩]
  · exact if_pos (IntOp.cmpi_eq.2 rfl)
  · intro l _ hl
    refine if_neg fun hc => hl (Fin.ext ?_)
    have := congrArg BitVec.toNat (IntOp.cmpi_eq.1 hc)
    simp only [BitVec.toNat_ofNat] at this
    have := l.isLt
    show l.val = w
    omega
  · simp

theorem lane_word (g j : ℕ) (hg : g < 4) (hj : j < 4) :
    Scalar.addi (Scalar.muli (BitVec.ofNat 32 g) 4#32) (BitVec.ofNat 32 j) = BitVec.ofNat 32 (4 * g + j) := by
  apply BitVec.eq_of_toNat_eq
  simp only [Scalar.addi, IntOp.addi, Scalar.muli, IntOp.muli, BitVec.toNat_add, BitVec.toNat_mul, BitVec.toNat_ofNat]
  omega

theorem pay42_apply (i : grid0.Coords) (x : FVec Ideal S256x128 .f32) (r : Fin 256) :
    k0_pay42 i x (ix2 r 0) = x (ix2 r ⟨4 * (i 1).val + 0, by have := (i 1).isLt; simp at this; omega⟩) := by
  pointwise [k0_pay42]
  rw [show (0#32 : BitVec 32) = BitVec.ofNat 32 0 from rfl, lane_word _ 0 (i 1).isLt (by omega)]
  exact lane_sum _ _ fun l => x (ix2 r l)
theorem pay44_apply (i : grid0.Coords) (x : FVec Ideal S256x128 .f32) (r : Fin 256) :
    k0_pay44 i x (ix2 r 0) = x (ix2 r ⟨4 * (i 1).val + 1, by have := (i 1).isLt; simp at this; omega⟩) := by
  pointwise [k0_pay44]
  rw [show (1#32 : BitVec 32) = BitVec.ofNat 32 1 from rfl, lane_word _ 1 (i 1).isLt (by omega)]
  exact lane_sum _ _ fun l => x (ix2 r l)
theorem pay48_apply (i : grid0.Coords) (x : FVec Ideal S256x128 .f32) (r : Fin 256) :
    k0_pay48 x (k0_pay46 i) k0_pay47 (ix2 r 0) = x (ix2 r ⟨4 * (i 1).val + 2, by have := (i 1).isLt; simp at this; omega⟩) := by
  pointwise [k0_pay48, k0_pay46, k0_pay47]
  rw [show (2#32 : BitVec 32) = BitVec.ofNat 32 2 from rfl, lane_word _ 2 (i 1).isLt (by omega)]
  exact lane_sum _ _ fun l => x (ix2 r l)
theorem pay50_apply (i : grid0.Coords) (x : FVec Ideal S256x128 .f32) (r : Fin 256) :
    k0_pay50 (BitVec.ofNat 32 (i 1).val) (iota .tc S256x128 32 [1] iota_S256x128_d1_w32) x (ix2 r 0)
      = x (ix2 r ⟨4 * (i 1).val + 3, by have := (i 1).isLt; simp at this; omega⟩) := by
  pointwise [k0_pay50]
  rw [show (3#32 : BitVec 32) = BitVec.ofNat 32 3 from rfl, lane_word _ 3 (i 1).isLt (by omega)]
  exact lane_sum _ _ fun l => x (ix2 r l)

/-- The head the kernel numbers `j` at a grid point of head group `g`. -/
abbrev hd (g j : Fin 4) : Fin 16 := ⟨4 * g.val + j.val, by omega⟩

/-- The blocks of a grid point: batch `b`, head group `g`, query block `i2`. -/
structure Blocks (b g : Fin 4) (i2 : Fin 8) (x3 : S256x512.Idx → EReal) (x4 x5 : S2048x512.Idx → EReal)
    (x6 : S256x128.Idx → EReal) (x7 : S1x16x2048.Idx → EReal) : Prop where
  h3 : ∀ (r : Fin 256) (j : Fin 4) (d : Fin 128),
    x3 (ix2 r ⟨128 * j.val + d.val, by omega⟩) = Q (ix2 (row b (256 * i2.val + r)) (col (hd g j) d))
  h4 : ∀ (a : Fin 2048) (j : Fin 4) (d : Fin 128),
    x4 (ix2 a ⟨128 * j.val + d.val, by omega⟩) = K (ix2 (row b a) (col (hd g j) d))
  h5 : ∀ (a : Fin 2048) (j : Fin 4) (d : Fin 128),
    x5 (ix2 a ⟨128 * j.val + d.val, by omega⟩) = V (ix2 (row b a) (col (hd g j) d))
  h6 : ∀ (r : Fin 256) (j : Fin 4), x6 (ix2 r (lane (hd g j))) = C (ix2 (row b (256 * i2.val + r)) (lane (hd g j)))
  h7 : ∀ (j : Fin 4) (p : Fin 2048), x7 (ix3 0 (hd g j) p) = C (ix2 (row b p) (lane (hd g j)))

variable {Q K V C}
variable {b g : Fin 4} {i2 : Fin 8} {x3 : S256x512.Idx → EReal} {x4 x5 : S2048x512.Idx → EReal}
    {x6 : S256x128.Idx → EReal} {x7 : S1x16x2048.Idx → EReal}

/-- A key block read at key `n` of head `j`. -/
theorem ld_key {n : ℕ} (hn : n + 512 ≤ 2048) (j : Fin 4) (x : S2048x512.Idx → EReal) {off : Fin 2 → ℕ}
    (ho : off = ![n, 128 * j.val]) (hk) (a : Fin 512) (d : Fin 128) :
    View.ld (Val := Elt Ideal) (e' := .f32) x (Rect.unit (s := S2048x512) off ![512, 128] hk) (ix2 a d)
      = x (ix2 ⟨n + a.val, by omega⟩ ⟨128 * j.val + d.val, by omega⟩) := by
  subst ho
  pointwise []

/-- The decay row read at key `n` of head `j`. -/
theorem ld_dec {n : ℕ} (hn : n + 512 ≤ 2048) (h : Fin 16) (x : S1x16x2048.Idx → EReal) {off : Fin 3 → ℕ}
    (ho : off = ![0, h.val, n]) (hk) (a : Fin 512) :
    View.ld (Val := Elt Ideal) (e' := .f32) x (Rect.unit (s := S1x16x2048) off ![1, 1, 512] hk) (ix3 0 0 a)
      = x (ix3 0 h ⟨n + a.val, by omega⟩) := by
  subst ho
  pointwise []

theorem ld_query (j : Fin 4) (x : S256x512.Idx → EReal) {off : Fin 2 → ℕ} (ho : off = ![0, 128 * j.val]) (hk)
    (r : Fin 256) (d : Fin 128) :
    View.ld (Val := Elt Ideal) (e' := .f32) x (Rect.unit (s := S256x512) off ![256, 128] hk) (ix2 r d)
      = x (ix2 r ⟨128 * j.val + d.val, by omega⟩) := by
  subst ho
  pointwise []

/-- Scores of head `j` against the keys from `n` on, as a block computes them. -/
theorem blk_raw (B : Blocks Q K V C b g i2 x3 x4 x5 x6 x7) (j : Fin 4) {n : ℕ} (hn : n + 512 ≤ 2048)
    {q : FVec Ideal S256x128 .bf16} {cq : FVec Ideal S256x1 .f32}
    (hq : ∀ r d, q (ix2 r d) = x3 (ix2 r ⟨128 * j.val + d.val, by omega⟩) * scl)
    (hcq : ∀ r, cq (ix2 r 0) = x6 (ix2 r (lane (hd g j))))
    {ok : Fin 2 → ℕ} (eok : ok = ![n, 128 * j.val]) {oc : Fin 3 → ℕ} (eoc : oc = ![0, (hd g j).val, n]) (hk hc)
    (r : Fin 256) (a : Fin 512) :
    sc q cq (View.ld (Val := Elt Ideal) (e' := .f32) x4 (Rect.unit (s := S2048x512) ok ![512, 128] hk))
      (View.ld (Val := Elt Ideal) (e' := .f32) x7 (Rect.unit (s := S1x16x2048) oc ![1, 1, 512] hc)) (ix2 r a)
      = raw Q K C b (hd g j) (256 * i2.val + r) (n + a) :=
  sc_raw Q K C (fun r d => by rw [hq, B.h3]) (fun r => by rw [hcq, B.h6])
    (fun a d => by rw [ld_key hn j x4 eok, B.h4]) (fun a => by rw [ld_dec hn (hd g j) x7 eoc, B.h7]) r a

/-- The values of head `j` from key `n` on. -/
theorem blk_val (B : Blocks Q K V C b g i2 x3 x4 x5 x6 x7) (j : Fin 4) {n : ℕ} (hn : n + 512 ≤ 2048)
    {ok : Fin 2 → ℕ} (eok : ok = ![n, 128 * j.val]) (hk) (a : Fin 512) (d : Fin 128) :
    vb (View.ld (Val := Elt Ideal) (e' := .f32) x5 (Rect.unit (s := S2048x512) ok ![512, 128] hk)) (ix2 a d)
      = val V b (hd g j) d (n + a) :=
  (ld_key hn j x5 eok hk a d).trans (by rw [B.h5, val])

end Cert.Fox
-- ==== Proof.Fox.Offsets.lean ====
/-
  The kernel's integer arithmetic, in closed form at every grid point `t` (batch `t / 32`, head group `t / 8 % 4`, query block
  `t % 8`): the loop over whole blocks of keys runs `t % 8 / 2` times, the second loop never, the last block begins at
  key `512 · (t % 8 / 2)`, and the reads lie where the mathematics wants them.
-/
module

public import proofs.«01_k».proof.Proof.Gen.KernelIdeal.Value

@[expose] public section

set_option maxRecDepth 16384

noncomputable section

namespace Cert.Fox

open Idealize.ShloMosaic Cert.KernelIdeal Cert.KernelIdeal.Gen

theorem co : ∀ t : Fin grid0.N, (grid0.coords t 0).val = t.val / 32 ∧ (grid0.coords t 1).val = t.val / 8 % 4
    ∧ (grid0.coords t 2).val = t.val % 8 := by decide +kernel
theorem trips1 : ∀ t : Fin grid0.N, (k0_t1_loop (grid0.coords t)).trips = t.val % 8 / 2 := by decide +kernel
theorem trips2 : ∀ t : Fin grid0.N, (k0_t2_loop (grid0.coords t)).trips = 0 := by decide +kernel
theorem off1 : ∀ (t : Fin grid0.N) (k : Fin (k0_t1_loop (grid0.coords t)).trips),
    k0_off1 (grid0.coords t) k = ![512 * k.val, 0] := by decide +kernel
theorem off3 : ∀ (t : Fin grid0.N) (k : Fin (k0_t1_loop (grid0.coords t)).trips),
    k0_off3 (grid0.coords t) k = ![512 * k.val, 128] := by decide +kernel
theorem off4 : ∀ (t : Fin grid0.N) (k : Fin (k0_t1_loop (grid0.coords t)).trips),
    k0_off4 (grid0.coords t) k = ![512 * k.val, 256] := by decide +kernel
theorem off5 : ∀ (t : Fin grid0.N) (k : Fin (k0_t1_loop (grid0.coords t)).trips),
    k0_off5 (grid0.coords t) k = ![512 * k.val, 384] := by decide +kernel
theorem off2 : ∀ (t : Fin grid0.N) (k : Fin (k0_t1_loop (grid0.coords t)).trips) (j : Fin 4),
    k0_off2 (grid0.coords t) k (BitVec.ofNat 32 j.val) = ![0, 4 * (t.val / 8 % 4) + j.val, 512 * k.val] := by decide +kernel
theorem off11 : ∀ t : Fin grid0.N, k0_off11 (grid0.coords t) = ![512 * (t.val % 8 / 2), 0] := by decide +kernel
theorem off13 : ∀ t : Fin grid0.N, k0_off13 (grid0.coords t) = ![512 * (t.val % 8 / 2), 128] := by decide +kernel
theorem off14 : ∀ t : Fin grid0.N, k0_off14 (grid0.coords t) = ![512 * (t.val % 8 / 2), 256] := by decide +kernel
theorem off15 : ∀ t : Fin grid0.N, k0_off15 (grid0.coords t) = ![512 * (t.val % 8 / 2), 384] := by decide +kernel
theorem off12 : ∀ (t : Fin grid0.N) (j : Fin 4),
    k0_off12 (grid0.coords t) (BitVec.ofNat 32 j.val) = ![0, 4 * (t.val / 8 % 4) + j.val, 512 * (t.val % 8 / 2)] := by
  decide +kernel
theorem idx : ∀ t : Fin cfg0.N,
    win0_0.index t = ![t.val / 32 * 8 + t.val % 8, t.val / 8 % 4] ∧ win0_1.index t = ![t.val / 32, t.val / 8 % 4]
    ∧ win0_2.index t = ![t.val / 32, t.val / 8 % 4] ∧ win0_3.index t = ![t.val / 32 * 8 + t.val % 8, 0]
    ∧ win0_4.index t = ![t.val / 32, 0, 0] ∧ win0_5.index t = ![t.val / 32 * 8 + t.val % 8, t.val / 8 % 4] :=
  (by decide +kernel : ∀ t : Fin grid0.N, _)

end Cert.Fox
-- ==== Proof.Fox.Point.lean ====
/-
  One grid point of the kernel: its four heads after the loop over whole blocks and the masked last block. The keys
  after the last block are all masked, so the sums over the block's keys are those over all keys.
-/
module

public import proofs.«01_k».proof.Proof.Fox.Score
public import proofs.«01_k».proof.Proof.Fox.Offsets

@[expose] public section

set_option maxRecDepth 16384

noncomputable section

namespace Cert.Fox

open Idealize.ShloMosaic Idealize.ShloMosaic.TcCoe Idealize.SL.Sem Cert.KernelIdeal Cert.KernelIdeal.Gen

/-- The attention of query `p`, head `h`, batch `b` at component `d`: numerator over denominator, over all keys. -/
def attn (Q K V : S8192x2048.Idx → EReal) (C : S8192x128.Idx → EReal) (b : Fin 4) (h : Fin 16) (p : ℕ) (d : Fin 128) : EReal :=
  Ideal.div (num (score Q K C b h p) (val V b h d) 2048) (den (score Q K C b h p) 2048)

/-- Batch, head group and query block of a grid point. -/
abbrev bt (t : Fin cfg0.N) : Fin 4 := ⟨t.val / 32, by have : t.val < 128 := t.isLt; omega⟩
abbrev gt (t : Fin cfg0.N) : Fin 4 := ⟨t.val / 8 % 4, by omega⟩
abbrev it (t : Fin cfg0.N) : Fin 8 := ⟨t.val % 8, by omega⟩

variable (m : (ℓ : Loc nD τ sig) → Buf (Elt Ideal) ℓ) (c : Dev nD)

abbrev Qa : S8192x2048.Idx → EReal := m ((c.tc : Thread nD τ).loc main_arg0)
abbrev Ka : S8192x2048.Idx → EReal := m ((c.tc : Thread nD τ).loc main_arg1)
abbrev Va : S8192x2048.Idx → EReal := m ((c.tc : Thread nD τ).loc main_arg2)
abbrev Ca : S8192x128.Idx → EReal := m ((c.tc : Thread nD τ).loc main_arg3)

theorem blocks (t : Fin cfg0.N) : Blocks (Qa m c) (Ka m c) (Va m c) (Ca m c) (bt t) (gt t) (it t)
    (iblk m c 0 t) (iblk m c 1 t) (iblk m c 2 t) (iblk m c 3 t) (iblk m c 4 t) := by
  have ht : t.val < 128 := t.isLt
  constructor
  · intro r j d
    have := r.isLt; have := j.isLt; have := d.isLt
    blk_ext [iblk, V, idx t]
  · intro r j d
    have := r.isLt; have := j.isLt; have := d.isLt
    blk_ext [iblk, V, idx t]
  · intro r j d
    have := r.isLt; have := j.isLt; have := d.isLt
    blk_ext [iblk, V, idx t]
  · intro r j
    have := r.isLt; have := j.isLt
    blk_ext [iblk, V, idx t]
  · intro j p
    have := p.isLt; have := j.isLt
    blk_simp [iblk, idx t]
    entry_read
    pointwise []
    blk_ext [idx t]

end Cert.Fox
-- ==== Proof.Fox.Ref.lean ====
/-
  What the reference computes, read at one element: the causally masked scores, their softmax over all keys, and the
  sum of the values weighted by it.
-/
module

public import proofs.«01_k».proof.Proof.Gen.ReferenceIdeal.Run
public import Idealize.ShloMosaic.Lib.Pipeline.ValueKit
public import proofs.«01_k».proof.Proof.Fox.Point

@[expose] public section

set_option maxRecDepth 16384

noncomputable section

namespace Cert.FoxRef

open Idealize.ShloMosaic Idealize.ShloMosaic.TcCoe Idealize.SL.Sem Cert.ReferenceIdeal Cert.ReferenceIdeal.Gen Cert.Fox

variable (Q K V : FVec Ideal S8192x2048 .f32) (C : FVec Ideal S8192x128 .f32)

/-- The decay by batch, head and position. -/
def dec : FVec Ideal S4x16x2048 .f32 :=
  transpose S4x16x2048 [0, 2, 1] (shapeCast _ (extractStridedSlice S8192x16 ![0, 0] C slices_S8192x128_S8192x16_0_0) shapeCasts_S8192x16_S4x2048x16) transposes_S4x2048x16_S4x16x2048_0_2_1
/-- The masked scores. -/
def sco : FVec Ideal S4x16x2048x2048 .f32 :=
  select (broadcastInDim S4x16x2048x2048 ![2, 3] bcast_S2048x2048_S4x16x2048x2048_2_3 (cmpi .sle (broadcastInDim S2048x2048 ![0, 1] bcast_S1x2048_S2048x2048_0_1 (broadcastInDim S1x2048 ![1] bcast_S2048_S1x2048_1 (iotaInDim S2048 32 0))) (broadcastInDim S2048x2048 ![0, 1] bcast_S2048x1_S2048x2048_0_1 (broadcastInDim S2048x1 ![0] bcast_S2048_S2048x1_0 (iotaInDim S2048 32 0))))) (subf (addf (mulf (Host.dotGeneral dot_S4x2048x16x128_S4x2048x16x128_S4x16x2048x2048_3_3_1_1_02_02 none (shapeCast _ Q shapeCasts_S8192x2048_S4x2048x16x128) (shapeCast _ K shapeCasts_S8192x2048_S4x2048x16x128)) (broadcastInDim S4x16x2048x2048 ![] bcast_S_S4x16x2048x2048 (constant S_ .f32 0x3DB504F3#32))) (broadcastInDim S4x16x2048x2048 ![0, 1, 2, 3] bcast_S4x16x2048x1_S4x16x2048x2048_0_1_2_3 (broadcastInDim S4x16x2048x1 ![0, 1, 2] bcast_S4x16x2048_S4x16x2048x1_0_1_2 (dec C)))) (broadcastInDim S4x16x2048x2048 ![0, 1, 2, 3] bcast_S4x16x1x2048_S4x16x2048x2048_0_1_2_3 (broadcastInDim S4x16x1x2048 ![0, 1, 3] bcast_S4x16x2048_S4x16x1x2048_0_1_3 (dec C)))) (broadcastInDim S4x16x2048x2048 ![] bcast_S_S4x16x2048x2048 (id (constant S_ .f32 0xFF800000#32)))

/-- Each row's greatest score. -/
def gre (S : FVec Ideal S4x16x2048x2048 .f32) : FVec Ideal S4x16x2048 .f32 :=
  Host.reduce FloatOps.maximumf S (constant S_ .f32 0xFF800000#32) reducesTo_S4x16x2048x2048_S4x16x2048_d3 h_S_
/-- The exponentials of scores below their row's greatest. -/
def expo (S : FVec Ideal S4x16x2048x2048 .f32) (M : FVec Ideal S4x16x2048 .f32) : FVec Ideal S4x16x2048x2048 .f32 :=
  Host.exp (subf S (broadcastInDim S4x16x2048x2048 ![0, 1, 2, 3] bcast_S4x16x2048x1_S4x16x2048x2048_0_1_2_3 (broadcastInDim S4x16x2048x1 ![0, 1, 2] bcast_S4x16x2048_S4x16x2048x1_0_1_2 (maximumf (broadcastInDim S4x16x2048 ![] bcast_S_S4x16x2048 (constant S_ .f32 0xFF800000#32)) M))))
/-- The exponentials over their row's sum. -/
def soft (E : FVec Ideal S4x16x2048x2048 .f32) : FVec Ideal S4x16x2048x2048 .f32 :=
  Host.divf E (broadcastInDim S4x16x2048x2048 ![0, 1, 2, 3] bcast_S4x16x2048x1_S4x16x2048x2048_0_1_2_3 (broadcastInDim S4x16x2048x1 ![0, 1, 2] bcast_S4x16x2048_S4x16x2048x1_0_1_2 (Host.reduceAdd E (constant S_ .f32 0x00000000#32) reducesTo_S4x16x2048x2048_S4x16x2048_d3 h_S_)))
/-- The weighted values, as the program returns them. -/
def wei (A : FVec Ideal S4x16x2048x2048 .f32) : FVec Ideal S8192x2048 .bf16 :=
  truncf .bf16 (shapeCast _ (transpose S4x2048x16x128 [0, 3, 1, 2] (Host.dotGeneral dot_S4x2048x16x128_S4x16x2048x2048_S4x16x128x2048_1_3_3_2_02_01 none (shapeCast _ V shapeCasts_S8192x2048_S4x2048x16x128) A) transposes_S4x16x128x2048_S4x2048x16x128_0_3_1_2) shapeCasts_S4x2048x16x128_S8192x2048) bitsLt_bf16_f32

theorem res_eq (m : (ℓ : Loc nD τ sig) → Buf (Elt Ideal) ℓ) (c : Dev nD) (S : FVec Ideal S4x16x2048x2048 .f32)
    (hS : S = sco (m ((c.tc : Thread nD τ).loc main_arg0)) (m ((c.tc : Thread nD τ).loc main_arg1)) (m ((c.tc : Thread nD τ).loc main_arg3))) :
    Value.res_main_v36 m c = wei (m ((c.tc : Thread nD τ).loc main_arg2)) (soft (expo S (gre S))) := by
  subst hS
  rfl

theorem dec_apply (b : Fin 4) (h : Fin 16) (p : Fin 2048) : dec C (ix3 b h p) = C (ix2 (row b p) (lane h)) := by
  pointwise [dec]
  congr 1
  funext a
  match a with
  | 0 => exact Fin.ext (show b.val * 2048 + p.val = 2048 * b.val + p.val % 2048 by omega)
  | 1 => exact Fin.ext rfl

theorem sco_apply (b : Fin 4) (h : Fin 16) (p k : Fin 2048) : sco Q K C (ix4 b h p k) = score Q K C b h p k := by
  pointwise [sco]
  rw [dec_apply, dec_apply]
  have hw := word_le (x := k.val) (y := p.val) (by omega) (by omega)
  unfold score
  by_cases hk : k.val ≤ p.val
  · rw [if_pos hk, hw.2 hk]
    refine congrArg (fun z : EReal => z * scl + _ - _) (Finset.sum_congr rfl fun x _ => ?_)
    have e1 : ∀ p : Fin 2048, (⟨b.val * 2048 + p.val, by omega⟩ : Fin 8192) = row b p.val := fun p => Fin.ext (by show b.val * 2048 + p.val = 2048 * b.val + p.val % 2048; omega)
    have e2 : (⟨h.val * 128 + x.val, by omega⟩ : Fin 2048) = col h x := Fin.ext (by show h.val * 128 + x.val = 128 * h.val + x.val; omega)
    exact congrArg₂ (· * ·) (congrArg₂ (fun i j => Q (ix2 i j)) (e1 p) e2) (congrArg₂ (fun i j => K (ix2 i j)) (e1 k) e2)
  · rw [if_neg hk]
    exact (if_neg (fun hc => hk (hw.1 hc))).trans (by decide +kernel : Ideal.ofBits .f32 0xFF800000#32 = ⊥)

theorem gre_apply (S : FVec Ideal S4x16x2048x2048 .f32) (b : Fin 4) (h : Fin 16) (p : Fin 2048) :
    gre S (ix3 b h p) = Finset.univ.fold max ⊥ fun a : Fin 2048 => S (ix4 b h p a) := by
  refine (Host.reduce_eq_fold_single (a := 3) _ S _ reducesTo_S4x16x2048x2048_S4x16x2048_d3 (by decide) h_S_ _).trans ?_
  have e : (constant (F := Ideal) S_ .f32 0xFF800000#32) (Shape.Idx.first h_S_) = (⊥ : EReal) := (by decide +kernel : Ideal.ofBits .f32 0xFF800000#32 = ⊥)
  rw [e]
  refine Finset.fold_congr fun a _ => ?_
  refine congrArg S ?_
  funext i
  match i with
  | 0 => rfl
  | 1 => rfl
  | 2 => rfl
  | 3 => rfl

theorem expo_apply (S : FVec Ideal S4x16x2048x2048 .f32) (M : FVec Ideal S4x16x2048 .f32) (b : Fin 4) (h : Fin 16) (p k : Fin 2048) :
    expo S M (ix4 b h p k) = Ideal.exp (S (ix4 b h p k) - M (ix3 b h p)) := by
  pointwise [expo]
  rw [show Ideal.ofBits .f32 0xFF800000#32 = ⊥ by decide +kernel]
  exact congrArg (fun z : EReal => Ideal.exp (_ - z)) (max_eq_right bot_le)

theorem soft_apply (E : FVec Ideal S4x16x2048x2048 .f32) (b : Fin 4) (h : Fin 16) (p k : Fin 2048) :
    soft E (ix4 b h p k) = Ideal.div (E (ix4 b h p k)) (∑ a : Fin 2048, E (ix4 b h p a)) := by
  pointwise [soft]

theorem wei_apply (A : FVec Ideal S4x16x2048x2048 .f32) (x : S8192x2048.Idx) (b : Fin 4) (h : Fin 16) (p : Fin 2048) (d : Fin 128)
    (h0 : (x 0).val = 2048 * b.val + p.val) (h1 : (x 1).val = 128 * h.val + d.val) :
    wei V A x = ∑ k : Fin 2048, A (ix4 b h p k) * V (ix2 (row b k) (col h d)) := by
  pointwise [wei]
  refine Finset.sum_congr rfl fun k _ => (mul_comm _ _).trans (congrArg₂ (· * ·) (congrArg A ?_) (congrArg V ?_))
  · funext i
    match i with
    | 0 => exact Fin.ext (by show (x 0).val / 2048 = b.val; omega)
    | 1 => exact Fin.ext (by show (x 1).val / 128 = h.val; omega)
    | 2 => exact Fin.ext (by show (x 0).val % 2048 = p.val; omega)
    | 3 => rfl
  · funext i
    match i with
    | 0 => exact Fin.ext (by show (x 0).val / 2048 * 2048 + k.val = 2048 * b.val + k.val % 2048; omega)
    | 1 => exact Fin.ext (by show (x 1).val = 128 * h.val + d.val; omega)

/-- The greatest of the row's scores. -/
theorem top_eq (s : ℕ → EReal) : top s 2048 = Finset.univ.fold max ⊥ fun a : Fin 2048 => s a := by
  have h := top_add s 0 2048
  simp only [Nat.zero_add] at h
  rw [h]
  exact max_eq_right bot_le

/-- The reference's result is the attention, where the greatest score of each row is a real number. -/
theorem ref_apply (S : FVec Ideal S4x16x2048x2048 .f32) (hS : S = sco Q K C)
    (x : S8192x2048.Idx) (b : Fin 4) (h : Fin 16) (p : Fin 2048) (d : Fin 128)
    (h0 : (x 0).val = 2048 * b.val + p.val) (h1 : (x 1).val = 128 * h.val + d.val)
    {M : ℝ} (hM : top (score Q K C b h p) 2048 = M) :
    wei V (soft (expo S (gre S))) x = attn Q K V C b h p d := by
  have e1 : ∀ k : Fin 2048, S (ix4 b h p k) = score Q K C b h p k := fun k => by rw [hS]; exact sco_apply Q K C b h p k
  have e2 : ∀ k : Fin 2048, expo S (gre S) (ix4 b h p k) = Ideal.exp (score Q K C b h p k - top (score Q K C b h p) 2048) := fun k => by
    rw [expo_apply, gre_apply, top_eq, e1]
    exact congrArg (fun z : EReal => Ideal.exp (_ - z)) (Finset.fold_congr fun a _ => e1 a)
  refine (wei_apply V _ x b h p d h0 h1).trans ?_
  refine Eq.trans ?_ (num_div_den hM (by norm_num)).symm
  rw [Finset.sum_range]
  refine Finset.sum_congr rfl fun k _ => congrArg₂ (· * ·) ?_ rfl
  rw [soft_apply, e2]
  refine congrArg (Ideal.div _) ?_
  unfold den
  rw [Finset.sum_range]
  exact Finset.sum_congr rfl fun a _ => e2 a

end Cert.FoxRef
-- ==== Proof.Fox.Finite.lean ====
/-
  What the precondition says: every query, key and decay is a real number; and so the greatest score of each row is.
-/
module

public import proofs.«01_k».proof.Defs
public import proofs.«01_k».proof.Proof.Gen.Pre_finite
public import Idealize.ShloMosaic.Lib.ReduceAll
public import proofs.«01_k».proof.Proof.Fox.Point

@[expose] public section

set_option maxRecDepth 16384

noncomputable section

namespace Cert.FoxRef

open Idealize.ShloMosaic Idealize.ShloMosaic.TcCoe Idealize.SL.Sem Cert.Pre_finite Cert.Pre_finite.Gen Cert.Fox

instance : Subsingleton S_.Idx := ⟨fun a b => funext fun i => i.elim0⟩

/-- A value below `+∞` in size is a real number. -/
theorem real_of_lt {x : EReal} (h : FloatOps.cmpf (F := Ideal) .olt (φ := .f32) (FloatOps.absf (F := Ideal) (φ := .f32) x) (Ideal.ofBits .f32 0x7F800000#32) = 1#1) : ∃ r : ℝ, x = r := by
  rw [show Ideal.ofBits .f32 0x7F800000#32 = ⊤ by decide +kernel, Ideal.cmpf_def, Ideal.absf_def] at h
  induction x with
  | bot => simp [Ideal.cmp] at h
  | top => simp [Ideal.cmp] at h
  | coe r => exact ⟨r, rfl⟩

/-- Where a conjunction of comparisons with `+∞` is 1, every element compared is a real number. -/
theorem real_of_all {s : Shape} (x : FVec Ideal s .f32) (hb : S_.BroadcastsInDim s (![] : Fin 0 → Fin s.rank)) {axes : List (Fin s.rank)}
    (hr : s.ReducesTo axes S_) (hu : 0 < S_.numel) (j : S_.Idx)
    (h : Host.reduce IntOp.andi (cmpf .olt (Host.absf x) (broadcastInDim s ![] hb (constant S_ .f32 0x7F800000#32))) (constantI S_ 1 1#1) hr hu j = 1#1)
    (i : s.Idx) : ∃ r : ℝ, x i = (r : EReal) :=
  real_of_lt (Host.reduce_andi_all _ _ hr hu j h i)

/-- What the precondition says of its arguments. -/
theorem real_of_pre (q k v : FVec Ideal S8192x2048 .f32) (c : FVec Ideal S8192x128 .f32) (h : Cert.Pre_finite.fn q k v c = fun _ => 1#1) :
    (∀ i, ∃ r : ℝ, q i = (r : EReal)) ∧ (∀ i, ∃ r : ℝ, k i = (r : EReal)) ∧ (∀ i, ∃ r : ℝ, c i = (r : EReal)) := by
  have h0 := congrFun h ix0
  dsimp only [fn] at h0
  obtain ⟨h1, hc⟩ := IntOp.andi_eq_one.1 h0
  obtain ⟨hq, hk⟩ := IntOp.andi_eq_one.1 h1
  exact ⟨real_of_all q _ _ _ _ hq, real_of_all k _ _ _ _ hk, real_of_all c _ _ _ _ hc⟩

/-- The greatest score of a row of real queries, keys and decays is a real number. -/
theorem top_real {Q K : S8192x2048.Idx → EReal} {C : S8192x128.Idx → EReal} (hq : ∀ i, ∃ r : ℝ, Q i = (r : EReal)) (hk : ∀ i, ∃ r : ℝ, K i = (r : EReal))
    (hc : ∀ i, ∃ r : ℝ, C i = (r : EReal)) (b : Fin 4) (h : Fin 16) (p : ℕ) : ∃ M : ℝ, top (score Q K C b h p) 2048 = M := by
  choose q hq using hq
  choose k hk using hk
  choose c hc using hc
  have hraw : ∀ a : ℕ, ∃ r : ℝ, raw Q K C b h p a = (r : EReal) := fun a => by
    refine ⟨(∑ d : Fin 128, q (ix2 (row b p) (col h d)) * k (ix2 (row b a) (col h d))) * (11863283 / 134217728)
      + c (ix2 (row b p) (lane h)) - c (ix2 (row b a) (lane h)), ?_⟩
    unfold raw
    simp only [hq, hk, hc, scl_eq, ← EReal.coe_mul, ← coe_sum']
    rw [← EReal.coe_add, ← EReal.coe_sub]
  have hlt : top (score Q K C b h p) 2048 < ⊤ := by
    refine (Finset.sup_lt_iff bot_lt_top).2 fun a _ => ?_
    unfold score
    split_ifs
    · obtain ⟨r, hr⟩ := hraw a
      rw [hr]; exact EReal.coe_lt_top r
    · exact bot_lt_top
  have hge : ⊥ < top (score Q K C b h p) 2048 := by
    refine lt_of_lt_of_le ?_ (le_top_of_lt (s := score Q K C b h p) (k := 0) (by norm_num))
    unfold score
    rw [if_pos (Nat.zero_le p)]
    obtain ⟨r, hr⟩ := hraw 0
    rw [hr]; exact EReal.bot_lt_coe r
  exact ⟨(top (score Q K C b h p) 2048).toReal, (EReal.coe_toReal hlt.ne hge.ne').symm⟩

end Cert.FoxRef
-- ==== Proof.Fox.Head.lean ====
/-
  The heads of a grid point at the end of its body: the loop's sums, then the masked last block, then the division.
-/
module

public import proofs.«01_k».proof.Proof.Fox.Point

@[expose] public section

set_option maxRecDepth 16384

noncomputable section

namespace Cert.Fox

open Idealize.ShloMosaic Idealize.ShloMosaic.TcCoe Idealize.SL.Sem Cert.KernelIdeal Cert.KernelIdeal.Gen

variable (m : (ℓ : Loc nD τ sig) → Buf (Elt Ideal) ℓ) (c : Dev nD)

/-- The scores and the values of the four heads of grid point `t`. -/
abbrev sT (t : Fin cfg0.N) (j : Fin 4) (r : Fin 256) : ℕ → EReal :=
  score (Qa m c) (Ka m c) (Ca m c) (bt t) (hd (gt t) j) (256 * (it t).val + r.val)
abbrev vT (t : Fin cfg0.N) (j : Fin 4) (d : Fin 128) : ℕ → EReal := val (Va m c) (bt t) (hd (gt t) j) d

/-- The blocks of queries and of their decay. -/
abbrev xq (t : Fin cfg0.N) : S256x512.Idx → EReal := iblk m c 0 t
abbrev xc (t : Fin cfg0.N) : S256x128.Idx → EReal := iblk m c 3 t

/-- What a head's queries and their decay are, as the body computes them before the loop. -/
structure Query (t : Fin cfg0.N) (j : Fin 4) (q : FVec Ideal S256x128 .bf16) (cq : FVec Ideal S256x1 .f32) : Prop where
  hq : ∀ (r : Fin 256) (d : Fin 128), q (ix2 r d) = xq m c t (ix2 r ⟨128 * j.val + d.val, by omega⟩) * scl
  hcq : ∀ r : Fin 256, cq (ix2 r 0) = xc m c t (ix2 r (lane (hd (gt t) j)))

theorem query0 (t : Fin cfg0.N) (hk) : Query m c t 0
    (k0_pay41 (View.ld (Val := Elt Ideal) (e' := .f32) (iblk m c 0 t) (Rect.unit (s := S256x512) ![0, 0] ![256, 128] hk)))
    (k0_pay42 (grid0.coords t) (iblk m c 3 t)) where
  hq r d := by
    pointwise [k0_pay41]
    rfl
  hcq r := (pay42_apply _ _ r).trans (congrArg _ (congrArg (ix2 r) (Fin.ext (by simp [co t]))))
theorem query1 (t : Fin cfg0.N) (hk) : Query m c t 1
    (k0_pay43 (View.ld (Val := Elt Ideal) (e' := .f32) (iblk m c 0 t) (Rect.unit (s := S256x512) ![0, 128] ![256, 128] hk)))
    (k0_pay44 (grid0.coords t) (iblk m c 3 t)) where
  hq r d := by
    pointwise [k0_pay43]
    rfl
  hcq r := (pay44_apply _ _ r).trans (congrArg _ (congrArg (ix2 r) (Fin.ext (by simp [co t]))))
theorem query2 (t : Fin cfg0.N) (hk) : Query m c t 2
    (k0_pay45 (View.ld (Val := Elt Ideal) (e' := .f32) (iblk m c 0 t) (Rect.unit (s := S256x512) ![0, 256] ![256, 128] hk)))
    (k0_pay48 (iblk m c 3 t) (k0_pay46 (grid0.coords t)) k0_pay47) where
  hq r d := by
    pointwise [k0_pay45]
    rfl
  hcq r := (pay48_apply _ _ r).trans (congrArg _ (congrArg (ix2 r) (Fin.ext (by simp [co t]))))
theorem query3 (t : Fin cfg0.N) (hk) : Query m c t 3
    (k0_pay49 (View.ld (Val := Elt Ideal) (e' := .f32) (iblk m c 0 t) (Rect.unit (s := S256x512) ![0, 384] ![256, 128] hk)))
    (k0_pay50 (BitVec.ofNat 32 (grid0.coords t 1).val) (iota .tc S256x128 32 [1] iota_S256x128_d1_w32) (iblk m c 3 t)) where
  hq r d := by
    pointwise [k0_pay49]
    rfl
  hcq r := (pay50_apply _ _ r).trans (congrArg _ (congrArg (ix2 r) (Fin.ext (by simp [co t]))))

/-- A head after the masked last block. -/
theorem head_fin (t : Fin cfg0.N) (j : Fin 4) {M L : FVec Ideal S256x1 .f32} {A : FVec Ideal S256x128 .f32}
    (h : Holds (sT m c t j) (vT m c t j) (512 * (t.val % 8 / 2)) M L A)
    {q : FVec Ideal S256x128 .bf16} {cq : FVec Ideal S256x1 .f32} (hq : Query m c t j q cq)
    {w : BitVec 32} (hw : w = BitVec.ofNat 32 (t.val % 8 / 2))
    {ok : Fin 2 → ℕ} (eok : ok = ![512 * (t.val % 8 / 2), 128 * j.val])
    {oc : Fin 3 → ℕ} (eoc : oc = ![0, (hd (gt t) j).val, 512 * (t.val % 8 / 2)]) (hk hv hc) (r : Fin 256) (d : Fin 128) :
    fin (lNew M L (msk (BitVec.ofNat 32 (grid0.coords t 2).val) w (sc q cq
          (View.ld (Val := Elt Ideal) (e' := .f32) (iblk m c 1 t) (Rect.unit (s := S2048x512) ok ![512, 128] hk))
          (View.ld (Val := Elt Ideal) (e' := .f32) (iblk m c 4 t) (Rect.unit (s := S1x16x2048) oc ![1, 1, 512] hc)))))
        (aNew M A (msk (BitVec.ofNat 32 (grid0.coords t 2).val) w (sc q cq
          (View.ld (Val := Elt Ideal) (e' := .f32) (iblk m c 1 t) (Rect.unit (s := S2048x512) ok ![512, 128] hk))
          (View.ld (Val := Elt Ideal) (e' := .f32) (iblk m c 4 t) (Rect.unit (s := S1x16x2048) oc ![1, 1, 512] hc))))
          (vb (View.ld (Val := Elt Ideal) (e' := .f32) (iblk m c 2 t) (Rect.unit (s := S2048x512) ok ![512, 128] hv)))) (ix2 r d)
      = attn (Qa m c) (Ka m c) (Va m c) (Ca m c) (bt t) (hd (gt t) j) (256 * (it t).val + r.val) d := by
  subst hw
  have hn : 512 * (t.val % 8 / 2) + 512 ≤ 2048 := by omega
  have hs := holds_step (S := msk (BitVec.ofNat 32 (grid0.coords t 2).val) (BitVec.ofNat 32 (t.val % 8 / 2)) (sc q cq
          (View.ld (Val := Elt Ideal) (e' := .f32) (iblk m c 1 t) (Rect.unit (s := S2048x512) ok ![512, 128] hk))
          (View.ld (Val := Elt Ideal) (e' := .f32) (iblk m c 4 t) (Rect.unit (s := S1x16x2048) oc ![1, 1, 512] hc)))) h
    (fun r a => by
      rw [(co t).2.2, msk_apply _ _ (by omega) (by omega), blk_raw (blocks m c t) j hn hq.hq hq.hcq eok eoc]
      rfl)
    (fun a d => blk_val (blocks m c t) j hn eok hv a d)
  have hm : ∀ k, 512 * (t.val % 8 / 2) + 512 ≤ k → k < 2048 → sT m c t j r k = ⊥ := fun k h1 _ => by
    refine if_neg ?_
    have := r.isLt
    show ¬ k ≤ 256 * (t.val % 8) + r.val
    omega
  refine (fin_apply hs r d).trans ?_
  rw [attn, num_of_masked hn hm, den_of_masked hn hm]

section
variable {𝒱 : Variants} {bd : Option 𝒱.V}
  {arg3 : Memref sig .tc .vmem S256x512 .f32} {harg3 : arg3.IsWhole}
  {arg4 : Memref sig .tc .vmem S2048x512 .f32} {harg4 : arg4.IsWhole}
  {arg5 : Memref sig .tc .vmem S2048x512 .f32} {harg5 : arg5.IsWhole}
  {arg6 : Memref sig .tc .vmem S256x128 .f32} {harg6 : arg6.IsWhole}
  {arg7 : Memref sig .tc .vmem S1x16x2048 .f32} {harg7 : arg7.IsWhole}
  {arg8 : Memref sig .tc .vmem S256x512 .bf16} {harg8 : arg8.IsWhole} {arg1 arg2 : BitVec 32}
  {v5 : FVec Ideal S256x128 .bf16} {v13 : FVec Ideal S256x1 .f32}
  {v17 : FVec Ideal S256x128 .bf16} {v25 : FVec Ideal S256x1 .f32}
  {v29 : FVec Ideal S256x128 .bf16} {v37 : FVec Ideal S256x1 .f32}
  {v41 : FVec Ideal S256x128 .bf16} {v49 : FVec Ideal S256x1 .f32}
  {v67 : BitVec 32} {v68 v69 : FVec Ideal S256x1 .f32} {v70 : FVec Ideal S256x128 .f32}
  {v71 v72 : FVec Ideal S256x1 .f32} {cst_31 : Ideal .f32}

theorem loop_at (t : Fin cfg0.N) (q0 : Query m c t 0 v5 v13) (q1 : Query m c t 1 v17 v25) (q2 : Query m c t 2 v29 v37)
    (q3 : Query m c t 3 v41 v49) {init : Acc} (h0 : Holds4 (sT m c t) (vT m c t) 0 init) {N : ℕ}
    (hN : N = (k0_t1_loop (grid0.coords t)).trips) :
    Holds4 (sT m c t) (vT m c t) (512 * (t.val % 8 / 2)) (st_k0_t1 𝒱 c bd (grid0.coords t) arg3 harg3 arg4 harg4 arg5 harg5 arg6 harg6 arg7 harg7 arg8 harg8 arg1 arg2 v5 v13 v17 v25 v29 v37 v41 v49 v67 v68 v69 v70 v71 v72 cst_31 (harg4.unread (iblk m c 1 t)) (harg5.unread (iblk m c 2 t)) (harg7.unread (iblk m c 4 t)) init N) := by
  subst hN
  have key := holds_loop 𝒱 c bd (grid0.coords t) arg3 harg3 arg4 harg4 arg5 harg5 arg6 harg6 arg7 harg7 arg8 harg8 arg1 arg2 v5 v13 v17 v25 v29 v37 v41 v49 v67 v68 v69 v70 v71 v72 cst_31 (iblk m c 1 t) (iblk m c 2 t) (iblk m c 4 t) (sT m c t) (vT m c t) init h0 (fun k => by
    have hk : k.val < t.val % 8 / 2 := lt_of_lt_of_eq k.isLt (trips1 t)
    have hn : 512 * k.val + 512 ≤ 2048 := by omega
    have hle : ∀ (j : Fin 4) (r : Fin 256) (a : Fin 512),
        raw (Qa m c) (Ka m c) (Ca m c) (bt t) (hd (gt t) j) (256 * (it t).val + r) (512 * k.val + a)
          = sT m c t j r (512 * k.val + a) := fun j r a => by
      refine (if_pos ?_).symm
      show 512 * k.val + a.val ≤ 256 * (t.val % 8) + r.val
      omega
    have o2 : ∀ j : Fin 4, k0_off2 (grid0.coords t) k (BitVec.ofNat 32 j.val) = ![0, (hd (gt t) j).val, 512 * k.val] := off2 t k
    exact {
      s0 := fun hk hc r a => (blk_raw (blocks m c t) 0 hn q0.hq q0.hcq (off1 t k) (o2 0) hk hc r a).trans (hle 0 r a)
      v0 := fun hk a d => blk_val (blocks m c t) 0 hn (off1 t k) hk a d
      s1 := fun hk hc r a => (blk_raw (blocks m c t) 1 hn q1.hq q1.hcq (off3 t k) (o2 1) hk hc r a).trans (hle 1 r a)
      v1 := fun hk a d => blk_val (blocks m c t) 1 hn (off3 t k) hk a d
      s2 := fun hk hc r a => (blk_raw (blocks m c t) 2 hn q2.hq q2.hcq (off4 t k) (o2 2) hk hc r a).trans (hle 2 r a)
      v2 := fun hk a d => blk_val (blocks m c t) 2 hn (off4 t k) hk a d
      s3 := fun hk hc r a => (blk_raw (blocks m c t) 3 hn q3.hq q3.hcq (off5 t k) (o2 3) hk hc r a).trans (hle 3 r a)
      v3 := fun hk a d => blk_val (blocks m c t) 3 hn (off5 t k) hk a d }) _ le_rfl
  rw [trips1 t] at key ⊢
  exact key

/-- The second loop never runs. -/
theorem loop2_at (t : Fin cfg0.N) {v84 : BitVec 32} {s v n} {init : Acc} (h0 : Holds4 s v n init) {N : ℕ}
    (hN : N = (k0_t2_loop (grid0.coords t)).trips) :
    Holds4 s v n (st_k0_t2 𝒱 c bd (grid0.coords t) arg3 harg3 arg4 harg4 arg5 harg5 arg6 harg6 arg7 harg7 arg8 harg8 arg1 arg2 v5 v13 v17 v25 v29 v37 v41 v49 v67 v68 v69 v70 v71 v72 cst_31 v84 (harg4.unread (iblk m c 1 t)) (harg5.unread (iblk m c 2 t)) (harg7.unread (iblk m c 4 t)) init N) := by
  rw [trips2 t] at hN
  subst hN
  exact h0

/-- Both loops, the second from what the first leaves. -/
theorem loops_at (t : Fin cfg0.N) {v84 : BitVec 32} {init : Acc} {N N2 : ℕ} (q0 : Query m c t 0 v5 v13) (q1 : Query m c t 1 v17 v25)
    (q2 : Query m c t 2 v29 v37) (q3 : Query m c t 3 v41 v49) (h0 : Holds4 (sT m c t) (vT m c t) 0 init)
    (hN : N = (k0_t1_loop (grid0.coords t)).trips) (hN2 : N2 = (k0_t2_loop (grid0.coords t)).trips) :
    Holds4 (sT m c t) (vT m c t) (512 * (t.val % 8 / 2)) (st_k0_t2 𝒱 c bd (grid0.coords t) arg3 harg3 arg4 harg4 arg5 harg5 arg6 harg6 arg7 harg7 arg8 harg8 arg1 arg2 v5 v13 v17 v25 v29 v37 v41 v49 v67 v68 v69 v70 v71 v72 cst_31 v84 (harg4.unread (iblk m c 1 t)) (harg5.unread (iblk m c 2 t)) (harg7.unread (iblk m c 4 t)) (
      (st_k0_t1 𝒱 c bd (grid0.coords t) arg3 harg3 arg4 harg4 arg5 harg5 arg6 harg6 arg7 harg7 arg8 harg8 arg1 arg2 v5 v13 v17 v25 v29 v37 v41 v49 v67 v68 v69 v70 v71 v72 cst_31 (harg4.unread (iblk m c 1 t)) (harg5.unread (iblk m c 2 t)) (harg7.unread (iblk m c 4 t)) init N).1,
      (st_k0_t1 𝒱 c bd (grid0.coords t) arg3 harg3 arg4 harg4 arg5 harg5 arg6 harg6 arg7 harg7 arg8 harg8 arg1 arg2 v5 v13 v17 v25 v29 v37 v41 v49 v67 v68 v69 v70 v71 v72 cst_31 (harg4.unread (iblk m c 1 t)) (harg5.unread (iblk m c 2 t)) (harg7.unread (iblk m c 4 t)) init N).2.1,
      (st_k0_t1 𝒱 c bd (grid0.coords t) arg3 harg3 arg4 harg4 arg5 harg5 arg6 harg6 arg7 harg7 arg8 harg8 arg1 arg2 v5 v13 v17 v25 v29 v37 v41 v49 v67 v68 v69 v70 v71 v72 cst_31 (harg4.unread (iblk m c 1 t)) (harg5.unread (iblk m c 2 t)) (harg7.unread (iblk m c 4 t)) init N).2.2.1,
      (st_k0_t1 𝒱 c bd (grid0.coords t) arg3 harg3 arg4 harg4 arg5 harg5 arg6 harg6 arg7 harg7 arg8 harg8 arg1 arg2 v5 v13 v17 v25 v29 v37 v41 v49 v67 v68 v69 v70 v71 v72 cst_31 (harg4.unread (iblk m c 1 t)) (harg5.unread (iblk m c 2 t)) (harg7.unread (iblk m c 4 t)) init N).2.2.2.1,
      (st_k0_t1 𝒱 c bd (grid0.coords t) arg3 harg3 arg4 harg4 arg5 harg5 arg6 harg6 arg7 harg7 arg8 harg8 arg1 arg2 v5 v13 v17 v25 v29 v37 v41 v49 v67 v68 v69 v70 v71 v72 cst_31 (harg4.unread (iblk m c 1 t)) (harg5.unread (iblk m c 2 t)) (harg7.unread (iblk m c 4 t)) init N).2.2.2.2.1,
      (st_k0_t1 𝒱 c bd (grid0.coords t) arg3 harg3 arg4 harg4 arg5 harg5 arg6 harg6 arg7 harg7 arg8 harg8 arg1 arg2 v5 v13 v17 v25 v29 v37 v41 v49 v67 v68 v69 v70 v71 v72 cst_31 (harg4.unread (iblk m c 1 t)) (harg5.unread (iblk m c 2 t)) (harg7.unread (iblk m c 4 t)) init N).2.2.2.2.2.1,
      (st_k0_t1 𝒱 c bd (grid0.coords t) arg3 harg3 arg4 harg4 arg5 harg5 arg6 harg6 arg7 harg7 arg8 harg8 arg1 arg2 v5 v13 v17 v25 v29 v37 v41 v49 v67 v68 v69 v70 v71 v72 cst_31 (harg4.unread (iblk m c 1 t)) (harg5.unread (iblk m c 2 t)) (harg7.unread (iblk m c 4 t)) init N).2.2.2.2.2.2.1,
      (st_k0_t1 𝒱 c bd (grid0.coords t) arg3 harg3 arg4 harg4 arg5 harg5 arg6 harg6 arg7 harg7 arg8 harg8 arg1 arg2 v5 v13 v17 v25 v29 v37 v41 v49 v67 v68 v69 v70 v71 v72 cst_31 (harg4.unread (iblk m c 1 t)) (harg5.unread (iblk m c 2 t)) (harg7.unread (iblk m c 4 t)) init N).2.2.2.2.2.2.2.1,
      (st_k0_t1 𝒱 c bd (grid0.coords t) arg3 harg3 arg4 harg4 arg5 harg5 arg6 harg6 arg7 harg7 arg8 harg8 arg1 arg2 v5 v13 v17 v25 v29 v37 v41 v49 v67 v68 v69 v70 v71 v72 cst_31 (harg4.unread (iblk m c 1 t)) (harg5.unread (iblk m c 2 t)) (harg7.unread (iblk m c 4 t)) init N).2.2.2.2.2.2.2.2.1,
      (st_k0_t1 𝒱 c bd (grid0.coords t) arg3 harg3 arg4 harg4 arg5 harg5 arg6 harg6 arg7 harg7 arg8 harg8 arg1 arg2 v5 v13 v17 v25 v29 v37 v41 v49 v67 v68 v69 v70 v71 v72 cst_31 (harg4.unread (iblk m c 1 t)) (harg5.unread (iblk m c 2 t)) (harg7.unread (iblk m c 4 t)) init N).2.2.2.2.2.2.2.2.2.1,
      (st_k0_t1 𝒱 c bd (grid0.coords t) arg3 harg3 arg4 harg4 arg5 harg5 arg6 harg6 arg7 harg7 arg8 harg8 arg1 arg2 v5 v13 v17 v25 v29 v37 v41 v49 v67 v68 v69 v70 v71 v72 cst_31 (harg4.unread (iblk m c 1 t)) (harg5.unread (iblk m c 2 t)) (harg7.unread (iblk m c 4 t)) init N).2.2.2.2.2.2.2.2.2.2.1,
      (st_k0_t1 𝒱 c bd (grid0.coords t) arg3 harg3 arg4 harg4 arg5 harg5 arg6 harg6 arg7 harg7 arg8 harg8 arg1 arg2 v5 v13 v17 v25 v29 v37 v41 v49 v67 v68 v69 v70 v71 v72 cst_31 (harg4.unread (iblk m c 1 t)) (harg5.unread (iblk m c 2 t)) (harg7.unread (iblk m c 4 t)) init N).2.2.2.2.2.2.2.2.2.2.2) N2) := by
  refine loop2_at m c t ?_ hN2
  have h := loop_at m c t (𝒱 := 𝒱) (bd := bd) (arg3 := arg3) (harg3 := harg3) (arg4 := arg4) (harg4 := harg4) (arg5 := arg5)
    (harg5 := harg5) (arg6 := arg6) (harg6 := harg6) (arg7 := arg7) (harg7 := harg7) (arg8 := arg8) (harg8 := harg8)
    (arg1 := arg1) (arg2 := arg2) (v67 := v67) (v68 := v68) (v69 := v69) (v70 := v70) (v71 := v71) (v72 := v72)
    (cst_31 := cst_31) q0 q1 q2 q3 h0 hN
  exact ⟨h.h0, h.h1, h.h2, h.h3⟩

end

end Cert.Fox
-- ==== Proof.Fox.Value.lean ====
/-
  What the kernel's program leaves in the array of its result: the attention of every query, head and component. Every
  grid point stores four heads of 256 queries, and these rectangles cover the array.
-/
module

public import proofs.«01_k».proof.Proof.Fox.Head

@[expose] public section

set_option maxRecDepth 16384

noncomputable section

namespace Cert.KernelIdeal.Value

open Idealize.ShloMosaic Idealize.ShloMosaic.TcCoe Idealize.SL.Sem Cert.KernelIdeal Cert.KernelIdeal.Gen Cert.Fox
open Idealize.ShloMosaic.Pipeline (Dat)

variable (m : (ℓ : Loc nD τ sig) → Buf (Elt Ideal) ℓ)

/-- The attention at row `R`, column `J` of the result. -/
def out (c : Dev nD) : S8192x2048.Idx → EReal := fun x =>
  attn (Qa m c) (Ka m c) (Va m c) (Ca m c) ⟨(x 0).val / 2048, by have := (x 0).isLt; simp at this; omega⟩
    ⟨(x 1).val / 128, by have := (x 1).isLt; simp at this; omega⟩ ((x 0).val % 2048) ⟨(x 1).val % 128, by omega⟩

/-- Each head's stored piece is the last step of `Step`, divided. -/
theorem piece0 (M L : FVec Ideal S256x1 .f32) (A : FVec Ideal S256x128 .f32) (q : FVec Ideal S256x128 .bf16)
    (cq : FVec Ideal S256x1 .f32) (K V : FVec Ideal S512x128 .f32) (ct : FVec Ideal S1x1x512 .f32) (a w : BitVec 32) :
    k0_pay1 (k0_pay89 M L (k0_pay82 q cq K ct) (k0_pay83 a) (k0_pay84 w))
        (k0_pay90 M A (k0_pay81 V) (k0_pay82 q cq K ct) (k0_pay83 a) (k0_pay84 w))
      = fin (lNew M L (msk a w (sc q cq K ct))) (aNew M A (msk a w (sc q cq K ct)) (vb V)) := rfl
theorem piece1 (M L : FVec Ideal S256x1 .f32) (A : FVec Ideal S256x128 .f32) (q : FVec Ideal S256x128 .bf16)
    (cq : FVec Ideal S256x1 .f32) (K V : FVec Ideal S512x128 .f32) (ct : FVec Ideal S1x1x512 .f32) (a w : BitVec 32) :
    k0_pay2 (k0_pay99 M L (k0_pay92 q cq K ct) (k0_pay93 a w) k0_pay94)
        (k0_pay100 M A (k0_pay91 V) (k0_pay92 q cq K ct) (k0_pay93 a w) k0_pay94)
      = fin (lNew M L (msk a w (sc q cq K ct))) (aNew M A (msk a w (sc q cq K ct)) (vb V)) := rfl
theorem piece2 (M L : FVec Ideal S256x1 .f32) (A : FVec Ideal S256x128 .f32) (q : FVec Ideal S256x128 .bf16)
    (cq : FVec Ideal S256x1 .f32) (K V : FVec Ideal S512x128 .f32) (ct : FVec Ideal S1x1x512 .f32) (a w : BitVec 32) :
    k0_pay3 (k0_pay107 M L (k0_pay102 a q cq w K ct) (k0_pay103 a q cq w K ct))
        (k0_pay108 M A (k0_pay101 V) (k0_pay102 a q cq w K ct) (k0_pay103 a q cq w K ct))
      = fin (lNew M L (msk a w (sc q cq K ct))) (aNew M A (msk a w (sc q cq K ct)) (vb V)) := rfl
theorem piece3 (M L : FVec Ideal S256x1 .f32) (A : FVec Ideal S256x128 .f32) (q : FVec Ideal S256x128 .bf16)
    (cq : FVec Ideal S256x1 .f32) (K V : FVec Ideal S512x128 .f32) (ct : FVec Ideal S1x1x512 .f32) (a w : BitVec 32) :
    k0_pay4 M L A (k0_pay109 V) (k0_pay110 a q cq w K ct) (k0_pay111 a q cq w M K ct) (k0_pay112 a q cq w M K ct)
      = fin (lNew M L (msk a w (sc q cq K ct))) (aNew M A (msk a w (sc q cq K ct)) (vb V)) := rfl

theorem out_at (c : Dev nD) (x : S8192x2048.Idx) (b : Fin 4) (h : Fin 16) (p : ℕ) (d : Fin 128) (hp : p < 2048)
    (h0 : (x 0).val = 2048 * b.val + p) (h1 : (x 1).val = 128 * h.val + d.val) :
    attn (Qa m c) (Ka m c) (Va m c) (Ca m c) b h p d = out m c x := by
  have eb : (⟨(x 0).val / 2048, by have := (x 0).isLt; simp at this; omega⟩ : Fin 4) = b := Fin.ext (by simp only [h0]; omega)
  have eh : (⟨(x 1).val / 128, by have := (x 1).isLt; simp at this; omega⟩ : Fin 16) = h := Fin.ext (by simp only [h1]; omega)
  have ed : (⟨(x 1).val % 128, by omega⟩ : Fin 128) = d := Fin.ext (by simp only [h1]; omega)
  have ep : (x 0).val % 2048 = p := by omega
  unfold out
  rw [eb, eh, ed, ep]

theorem final (c : Dev nD) : (dats m 0 c).arrAt 5 (cfgs 0).N = out m c := by
  refine (dats m 0 c).arrAt_eq_of_covers 5 _ (by decide +kernel) fun t _ y => ?_
  blk_simp
  rw [after0_5]
  unfold Gen.outsAt0
  frame_out
  generalize hB : st_k0_t1 (F := Ideal) _ _ _ _ _ _ _ _ _ _ _ _ _ _ _ _ _ _ _ _ _ _ _ _ _ _ _ _ _ _ _ _ _ _ _ _ _ _ = B
  generalize hA : st_k0_t2 (F := Ideal) _ _ _ _ _ _ _ _ _ _ _ _ _ _ _ _ _ _ _ _ _ _ _ _ _ _ _ _ _ _ _ _ _ _ _ _ _ _ _ = A
  have hH1 : Holds4 (sT m c t) (vT m c t) (512 * (t.val % 8 / 2)) B := by
    rw [← hB]
    refine loop_at m c t ?_ ?_ ?_ ?_ ?_ ?_
    · exact query0 m c t _
    · exact query1 m c t _
    · exact query2 m c t _
    · exact query3 m c t _
    · exact ⟨holds_init _ _, holds_init _ _, holds_init _ _, holds_init _ _⟩
    · rfl
  have hH : Holds4 (sT m c t) (vT m c t) (512 * (t.val % 8 / 2)) A := by
    rw [← hA]
    refine loop2_at m c t ?_ ?_
    · exact ⟨hH1.h0, hH1.h1, hH1.h2, hH1.h3⟩
    · rfl
  clear hB hA hH1
  canon_tiles x h
  · refine (congrFun (piece3 _ _ _ _ _ _ _ _ _ _) x).trans ?_
    obtain ⟨r, d, rfl⟩ : ∃ r d, x = ix2 r d := ⟨x 0, x 1, by funext a; match a with | 0 => rfl | 1 => rfl⟩
    refine (head_fin m c t 3 hH.h3 (query3 m c t _) ?_ (off15 t) (off12 t 3) _ _ _ _ _).trans ?_
    · clear * - t
      revert t
      decide +kernel
    · have e0 : (((View.whole main_v3).slice (win0_5.rect t)).emb y 0).val = (t.val / 32 * 8 + t.val % 8) * 256 + (y 0).val := by
        blk_simp [idx t]
      have e1 : (((View.whole main_v3).slice (win0_5.rect t)).emb y 1).val = (t.val / 8 % 4) * 512 + (y 1).val := by
        blk_simp [idx t]
      have ht : t.val < 128 := t.isLt
      have hr : (y 0).val = r.val := h0
      have hd : (y 1).val = 384 + d.val := h1
      exact out_at m c _ _ _ _ _ (by show 256 * (t.val % 8) + r.val < 2048; omega)
        (by rw [e0]; show _ = 2048 * (t.val / 32) + (256 * (t.val % 8) + r.val); omega)
        (by rw [e1]; show _ = 128 * (4 * (t.val / 8 % 4) + 3) + d.val; omega)
  · refine (congrFun (piece2 _ _ _ _ _ _ _ _ _ _) x).trans ?_
    obtain ⟨r, d, rfl⟩ : ∃ r d, x = ix2 r d := ⟨x 0, x 1, by funext a; match a with | 0 => rfl | 1 => rfl⟩
    refine (head_fin m c t 2 hH.h2 (query2 m c t _) ?_ (off14 t) (off12 t 2) _ _ _ _ _).trans ?_
    · clear * - t
      revert t
      decide +kernel
    · have e0 : (((View.whole main_v3).slice (win0_5.rect t)).emb y 0).val = (t.val / 32 * 8 + t.val % 8) * 256 + (y 0).val := by
        blk_simp [idx t]
      have e1 : (((View.whole main_v3).slice (win0_5.rect t)).emb y 1).val = (t.val / 8 % 4) * 512 + (y 1).val := by
        blk_simp [idx t]
      have ht : t.val < 128 := t.isLt
      have hr : (y 0).val = r.val := h0
      have hd : (y 1).val = 256 + d.val := h1
      exact out_at m c _ _ _ _ _ (by show 256 * (t.val % 8) + r.val < 2048; omega)
        (by rw [e0]; show _ = 2048 * (t.val / 32) + (256 * (t.val % 8) + r.val); omega)
        (by rw [e1]; show _ = 128 * (4 * (t.val / 8 % 4) + 2) + d.val; omega)
  · refine (congrFun (piece1 _ _ _ _ _ _ _ _ _ _) x).trans ?_
    obtain ⟨r, d, rfl⟩ : ∃ r d, x = ix2 r d := ⟨x 0, x 1, by funext a; match a with | 0 => rfl | 1 => rfl⟩
    refine (head_fin m c t 1 hH.h1 (query1 m c t _) ?_ (off13 t) (off12 t 1) _ _ _ _ _).trans ?_
    · clear * - t
      revert t
      decide +kernel
    · have e0 : (((View.whole main_v3).slice (win0_5.rect t)).emb y 0).val = (t.val / 32 * 8 + t.val % 8) * 256 + (y 0).val := by
        blk_simp [idx t]
      have e1 : (((View.whole main_v3).slice (win0_5.rect t)).emb y 1).val = (t.val / 8 % 4) * 512 + (y 1).val := by
        blk_simp [idx t]
      have ht : t.val < 128 := t.isLt
      have hr : (y 0).val = r.val := h0
      have hd : (y 1).val = 128 + d.val := h1
      exact out_at m c _ _ _ _ _ (by show 256 * (t.val % 8) + r.val < 2048; omega)
        (by rw [e0]; show _ = 2048 * (t.val / 32) + (256 * (t.val % 8) + r.val); omega)
        (by rw [e1]; show _ = 128 * (4 * (t.val / 8 % 4) + 1) + d.val; omega)
  · refine (congrFun (piece0 _ _ _ _ _ _ _ _ _ _) x).trans ?_
    obtain ⟨r, d, rfl⟩ : ∃ r d, x = ix2 r d := ⟨x 0, x 1, by funext a; match a with | 0 => rfl | 1 => rfl⟩
    refine (head_fin m c t 0 hH.h0 (query0 m c t _) ?_ (off11 t) (off12 t 0) _ _ _ _ _).trans ?_
    · clear * - t
      revert t
      decide +kernel
    · have e0 : (((View.whole main_v3).slice (win0_5.rect t)).emb y 0).val = (t.val / 32 * 8 + t.val % 8) * 256 + (y 0).val := by
        blk_simp [idx t]
      have e1 : (((View.whole main_v3).slice (win0_5.rect t)).emb y 1).val = (t.val / 8 % 4) * 512 + (y 1).val := by
        blk_simp [idx t]
      have ht : t.val < 128 := t.isLt
      have hr : (y 0).val = r.val := h0
      have hd : (y 1).val = 0 + d.val := (by simpa using h1)
      exact out_at m c _ _ _ _ _ (by show 256 * (t.val % 8) + r.val < 2048; omega)
        (by rw [e0]; show _ = 2048 * (t.val / 32) + (256 * (t.val % 8) + r.val); omega)
        (by rw [e1]; show _ = 128 * (4 * (t.val / 8 % 4) + 0) + d.val; omega)

end Cert.KernelIdeal.Value
-- ==== Proof.Fox.Equal.lean ====
/-
  The two programs' results are one array: the attention that the kernel leaves is what the reference computes.
-/
module

public import proofs.«01_k».proof.Proof.Fox.Ref
public import proofs.«01_k».proof.Proof.Fox.Finite
public import proofs.«01_k».proof.Proof.Fox.Value

@[expose] public section

set_option maxRecDepth 16384

noncomputable section

namespace Cert.FoxRef

open Idealize.ShloMosaic Idealize.ShloMosaic.TcCoe Idealize.SL.Sem Cert.Fox

/-- On launch memories that agree on the arguments, under the precondition. -/
theorem ref_out (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (hf : Cert.Pre_finite.fn (F := Ideal) (Qa m c) (Ka m c) (Va m c) (Ca m c) = fun _ => 1#1)
    (h0 : m' ((c.tc : Thread Cert.ReferenceIdeal.nD Cert.ReferenceIdeal.τ).loc Cert.ReferenceIdeal.main_arg0) = Qa m c)
    (h1 : m' ((c.tc : Thread Cert.ReferenceIdeal.nD Cert.ReferenceIdeal.τ).loc Cert.ReferenceIdeal.main_arg1) = Ka m c)
    (h2 : m' ((c.tc : Thread Cert.ReferenceIdeal.nD Cert.ReferenceIdeal.τ).loc Cert.ReferenceIdeal.main_arg2) = Va m c)
    (h3 : m' ((c.tc : Thread Cert.ReferenceIdeal.nD Cert.ReferenceIdeal.τ).loc Cert.ReferenceIdeal.main_arg3) = Ca m c) :
    Cert.ReferenceIdeal.Value.res_main_v36 m' c = Cert.KernelIdeal.Value.out m c := by
  obtain ⟨hq, hk, hc⟩ := real_of_pre _ _ _ _ hf
  refine (res_eq m' c _ rfl).trans ?_
  rw [h0, h1, h2, h3]
  funext x
  have hx0 : (x 0).val < 8192 := (x 0).isLt
  have hx1 : (x 1).val < 2048 := (x 1).isLt
  obtain ⟨M, hM⟩ := top_real hq hk hc ⟨(x 0).val / 2048, by omega⟩ ⟨(x 1).val / 128, by omega⟩ ((x 0).val % 2048)
  refine (ref_apply (Qa m c) (Ka m c) (Va m c) (Ca m c) _ rfl x ⟨(x 0).val / 2048, by omega⟩ ⟨(x 1).val / 128, by omega⟩
    ⟨(x 0).val % 2048, by omega⟩ ⟨(x 1).val % 128, by omega⟩ ?_ ?_ hM).trans rfl
  · show (x 0).val = 2048 * ((x 0).val / 2048) + (x 0).val % 2048; omega
  · show (x 1).val = 128 * ((x 1).val / 128) + (x 1).val % 128; omega

end Cert.FoxRef
-- ==== Proof.Fox.Claims.lean ====
/-
  The claims about the forgetting attention: the kernel's program and the reference's end with the same array.
-/
module

public import proofs.«01_k».proof.Proof.Fox.Equal
public import proofs.«01_k».proof.Proof.Gen.Kernel.Frame

@[expose] public section

set_option maxRecDepth 16384

noncomputable section

namespace Cert.FoxRef

open Idealize.ShloMosaic Idealize.ShloMosaic.TcCoe Idealize.SL.Sem Cert.Fox

/-- The reference ends with its arguments unchanged; it has no semaphore. -/
theorem frame_ref : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- From agreeing arguments, under the precondition, both programs end with the attention of those arguments. -/
theorem equal : Cert.algebraic_KernelIdeal_ReferenceIdeal_pre_finite (hKernelIdeal := Cert.KernelIdeal.Gen.facts)
    (hReferenceIdeal := Cert.ReferenceIdeal.Gen.facts) (hPre_finite := Cert.Pre_finite.Gen.facts) := by
  intro m g m' g' hpre hagree
  refine ⟨fun c => Cert.KernelIdeal.Value.out m c, ?_, ?_⟩
  · refine (θ_run Cert.KernelIdeal.defs _ _).mono (fun r h c => ⟨(h c).1.trans (Cert.KernelIdeal.Value.final m c), (h c).2⟩)
      (Cert.KernelIdeal.Value.run_blocks (F := Ideal) m g)
  · refine (θ_run Cert.ReferenceIdeal.defs _ _).mono (fun r h c => ⟨(h c).1.trans ?_, (h c).2⟩)
      (Cert.ReferenceIdeal.Value.run (F := Ideal) m' g')
    exact ref_out m m' c (hpre c) (hagree c).1 (hagree c).2.1 (hagree c).2.2.1 (hagree c).2.2.2

end Cert.FoxRef
-- ==== Proof.Mm.Common.lean ====
/-
  What the matrix products share: a weight block held in scratch from the first row block of its column block on, and
  the product's payloads read at one element. The programs print the same payloads at the same shapes.
-/
module

public import Idealize.ShloMosaic.Lib.Pipeline.ValueKit
public import proofs.«01_k».proof.Proof.Gen.Kernel2Ideal.Skeleton
public import proofs.«01_k».proof.Proof.Gen.Kernel5Ideal.Skeleton
public import proofs.«01_k».proof.Proof.Gen.Kernel4Ideal.Skeleton
public import proofs.«01_k».proof.Proof.Gen.Kernel6Ideal.Skeleton

@[expose] public section

set_option maxRecDepth 16384

noncomputable section

namespace Cert.Mm

open Idealize.ShloMosaic Idealize.ShloMosaic.TcCoe Idealize.SL.Sem

/-- What is set at every multiple of `p` and kept at the points between holds throughout. -/
theorem carried {α : Type} {N p : ℕ} (S : (n : ℕ) → n < N → α) (P : ℕ → α → Prop)
    (hA : ∀ n (h : n < N), n % p = 0 → P (n / p) (S n h))
    (hB : ∀ n (h : n < N), ¬n % p = 0 → S n h = S (n - 1) (Nat.lt_of_le_of_lt (Nat.sub_le _ _) h)) :
    ∀ n (h : n < N), P (n / p) (S n h) := by
  intro n
  induction n with
  | zero => exact fun h => hA 0 h (Nat.zero_mod _)
  | succ n ih =>
    intro h
    by_cases h0 : (n + 1) % p = 0
    · exact hA _ h h0
    · rw [hB _ h h0]
      have e : (n + 1) / p = n / p := by
        have hd : ¬p ∣ n + 1 := fun hd => h0 (Nat.mod_eq_zero_of_dvd hd)
        rw [Nat.succ_div, if_neg hd, Nat.add_zero]
      rw [e]
      exact ih _

/-- A block's rows times the carried scratch, where the scratch is set to column block `n / p` of the weights at the
    multiples of `p` and the rows at point `n` are row block `n % p`: the product at the block's place. -/
theorem product {N p a b K M C : ℕ} (x : (n : ℕ) → n < N → (⟨2, ![a, K]⟩ : Shape).Idx → EReal)
    (s : (n : ℕ) → n < N → (⟨2, ![K, b]⟩ : Shape).Idx → EReal) (H : (⟨2, ![M, K]⟩ : Shape).Idx → EReal) (W : Fin K → Fin C → EReal)
    (hx : ∀ n h (r : Fin a) k (R : Fin M), R.val = n % p * a + r.val → x n h (ix2 r k) = H (ix2 R k))
    (hw : ∀ n h, n % p = 0 → ∀ k (j : Fin b) (J : Fin C), J.val = n / p * b + j.val → s n h (ix2 k j) = W k J)
    (hs : ∀ n (h : n < N), ¬n % p = 0 → s n h = s (n - 1) (Nat.lt_of_le_of_lt (Nat.sub_le _ _) h))
    (n : ℕ) (h : n < N) (r : Fin a) (j : Fin b) (R : Fin M) (J : Fin C) (hR : R.val = n % p * a + r.val) (hJ : J.val = n / p * b + j.val) :
    ∑ k, x n h (ix2 r k) * s n h (ix2 k j) = ∑ k, H (ix2 R k) * W k J :=
  Finset.sum_congr rfl fun k _ => congrArg₂ (· * ·) (hx n h r k R hR)
    (carried (p := p) s (fun q S => ∀ k (j : Fin b) (J : Fin C), J.val = q * b + j.val → S (ix2 k j) = W k J) hw hs n h k j J hJ)

section
open Cert.Kernel2Ideal Cert.Kernel2Ideal.Gen

/-- A weight block in scratch, at one element. -/
theorem weight_at (w : Vec Ideal Cert.Kernel5Ideal.S1x2048x1024 .f32) (k : Fin 2048) (j : Fin 1024) :
    Cert.Kernel5Ideal.Gen.k0_pay1 w (ix2 k j) = w (ix3 0 k j) := by
  pointwise [Cert.Kernel5Ideal.Gen.k0_pay1]

/-- The taller weight block of the contraction, at one element. -/
theorem tall_at (w : Vec Ideal Cert.Kernel6Ideal.S1x5632x512 .f32) (k : Fin 5632) (j : Fin 512) :
    Cert.Kernel6Ideal.Gen.k0_pay1 w (ix2 k j) = w (ix3 0 k j) := by
  pointwise [Cert.Kernel6Ideal.Gen.k0_pay1]

/-- A block of the product with the residual added, at one element. -/
theorem res_at_of (x : Vec Ideal S1024x2048 .bf16) {w w' : Vec Ideal S2048x1024 .bf16} (y : Vec Ideal S1024x1024 .f32) (r j : Fin 1024)
    (h : w = w') : Cert.Kernel4Ideal.Gen.k0_pay2 x w y (ix2 r j) = (∑ k : Fin 2048, x (ix2 r k) * w' (ix2 k j)) + y (ix2 r j) := by
  subst h
  pointwise [Cert.Kernel4Ideal.Gen.k0_pay2]
/-- The same for the contraction's blocks. -/
theorem tallRes_at_of (x : Vec Ideal Cert.Kernel6Ideal.S512x5632 .bf16) {w w' : Vec Ideal Cert.Kernel6Ideal.S5632x512 .bf16}
    (y : Vec Ideal Cert.Kernel6Ideal.S512x512 .f32) (r j : Fin 512)
    (h : w = w') : Cert.Kernel6Ideal.Gen.k0_pay2 x w y (ix2 r j) = (∑ k : Fin 5632, x (ix2 r k) * w' (ix2 k j)) + y (ix2 r j) := by
  subst h
  pointwise [Cert.Kernel6Ideal.Gen.k0_pay2]

/-- A transposed weight block in scratch, at one element. -/
theorem weightT_at (w : Vec Ideal S1x1024x2048 .f32) (k : Fin 2048) (j : Fin 1024) :
    k0_pay1 w (ix2 k j) = w (ix3 0 j k) := by
  pointwise [k0_pay1]

/-- A block of the product, at one element. -/
theorem dot_at (x : Vec Ideal S1024x2048 .bf16) (w : Vec Ideal S2048x1024 .bf16) (r j : Fin 1024) :
    k0_pay2 x w (ix2 r j) = ∑ k : Fin 2048, x (ix2 r k) * w (ix2 k j) := by
  pointwise [k0_pay2]
theorem dot_at_of (x : Vec Ideal S1024x2048 .bf16) {w w' : Vec Ideal S2048x1024 .bf16} (r j : Fin 1024) (h : w = w') :
    k0_pay2 x w (ix2 r j) = ∑ k : Fin 2048, x (ix2 r k) * w' (ix2 k j) := h ▸ dot_at x w r j

end

end Cert.Mm
-- ==== Proof.Mm.K2.lean ====
/-
  The projection to the first convolution branch: columns 0 to 8191 of the input weights.
-/
module

public import proofs.«01_k».proof.Proof.Mm.Common
public import proofs.«01_k».proof.Proof.Gen.Kernel2Ideal.Value
public import proofs.«01_k».proof.Proof.Gen.Kernel2
public import proofs.«01_k».proof.Proof.Gen.Reference2Ideal.Run
public import proofs.«01_k».proof.Defs

@[expose] public section

set_option maxRecDepth 16384

noncomputable section

namespace Cert.Kernel2Ideal.Mm

open Idealize.ShloMosaic Idealize.ShloMosaic.TcCoe Idealize.SL.Sem Cert.Kernel2Ideal Cert.Kernel2Ideal.Gen Cert.Mm

/-- The blocks' places at point `t`, of row block `t % 8` and column block `t / 8`. -/
theorem idx : ∀ t : Fin cfg0.N, win0_0.index t = ![t.val % 8, 0] ∧ win0_1.index t = ![0, t.val / 8, 0]
    ∧ win0_2.index t = ![t.val % 8, t.val / 8] := (by decide +kernel : ∀ t : Fin grid0.N, _)

variable (m : (ℓ : Loc nD τ sig) → Buf (Elt Ideal) ℓ) (c : Dev nD)

abbrev Ha : S8192x2048.Idx → EReal := m ((c.tc : Thread nD τ).loc main_arg0)
abbrev Wa : S2x2048x24592.Idx → EReal := m ((c.tc : Thread nD τ).loc main_arg1)

/-- The column of the weights that column `J` of the result takes. -/
abbrev col (J : Fin 8192) : Fin 24592 := ⟨J.val, by omega⟩

/-- The product of the activations with the chosen columns. -/
def out (x : S8192x8192.Idx) : EReal :=
  ∑ k : Fin 2048, Ha m c (ix2 (x 0) k) * Wa m c (ix3 0 k (col (x 1)))

/-- The block of activations at a point: its row block. -/
theorem lhs_at (t : Fin cfg0.N) (r : Fin 1024) (k : Fin 2048) (R : Fin 8192) (h : R.val = t.val % 8 * 1024 + r.val) :
    iblk m c 0 t (ix2 r k) = Ha m c (ix2 R k) := by
  have ht : t.val < 64 := t.isLt
  blk_ext [iblk, V, idx t]

/-- The block of transposed weights at a point: the rows of its column block. -/
theorem rhs_at (t : Fin cfg0.N) (r : Fin 1024) (k : Fin 2048) (J : Fin 8192) (h : J.val = t.val / 8 * 1024 + r.val) :
    X0_1 m c t (ix3 0 r k) = Wa m c (ix3 0 k (col J)) := by
  have ht : t.val < 64 := t.isLt
  unfold X0_1 Pipeline.Window.fill
  rw [dif_pos (moved0_1 t _)]
  blk_simp [iblk, idx t]
  entry_read
  pointwise []
  blk_ext [idx t]

/-- A point's block is the product of its rows with the scratch. -/
theorem block (t : Fin cfg0.N) (r j : Fin 1024) : (outsAt0 m c t.val t.isLt).1 (ix2 r j)
    = ∑ k : Fin 2048, (show EReal from iblk m c 0 t (ix2 r k)) * (show EReal from (outsAt0 m c t.val t.isLt).2 (ix2 k j)) := by
  by_cases h0 : t.val % 8 = 0
  · rw [outsAt0_A m c t h0]
    frame_out
    exact dot_at _ _ r j
  · rw [outsAt0_B m c t h0]
    frame_out
    exact dot_at_of _ r j (Memref.IsWhole.read_unread _ _)

/-- The array of the result ends as the product. -/
theorem final : (dats m 0 c).arrAt 2 (cfgs 0).N = out m c := by
  refine (dats m 0 c).arrAt_eq_of_covers 2 _ (by decide +kernel) fun t _ y => ?_
  blk_simp
  rw [after0_2]
  obtain ⟨r, j, rfl⟩ : ∃ r j, y = ix2 r j := ⟨y 0, y 1, by funext a; match a with | 0 => rfl | 1 => rfl⟩
  refine (block m c t r j).trans (product (p := 8) (fun n h => iblk m c 0 ⟨n, h⟩) (fun n h => (outsAt0 m c n h).2) (Ha m c)
    (fun k J => Wa m c (ix3 0 k (col J))) (fun n h => lhs_at m c ⟨n, h⟩) (fun n h h0 k j J hJ => ?_) (fun n h h0 => ?_) t.val t.isLt r j _ _ ?_ ?_)
  · rw [outsAt0_A m c ⟨n, h⟩ h0]
    frame_out
    exact (weightT_at _ k j).trans (rhs_at m c ⟨n, h⟩ j k J hJ)
  · rw [outsAt0_B m c ⟨n, h⟩ h0]
    rfl
  · blk_simp [idx t]
  · blk_simp [idx t]

end Cert.Kernel2Ideal.Mm

namespace Cert.Reference2Ideal.Mm

open Idealize.ShloMosaic Idealize.ShloMosaic.TcCoe Idealize.SL.Sem Cert.Reference2Ideal Cert.Reference2Ideal.Gen

/-- The two programs of the kernel have the same text, so the same bodies. -/
theorem defs_eq : Cert.Kernel2.defs (F := Bits) = Cert.Kernel2Ideal.defs (F := Bits) := by sl_kernel_rfl

/-- The kernel's frame, over words. -/
theorem frame_kernel : Cert.quiescent_Kernel2 (hKernel2 := Cert.Kernel2.Gen.facts) := fun m ρ _ => by
  have h := Cert.Kernel2Ideal.Gen.frame (F := Bits) m ρ
  rw [← defs_eq] at h
  exact h

/-- The kernel's frame, over the extended reals. -/
theorem frame_ideal : Cert.quiescent_Kernel2Ideal (hKernel2Ideal := Cert.Kernel2Ideal.Gen.facts) := fun m ρ _ => Cert.Kernel2Ideal.Gen.frame m ρ

/-- The reference ends with its arguments unchanged; it has no semaphore. -/
theorem frame_ref : Cert.quiescent_Reference2Ideal (hReference2Ideal := Cert.Reference2Ideal.Gen.facts) := fun m ρ _ =>
  (θ_run Cert.Reference2Ideal.defs _ _).mono (fun r h => ⟨fun c => (h c).2, sem_eq_zero_of_no_sems (by decide) r.2⟩)
    (Cert.Reference2Ideal.Value.run (F := Ideal) m ρ)

/-- From agreeing arguments both programs end with the same product. -/
theorem equal : Cert.algebraic_Kernel2Ideal_Reference2Ideal (hKernel2Ideal := Cert.Kernel2Ideal.Gen.facts)
    (hReference2Ideal := Cert.Reference2Ideal.Gen.facts) := by
  intro m g m' g' _ hagree
  refine ⟨fun c => Cert.Kernel2Ideal.Mm.out m c, ?_, ?_⟩
  · refine (θ_run Cert.Kernel2Ideal.defs _ _).mono (fun r h c => ⟨(h c).1.trans (Cert.Kernel2Ideal.Mm.final m c), (h c).2⟩)
      (Cert.Kernel2Ideal.Value.run_blocks (F := Ideal) m g)
  · refine (θ_run Cert.Reference2Ideal.defs _ _).mono (fun r h c => ⟨(h c).1.trans ?_, (h c).2⟩)
      (Cert.Reference2Ideal.Value.run (F := Ideal) m' g')
    rw [(hagree c).1, (hagree c).2]
    funext x
    unfold Cert.Kernel2Ideal.Mm.out
    pointwise []

end Cert.Reference2Ideal.Mm
-- ==== Proof.Mm.K3.lean ====
/-
  The projection to the branches' gates: columns 18448 to 24591 of the input weights.
-/
module

public import proofs.«01_k».proof.Proof.Mm.Common
public import proofs.«01_k».proof.Proof.Gen.Kernel3Ideal.Frame
public import proofs.«01_k».proof.Proof.Gen.Kernel3
public import proofs.«01_k».proof.Proof.Gen.Reference3Ideal.Run
public import proofs.«01_k».proof.Defs

@[expose] public section

set_option maxRecDepth 16384

noncomputable section

namespace Cert.Kernel3Ideal.Mm

open Idealize.ShloMosaic Idealize.ShloMosaic.TcCoe Idealize.SL.Sem Cert.Kernel3Ideal Cert.Kernel3Ideal.Gen Cert.Mm

/-- The blocks' places at point `t`, of row block `t % 8` and column block `t / 8`. -/
theorem idx : ∀ t : Fin cfg0.N, win0_0.index t = ![t.val % 8, 0] ∧ win0_1.index t = ![0, 18 + t.val / 8, 0] ∧ win0_2.index t = ![0, (18 + min (t.val / 8 + 1) 5) * 8, 0] ∧ win0_3.index t = ![0, 0]
    ∧ win0_4.index t = ![t.val % 8, t.val / 8] ∧ (grid0.coords t 0).val = t.val / 8 := (by decide +kernel : ∀ t : Fin grid0.N, _)

variable (m : (ℓ : Loc nD τ sig) → Buf (Elt Ideal) ℓ) (c : Dev nD)

abbrev Ha : S8192x2048.Idx → EReal := m ((c.tc : Thread nD τ).loc main_arg0)
abbrev Wa : S2x2048x24592.Idx → EReal := m ((c.tc : Thread nD τ).loc main_arg1)

/-- The column of the weights that column `J` of the result takes. -/
abbrev col (J : Fin 6144) : Fin 24592 := ⟨18448 + J.val, by omega⟩

/-- The product of the activations with the chosen columns. -/
def out (x : S8192x6144.Idx) : EReal :=
  ∑ k : Fin 2048, Ha m c (ix2 (x 0) k) * Wa m c (ix3 0 k (col (x 1)))

/-- The weights as the call finds them: transposed. -/
theorem w_entry : V m c main_v0 = transpose S2x24592x2048 [0, 2, 1] (Wa m c) transposes_S2x2048x24592_S2x24592x2048_0_2_1 := by
  simp only [V, hostOps0, hostOps0_1, List.flatten_cons, List.flatten_nil, List.cons_append, List.nil_append, List.append_nil,
    StableHlo.after_cons, StableHlo.after_nil]
  after_results_simp

/-- The last rows as the call finds them: sixteen rows of the transposed weights, the rest padded. -/
theorem tail_entry : V m c main_v3 = pad S128x2048 ![0, 0] ![112, 0] ![0, 0] (shapeCast S16x2048 (extractStridedSlice S1x16x2048 ![0, 24576, 0]
    (transpose S2x24592x2048 [0, 2, 1] (Wa m c) transposes_S2x2048x24592_S2x24592x2048_0_2_1) slices_S2x24592x2048_S1x16x2048_0_24576_0)
      shapeCasts_S1x16x2048_S16x2048) (sitofp (F := Ideal) .f32 (constantI S_ 32 0#32)) pads_S16x2048_S128x2048_01120_000 h_S_ := by
  simp only [V, hostOps0, hostOps0_1, List.flatten_cons, List.flatten_nil, List.cons_append, List.nil_append, List.append_nil,
    StableHlo.after_cons, StableHlo.after_nil]
  after_results_simp
  after_results_loop
  rfl

/-- The block of activations at a point: its row block. -/
theorem lhs_at (t : Fin cfg0.N) (r : Fin 1024) (k : Fin 2048) (R : Fin 8192) (h : R.val = t.val % 8 * 1024 + r.val) :
    iblk m c 0 t (ix2 r k) = Ha m c (ix2 R k) := by
  have ht : t.val < 48 := t.isLt
  blk_ext [iblk, V, idx t]

/-- The block of transposed weights at a point: 1024 rows from the aligned column before its column block. -/
theorem rhs_at (t : Fin cfg0.N) (r : Fin 1024) (k : Fin 2048) (C : Fin 24592) (h : C.val = 18432 + t.val / 8 * 1024 + r.val) :
    X0_1 m c t (ix3 0 r k) = Wa m c (ix3 0 k C) := by
  have ht : t.val < 48 := t.isLt
  unfold X0_1 Pipeline.Window.fill
  rw [dif_pos (moved0_1 t _)]
  blk_simp [iblk, idx t]
  rw [w_entry]
  pointwise []
  blk_ext [idx t]

/-- The block after it: the rows of the next column block's start, where there is one. -/
theorem next_at (t : Fin cfg0.N) (r : Fin 128) (k : Fin 2048) (C : Fin 24592) (hq : t.val / 8 < 5)
    (h : C.val = 18432 + (t.val / 8 + 1) * 1024 + r.val) :
    X0_2 m c t (ix3 0 r k) = Wa m c (ix3 0 k C) := by
  have ht : t.val < 48 := t.isLt
  unfold X0_2 Pipeline.Window.fill
  rw [dif_pos (moved0_2 t _)]
  blk_simp [iblk, idx t]
  rw [w_entry]
  pointwise []
  blk_ext [idx t]

/-- The last rows of the weights. -/
theorem tail_at (t : Fin cfg0.N) (r : Fin 128) (k : Fin 2048) (C : Fin 24592) (hr : r.val < 16)
    (h : C.val = 24576 + r.val) :
    iblk m c 3 t (ix2 r k) = Wa m c (ix3 0 k C) := by
  have ht : t.val < 48 := t.isLt
  blk_simp [iblk, idx t]
  rw [tail_entry]
  pointwise []
  split
  · blk_ext [idx t]
  · next hn =>
    refine absurd ?_ hn
    blk_simp [idx t]
    exact hr

/-- The shifted weight block in scratch, at one element. -/
theorem shifted_at (i : grid0.Coords) (w : Vec Ideal S1x1024x2048 .f32) (u : Vec Ideal S128x2048 .f32) (v : Vec Ideal S1x128x2048 .f32)
    (k : Fin 2048) (j : Fin 1024) (y : EReal)
    (h1 : ∀ h : j.val + 16 < 1024, w (ix3 0 ⟨j.val + 16, h⟩ k) = y)
    (h2 : ∀ r : Fin 128, j.val + 16 = 1024 + r.val → (i 0).val = 5 → u (ix2 r k) = y)
    (h3 : ∀ r : Fin 128, j.val + 16 = 1024 + r.val → ¬(i 0).val = 5 → v (ix3 0 r k) = y) :
    k0_pay1 i w u v (ix2 k j) = y := by
  pointwise [k0_pay1]
  by_cases h : 16 + j.val < 1024
  · rw [dif_pos h]
    exact (congrArg w (by funext a; match a with | 0 => rfl | 1 => exact Fin.ext (Nat.add_comm _ _) | 2 => rfl)).trans (h1 (by omega))
  · rw [dif_neg h]
    have hr : 16 + j.val - 1024 < 128 := by omega
    have e : j.val + 16 = 1024 + (⟨16 + j.val - 1024, hr⟩ : Fin 128).val := by
      show j.val + 16 = 1024 + (16 + j.val - 1024)
      omega
    by_cases h5 : (i 0).val = 5
    · rw [h5]
      exact h2 _ e h5
    · have hi : (i 0).val < 6 := (i 0).isLt
      have hc : Scalar.cmpi CmpIPredicate.eq (BitVec.ofNat 32 (i 0).val) 5#32 = 0#1 := by
        generalize (i 0).val = q at h5 hi
        have hq : ∀ q : Fin 6, q.val ≠ 5 → Scalar.cmpi CmpIPredicate.eq (BitVec.ofNat 32 q.val) 5#32 = 0#1 := by decide
        exact hq ⟨q, hi⟩ h5
      rw [hc]
      exact h3 _ e h5

/-- A point's block is the product of its rows with the scratch. -/
theorem block (t : Fin cfg0.N) (r j : Fin 1024) : (outsAt0 m c t.val t.isLt).1 (ix2 r j)
    = ∑ k : Fin 2048, (show EReal from iblk m c 0 t (ix2 r k)) * (show EReal from (outsAt0 m c t.val t.isLt).2 (ix2 k j)) := by
  by_cases h0 : t.val % 8 = 0
  · rw [outsAt0_A m c t h0]
    frame_out
    exact dot_at _ _ r j
  · rw [outsAt0_B m c t h0]
    frame_out
    exact dot_at_of _ r j (Memref.IsWhole.read_unread _ _)

/-- The array of the result ends as the product. -/
theorem final : (dats m 0 c).arrAt 4 (cfgs 0).N = out m c := by
  refine (dats m 0 c).arrAt_eq_of_covers 4 _ (by decide +kernel) fun t _ y => ?_
  blk_simp
  rw [after0_4]
  obtain ⟨r, j, rfl⟩ : ∃ r j, y = ix2 r j := ⟨y 0, y 1, by funext a; match a with | 0 => rfl | 1 => rfl⟩
  refine (block m c t r j).trans (product (p := 8) (fun n h => iblk m c 0 ⟨n, h⟩) (fun n h => (outsAt0 m c n h).2) (Ha m c)
    (fun k J => Wa m c (ix3 0 k (col J))) (fun n h => lhs_at m c ⟨n, h⟩) (fun n h h0 k j J hJ => ?_) (fun n h h0 => ?_) t.val t.isLt r j _ _ ?_ ?_)
  · rw [outsAt0_A m c ⟨n, h⟩ h0]
    frame_out
    have hg := (idx ⟨n, h⟩).2.2.2.2.2
    have hn : n < 48 := h
    refine shifted_at _ _ _ _ k j _ (fun hj => rhs_at m c ⟨n, h⟩ _ k _ ?_) (fun r hr h5 => tail_at m c ⟨n, h⟩ r k _ ?_ ?_)
      (fun r hr h5 => next_at m c ⟨n, h⟩ r k _ ?_ ?_)
    all_goals (try rw [hg] at h5)
    all_goals (try dsimp only at *)
    all_goals (try dsimp only [col])
    all_goals omega
  · rw [outsAt0_B m c ⟨n, h⟩ h0]
    rfl
  · blk_simp [idx t]
  · blk_simp [idx t]

/-- The run with the result's array named and the arguments as they were. -/
theorem run_out (ρ : Dev nD → PrngReg) : θ_run defs (onTc (τ := τ) (main (F := Ideal))) ⟨m, fun _ => 0, ρ⟩ fun r => ∀ c : Dev nD,
    r.2.mem ((c.tc : Thread nD τ).loc main_v4) = out m c
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨((h c).1 4).trans (final m c),
    ((h c).1 0).trans (((dats m 0 c).arrAt_in 0 rfl _).trans ((A_eq m c 0).trans (V_main_arg0 m c))),
    ((h c).2 main_arg1 (Pipeline.mem_restRefs_of main_arg1 (by decide) (by decide))).trans (V_main_arg1 m c)⟩) (run_main m ρ)

end Cert.Kernel3Ideal.Mm

namespace Cert.Reference3Ideal.Mm

open Idealize.ShloMosaic Idealize.ShloMosaic.TcCoe Idealize.SL.Sem Cert.Reference3Ideal Cert.Reference3Ideal.Gen

/-- The two programs of the kernel have the same text, so the same bodies. -/
theorem defs_eq : Cert.Kernel3.defs (F := Bits) = Cert.Kernel3Ideal.defs (F := Bits) := by sl_kernel_rfl

/-- The kernel's frame, over words. -/
theorem frame_kernel : Cert.quiescent_Kernel3 (hKernel3 := Cert.Kernel3.Gen.facts) := fun m ρ _ => by
  have h := Cert.Kernel3Ideal.Gen.frame (F := Bits) m ρ
  rw [← defs_eq] at h
  exact h

/-- The kernel's frame, over the extended reals. -/
theorem frame_ideal : Cert.quiescent_Kernel3Ideal (hKernel3Ideal := Cert.Kernel3Ideal.Gen.facts) := fun m ρ _ => Cert.Kernel3Ideal.Gen.frame m ρ

/-- The reference ends with its arguments unchanged; it has no semaphore. -/
theorem frame_ref : Cert.quiescent_Reference3Ideal (hReference3Ideal := Cert.Reference3Ideal.Gen.facts) := fun m ρ _ =>
  (θ_run Cert.Reference3Ideal.defs _ _).mono (fun r h => ⟨fun c => (h c).2, sem_eq_zero_of_no_sems (by decide) r.2⟩)
    (Cert.Reference3Ideal.Value.run (F := Ideal) m ρ)

/-- From agreeing arguments both programs end with the same product. -/
theorem equal : Cert.algebraic_Kernel3Ideal_Reference3Ideal (hKernel3Ideal := Cert.Kernel3Ideal.Gen.facts)
    (hReference3Ideal := Cert.Reference3Ideal.Gen.facts) := by
  intro m g m' g' _ hagree
  refine ⟨fun c => Cert.Kernel3Ideal.Mm.out m c, ?_, ?_⟩
  · exact Cert.Kernel3Ideal.Mm.run_out m g
  · refine (θ_run Cert.Reference3Ideal.defs _ _).mono (fun r h c => ⟨(h c).1.trans ?_, (h c).2⟩)
      (Cert.Reference3Ideal.Value.run (F := Ideal) m' g')
    rw [(hagree c).1, (hagree c).2]
    funext x
    unfold Cert.Kernel3Ideal.Mm.out
    pointwise []

end Cert.Reference3Ideal.Mm
-- ==== Proof.Mm.K4.lean ====
/-
  An output projection, added to the residual.
-/
module

public import proofs.«01_k».proof.Proof.Mm.Common
public import proofs.«01_k».proof.Proof.Gen.Kernel4Ideal.Value
public import proofs.«01_k».proof.Proof.Gen.Kernel4
public import proofs.«01_k».proof.Proof.Gen.Reference4Ideal.Run
public import proofs.«01_k».proof.Defs

@[expose] public section

set_option maxRecDepth 16384

noncomputable section

namespace Cert.Kernel4Ideal.Mm

open Idealize.ShloMosaic Idealize.ShloMosaic.TcCoe Idealize.SL.Sem Cert.Kernel4Ideal Cert.Kernel4Ideal.Gen Cert.Mm

/-- The blocks' places at point `t`, of row block `t % 8` and column block `t / 8`. -/
theorem idx : ∀ t : Fin cfg0.N, win0_0.index t = ![t.val % 8, 0] ∧ win0_1.index t = ![0, 0, t.val / 8]
    ∧ win0_2.index t = ![t.val % 8, t.val / 8] ∧ win0_3.index t = ![t.val % 8, t.val / 8] := (by decide +kernel : ∀ t : Fin grid0.N, _)

variable (m : (ℓ : Loc nD τ sig) → Buf (Elt Ideal) ℓ) (c : Dev nD)

abbrev Ha : S8192x2048.Idx → EReal := m ((c.tc : Thread nD τ).loc main_arg0)
abbrev Wa : S2x2048x2048.Idx → EReal := m ((c.tc : Thread nD τ).loc main_arg1)
abbrev Xa : S8192x2048.Idx → EReal := m ((c.tc : Thread nD τ).loc main_arg2)

/-- The residual and the product of the activations with the weights. -/
def out (x : S8192x2048.Idx) : EReal :=
  Xa m c (ix2 (x 0) (x 1)) + ∑ k : Fin 2048, Ha m c (ix2 (x 0) k) * Wa m c (ix3 0 k (x 1))

/-- The block of activations at a point: its row block. -/
theorem lhs_at (t : Fin cfg0.N) (r : Fin 1024) (k : Fin 2048) (R : Fin 8192) (h : R.val = t.val % 8 * 1024 + r.val) :
    iblk m c 0 t (ix2 r k) = Ha m c (ix2 R k) := by
  have ht : t.val < 16 := t.isLt
  blk_ext [iblk, V, idx t]

/-- The block of weights at a point: its column block. -/
theorem rhs_at (t : Fin cfg0.N) (k : Fin 2048) (j : Fin 1024) (J : Fin 2048) (h : J.val = t.val / 8 * 1024 + j.val) :
    iblk m c 1 t (ix3 0 k j) = Wa m c (ix3 0 k J) := by
  have ht : t.val < 16 := t.isLt
  blk_ext [iblk, V, idx t]

/-- The block of the residual at a point: its own place. -/
theorem res_at (t : Fin cfg0.N) (r j : Fin 1024) (R : Fin 8192) (J : Fin 2048) (hR : R.val = t.val % 8 * 1024 + r.val)
    (hJ : J.val = t.val / 8 * 1024 + j.val) : iblk m c 2 t (ix2 r j) = Xa m c (ix2 R J) := by
  have ht : t.val < 16 := t.isLt
  blk_ext [iblk, V, idx t]

/-- A point's block is the product of its rows with the scratch, and the residual's block. -/
theorem block (t : Fin cfg0.N) (r j : Fin 1024) : (outsAt0 m c t.val t.isLt).1 (ix2 r j)
    = (∑ k : Fin 2048, (show EReal from iblk m c 0 t (ix2 r k)) * (show EReal from (outsAt0 m c t.val t.isLt).2 (ix2 k j)))
      + (show EReal from iblk m c 2 t (ix2 r j)) := by
  by_cases h0 : t.val % 8 = 0
  · rw [outsAt0_A m c t h0]
    frame_out
    exact res_at_of _ _ r j rfl
  · rw [outsAt0_B m c t h0]
    frame_out
    exact res_at_of _ _ r j (Memref.IsWhole.read_unread _ _)

/-- The array of the result ends as the residual and the product. -/
theorem final : (dats m 0 c).arrAt 3 (cfgs 0).N = out m c := by
  refine (dats m 0 c).arrAt_eq_of_covers 3 _ (by decide +kernel) fun t _ y => ?_
  blk_simp
  rw [after0_3]
  obtain ⟨r, j, rfl⟩ : ∃ r j, y = ix2 r j := ⟨y 0, y 1, by funext a; match a with | 0 => rfl | 1 => rfl⟩
  refine (block m c t r j).trans ((congrArg₂ (fun a b : EReal => a + b) (product (p := 8) (fun n h => iblk m c 0 ⟨n, h⟩) (fun n h => (outsAt0 m c n h).2)
    (Ha m c) (fun k J => Wa m c (ix3 0 k J)) (fun n h => lhs_at m c ⟨n, h⟩) (fun n h h0 k j J hJ => ?_) (fun n h h0 => ?_)
    t.val t.isLt r j _ _ ?_ ?_) (res_at m c t r j _ _ ?_ ?_)).trans (add_comm _ _))
  · rw [outsAt0_A m c ⟨n, h⟩ h0]
    frame_out
    exact (weight_at _ k j).trans (rhs_at m c ⟨n, h⟩ k j J hJ)
  · rw [outsAt0_B m c ⟨n, h⟩ h0]
    rfl
  all_goals blk_simp [idx t]

end Cert.Kernel4Ideal.Mm

namespace Cert.Reference4Ideal.Mm

open Idealize.ShloMosaic Idealize.ShloMosaic.TcCoe Idealize.SL.Sem Cert.Reference4Ideal Cert.Reference4Ideal.Gen

/-- The two programs of the kernel have the same text, so the same bodies. -/
theorem defs_eq : Cert.Kernel4.defs (F := Bits) = Cert.Kernel4Ideal.defs (F := Bits) := by sl_kernel_rfl

/-- The kernel's frame, over words. -/
theorem frame_kernel : Cert.quiescent_Kernel4 (hKernel4 := Cert.Kernel4.Gen.facts) := fun m ρ _ => by
  have h := Cert.Kernel4Ideal.Gen.frame (F := Bits) m ρ
  rw [← defs_eq] at h
  exact h

/-- The kernel's frame, over the extended reals. -/
theorem frame_ideal : Cert.quiescent_Kernel4Ideal (hKernel4Ideal := Cert.Kernel4Ideal.Gen.facts) := fun m ρ _ => Cert.Kernel4Ideal.Gen.frame m ρ

/-- The reference ends with its arguments unchanged; it has no semaphore. -/
theorem frame_ref : Cert.quiescent_Reference4Ideal (hReference4Ideal := Cert.Reference4Ideal.Gen.facts) := fun m ρ _ =>
  (θ_run Cert.Reference4Ideal.defs _ _).mono (fun r h => ⟨fun c => (h c).2, sem_eq_zero_of_no_sems (by decide) r.2⟩)
    (Cert.Reference4Ideal.Value.run (F := Ideal) m ρ)

/-- From agreeing arguments both programs end with the same product. -/
theorem equal : Cert.algebraic_Kernel4Ideal_Reference4Ideal (hKernel4Ideal := Cert.Kernel4Ideal.Gen.facts)
    (hReference4Ideal := Cert.Reference4Ideal.Gen.facts) := by
  intro m g m' g' _ hagree
  refine ⟨fun c => Cert.Kernel4Ideal.Mm.out m c, ?_, ?_⟩
  · refine (θ_run Cert.Kernel4Ideal.defs _ _).mono (fun r h c => ⟨(h c).1.trans (Cert.Kernel4Ideal.Mm.final m c), (h c).2⟩)
      (Cert.Kernel4Ideal.Value.run_blocks (F := Ideal) m g)
  · refine (θ_run Cert.Reference4Ideal.defs _ _).mono (fun r h c => ⟨(h c).1.trans ?_, (h c).2⟩)
      (Cert.Reference4Ideal.Value.run (F := Ideal) m' g')
    rw [(hagree c).1, (hagree c).2.1, (hagree c).2.2]
    funext x
    unfold Cert.Kernel4Ideal.Mm.out
    pointwise []

end Cert.Reference4Ideal.Mm
-- ==== Proof.Mm.K5.lean ====
/-
  The feed-forward's expansion.
-/
module

public import proofs.«01_k».proof.Proof.Mm.Common
public import proofs.«01_k».proof.Proof.Gen.Kernel5Ideal.Value
public import proofs.«01_k».proof.Proof.Gen.Kernel5
public import proofs.«01_k».proof.Proof.Gen.Reference5Ideal.Run
public import proofs.«01_k».proof.Defs

@[expose] public section

set_option maxRecDepth 16384

noncomputable section

namespace Cert.Kernel5Ideal.Mm

open Idealize.ShloMosaic Idealize.ShloMosaic.TcCoe Idealize.SL.Sem Cert.Kernel5Ideal Cert.Kernel5Ideal.Gen Cert.Mm

/-- The blocks' places at point `t`, of row block `t % 8` and column block `t / 8`. -/
theorem idx : ∀ t : Fin cfg0.N, win0_0.index t = ![t.val % 8, 0] ∧ win0_1.index t = ![0, 0, t.val / 8]
    ∧ win0_2.index t = ![t.val % 8, t.val / 8] := (by decide +kernel : ∀ t : Fin grid0.N, _)

variable (m : (ℓ : Loc nD τ sig) → Buf (Elt Ideal) ℓ) (c : Dev nD)

abbrev Ha : S8192x2048.Idx → EReal := m ((c.tc : Thread nD τ).loc main_arg0)
abbrev Wa : S2x2048x11264.Idx → EReal := m ((c.tc : Thread nD τ).loc main_arg1)

/-- The product of the activations with the weights. -/
def out (x : S8192x11264.Idx) : EReal :=
  ∑ k : Fin 2048, Ha m c (ix2 (x 0) k) * Wa m c (ix3 0 k (x 1))

/-- The block of activations at a point: its row block. -/
theorem lhs_at (t : Fin cfg0.N) (r : Fin 1024) (k : Fin 2048) (R : Fin 8192) (h : R.val = t.val % 8 * 1024 + r.val) :
    iblk m c 0 t (ix2 r k) = Ha m c (ix2 R k) := by
  have ht : t.val < 88 := t.isLt
  blk_ext [iblk, V, idx t]

/-- The block of weights at a point: its column block. -/
theorem rhs_at (t : Fin cfg0.N) (k : Fin 2048) (j : Fin 1024) (J : Fin 11264) (h : J.val = t.val / 8 * 1024 + j.val) :
    iblk m c 1 t (ix3 0 k j) = Wa m c (ix3 0 k J) := by
  have ht : t.val < 88 := t.isLt
  blk_ext [iblk, V, idx t]

/-- A point's block is the product of its rows with the scratch. -/
theorem block (t : Fin cfg0.N) (r j : Fin 1024) : (outsAt0 m c t.val t.isLt).1 (ix2 r j)
    = ∑ k : Fin 2048, (show EReal from iblk m c 0 t (ix2 r k)) * (show EReal from (outsAt0 m c t.val t.isLt).2 (ix2 k j)) := by
  by_cases h0 : t.val % 8 = 0
  · rw [outsAt0_A m c t h0]
    frame_out
    exact dot_at _ _ r j
  · rw [outsAt0_B m c t h0]
    frame_out
    exact dot_at_of _ r j (Memref.IsWhole.read_unread _ _)

/-- The array of the result ends as the product. -/
theorem final : (dats m 0 c).arrAt 2 (cfgs 0).N = out m c := by
  refine (dats m 0 c).arrAt_eq_of_covers 2 _ (by decide +kernel) fun t _ y => ?_
  blk_simp
  rw [after0_2]
  obtain ⟨r, j, rfl⟩ : ∃ r j, y = ix2 r j := ⟨y 0, y 1, by funext a; match a with | 0 => rfl | 1 => rfl⟩
  refine (block m c t r j).trans (product (p := 8) (fun n h => iblk m c 0 ⟨n, h⟩) (fun n h => (outsAt0 m c n h).2) (Ha m c)
    (fun k J => Wa m c (ix3 0 k J)) (fun n h => lhs_at m c ⟨n, h⟩) (fun n h h0 k j J hJ => ?_) (fun n h h0 => ?_) t.val t.isLt r j _ _ ?_ ?_)
  · rw [outsAt0_A m c ⟨n, h⟩ h0]
    frame_out
    exact (weight_at _ k j).trans (rhs_at m c ⟨n, h⟩ k j J hJ)
  · rw [outsAt0_B m c ⟨n, h⟩ h0]
    rfl
  · blk_simp [idx t]
  · blk_simp [idx t]

end Cert.Kernel5Ideal.Mm

namespace Cert.Reference5Ideal.Mm

open Idealize.ShloMosaic Idealize.ShloMosaic.TcCoe Idealize.SL.Sem Cert.Reference5Ideal Cert.Reference5Ideal.Gen

/-- The two programs of the kernel have the same text, so the same bodies. -/
theorem defs_eq : Cert.Kernel5.defs (F := Bits) = Cert.Kernel5Ideal.defs (F := Bits) := by sl_kernel_rfl

/-- The kernel's frame, over words. -/
theorem frame_kernel : Cert.quiescent_Kernel5 (hKernel5 := Cert.Kernel5.Gen.facts) := fun m ρ _ => by
  have h := Cert.Kernel5Ideal.Gen.frame (F := Bits) m ρ
  rw [← defs_eq] at h
  exact h

/-- The kernel's frame, over the extended reals. -/
theorem frame_ideal : Cert.quiescent_Kernel5Ideal (hKernel5Ideal := Cert.Kernel5Ideal.Gen.facts) := fun m ρ _ => Cert.Kernel5Ideal.Gen.frame m ρ

/-- The reference ends with its arguments unchanged; it has no semaphore. -/
theorem frame_ref : Cert.quiescent_Reference5Ideal (hReference5Ideal := Cert.Reference5Ideal.Gen.facts) := fun m ρ _ =>
  (θ_run Cert.Reference5Ideal.defs _ _).mono (fun r h => ⟨fun c => (h c).2, sem_eq_zero_of_no_sems (by decide) r.2⟩)
    (Cert.Reference5Ideal.Value.run (F := Ideal) m ρ)

/-- From agreeing arguments both programs end with the same product. -/
theorem equal : Cert.algebraic_Kernel5Ideal_Reference5Ideal (hKernel5Ideal := Cert.Kernel5Ideal.Gen.facts)
    (hReference5Ideal := Cert.Reference5Ideal.Gen.facts) := by
  intro m g m' g' _ hagree
  refine ⟨fun c => Cert.Kernel5Ideal.Mm.out m c, ?_, ?_⟩
  · refine (θ_run Cert.Kernel5Ideal.defs _ _).mono (fun r h c => ⟨(h c).1.trans (Cert.Kernel5Ideal.Mm.final m c), (h c).2⟩)
      (Cert.Kernel5Ideal.Value.run_blocks (F := Ideal) m g)
  · refine (θ_run Cert.Reference5Ideal.defs _ _).mono (fun r h c => ⟨(h c).1.trans ?_, (h c).2⟩)
      (Cert.Reference5Ideal.Value.run (F := Ideal) m' g')
    rw [(hagree c).1, (hagree c).2]
    funext x
    unfold Cert.Kernel5Ideal.Mm.out
    pointwise []

end Cert.Reference5Ideal.Mm
-- ==== Proof.Mm.K6.lean ====
/-
  The feed-forward's contraction, added to the residual.
-/
module

public import proofs.«01_k».proof.Proof.Mm.Common
public import proofs.«01_k».proof.Proof.Gen.Kernel6Ideal.Value
public import proofs.«01_k».proof.Proof.Gen.Kernel6
public import proofs.«01_k».proof.Proof.Gen.Reference6Ideal.Run
public import proofs.«01_k».proof.Defs

@[expose] public section

set_option maxRecDepth 16384

noncomputable section

namespace Cert.Kernel6Ideal.Mm

open Idealize.ShloMosaic Idealize.ShloMosaic.TcCoe Idealize.SL.Sem Cert.Kernel6Ideal Cert.Kernel6Ideal.Gen Cert.Mm

/-- The blocks' places at point `t`, of row block `t % 16` and column block `t / 16`. -/
theorem idx : ∀ t : Fin cfg0.N, win0_0.index t = ![t.val % 16, 0] ∧ win0_1.index t = ![0, 0, t.val / 16]
    ∧ win0_2.index t = ![t.val % 16, t.val / 16] ∧ win0_3.index t = ![t.val % 16, t.val / 16] := (by decide +kernel : ∀ t : Fin grid0.N, _)

variable (m : (ℓ : Loc nD τ sig) → Buf (Elt Ideal) ℓ) (c : Dev nD)

abbrev Ha : S8192x5632.Idx → EReal := m ((c.tc : Thread nD τ).loc main_arg0)
abbrev Wa : S2x5632x2048.Idx → EReal := m ((c.tc : Thread nD τ).loc main_arg1)
abbrev Xa : S8192x2048.Idx → EReal := m ((c.tc : Thread nD τ).loc main_arg2)

/-- The residual and the product of the activations with the weights. -/
def out (x : S8192x2048.Idx) : EReal :=
  Xa m c (ix2 (x 0) (x 1)) + ∑ k : Fin 5632, Ha m c (ix2 (x 0) k) * Wa m c (ix3 0 k (x 1))

/-- The block of activations at a point: its row block. -/
theorem lhs_at (t : Fin cfg0.N) (r : Fin 512) (k : Fin 5632) (R : Fin 8192) (h : R.val = t.val % 16 * 512 + r.val) :
    iblk m c 0 t (ix2 r k) = Ha m c (ix2 R k) := by
  have ht : t.val < 64 := t.isLt
  blk_ext [iblk, V, idx t]

/-- The block of weights at a point: its column block. -/
theorem rhs_at (t : Fin cfg0.N) (k : Fin 5632) (j : Fin 512) (J : Fin 2048) (h : J.val = t.val / 16 * 512 + j.val) :
    iblk m c 1 t (ix3 0 k j) = Wa m c (ix3 0 k J) := by
  have ht : t.val < 64 := t.isLt
  blk_ext [iblk, V, idx t]

/-- The block of the residual at a point: its own place. -/
theorem res_at (t : Fin cfg0.N) (r j : Fin 512) (R : Fin 8192) (J : Fin 2048) (hR : R.val = t.val % 16 * 512 + r.val)
    (hJ : J.val = t.val / 16 * 512 + j.val) : iblk m c 2 t (ix2 r j) = Xa m c (ix2 R J) := by
  have ht : t.val < 64 := t.isLt
  blk_ext [iblk, V, idx t]

/-- A point's block is the product of its rows with the scratch, and the residual's block. -/
theorem block (t : Fin cfg0.N) (r j : Fin 512) : (outsAt0 m c t.val t.isLt).1 (ix2 r j)
    = (∑ k : Fin 5632, (show EReal from iblk m c 0 t (ix2 r k)) * (show EReal from (outsAt0 m c t.val t.isLt).2 (ix2 k j)))
      + (show EReal from iblk m c 2 t (ix2 r j)) := by
  by_cases h0 : t.val % 16 = 0
  · rw [outsAt0_A m c t h0]
    frame_out
    exact tallRes_at_of _ _ r j rfl
  · rw [outsAt0_B m c t h0]
    frame_out
    exact tallRes_at_of _ _ r j (Memref.IsWhole.read_unread _ _)

/-- The array of the result ends as the residual and the product. -/
theorem final : (dats m 0 c).arrAt 3 (cfgs 0).N = out m c := by
  refine (dats m 0 c).arrAt_eq_of_covers 3 _ (by decide +kernel) fun t _ y => ?_
  blk_simp
  rw [after0_3]
  obtain ⟨r, j, rfl⟩ : ∃ r j, y = ix2 r j := ⟨y 0, y 1, by funext a; match a with | 0 => rfl | 1 => rfl⟩
  refine (block m c t r j).trans ((congrArg₂ (fun a b : EReal => a + b) (product (p := 16) (fun n h => iblk m c 0 ⟨n, h⟩) (fun n h => (outsAt0 m c n h).2)
    (Ha m c) (fun k J => Wa m c (ix3 0 k J)) (fun n h => lhs_at m c ⟨n, h⟩) (fun n h h0 k j J hJ => ?_) (fun n h h0 => ?_)
    t.val t.isLt r j _ _ ?_ ?_) (res_at m c t r j _ _ ?_ ?_)).trans (add_comm _ _))
  · rw [outsAt0_A m c ⟨n, h⟩ h0]
    frame_out
    exact (tall_at _ k j).trans (rhs_at m c ⟨n, h⟩ k j J hJ)
  · rw [outsAt0_B m c ⟨n, h⟩ h0]
    rfl
  all_goals blk_simp [idx t]

end Cert.Kernel6Ideal.Mm

namespace Cert.Reference6Ideal.Mm

open Idealize.ShloMosaic Idealize.ShloMosaic.TcCoe Idealize.SL.Sem Cert.Reference6Ideal Cert.Reference6Ideal.Gen

/-- The two programs of the kernel have the same text, so the same bodies. -/
theorem defs_eq : Cert.Kernel6.defs (F := Bits) = Cert.Kernel6Ideal.defs (F := Bits) := by sl_kernel_rfl

/-- The kernel's frame, over words. -/
theorem frame_kernel : Cert.quiescent_Kernel6 (hKernel6 := Cert.Kernel6.Gen.facts) := fun m ρ _ => by
  have h := Cert.Kernel6Ideal.Gen.frame (F := Bits) m ρ
  rw [← defs_eq] at h
  exact h

/-- The kernel's frame, over the extended reals. -/
theorem frame_ideal : Cert.quiescent_Kernel6Ideal (hKernel6Ideal := Cert.Kernel6Ideal.Gen.facts) := fun m ρ _ => Cert.Kernel6Ideal.Gen.frame m ρ

/-- The reference ends with its arguments unchanged; it has no semaphore. -/
theorem frame_ref : Cert.quiescent_Reference6Ideal (hReference6Ideal := Cert.Reference6Ideal.Gen.facts) := fun m ρ _ =>
  (θ_run Cert.Reference6Ideal.defs _ _).mono (fun r h => ⟨fun c => (h c).2, sem_eq_zero_of_no_sems (by decide) r.2⟩)
    (Cert.Reference6Ideal.Value.run (F := Ideal) m ρ)

/-- From agreeing arguments both programs end with the same product. -/
theorem equal : Cert.algebraic_Kernel6Ideal_Reference6Ideal (hKernel6Ideal := Cert.Kernel6Ideal.Gen.facts)
    (hReference6Ideal := Cert.Reference6Ideal.Gen.facts) := by
  intro m g m' g' _ hagree
  refine ⟨fun c => Cert.Kernel6Ideal.Mm.out m c, ?_, ?_⟩
  · refine (θ_run Cert.Kernel6Ideal.defs _ _).mono (fun r h c => ⟨(h c).1.trans (Cert.Kernel6Ideal.Mm.final m c), (h c).2⟩)
      (Cert.Kernel6Ideal.Value.run_blocks (F := Ideal) m g)
  · refine (θ_run Cert.Reference6Ideal.defs _ _).mono (fun r h c => ⟨(h c).1.trans ?_, (h c).2⟩)
      (Cert.Reference6Ideal.Value.run (F := Ideal) m' g')
    rw [(hagree c).1, (hagree c).2.1, (hagree c).2.2]
    funext x
    unfold Cert.Kernel6Ideal.Mm.out
    pointwise []

end Cert.Reference6Ideal.Mm
-- ==== Proof.Mm.K7.lean ====
/-
  The projection to the memory attention's queries, in the narrow type.
-/
module

public import proofs.«01_k».proof.Proof.Mm.Common
public import proofs.«01_k».proof.Proof.Gen.Kernel7Ideal.Value
public import proofs.«01_k».proof.Proof.Gen.Kernel7
public import proofs.«01_k».proof.Proof.Gen.Reference7Ideal.Run
public import proofs.«01_k».proof.Defs

@[expose] public section

set_option maxRecDepth 16384

noncomputable section

namespace Cert.Kernel7Ideal.Mm

open Idealize.ShloMosaic Idealize.ShloMosaic.TcCoe Idealize.SL.Sem Cert.Kernel7Ideal Cert.Kernel7Ideal.Gen Cert.Mm

/-- The blocks' places at point `t`, of row block `t % 8` and column block `t / 8`. -/
theorem idx : ∀ t : Fin cfg0.N, win0_0.index t = ![t.val % 8, 0] ∧ win0_1.index t = ![0, 0, t.val / 8]
    ∧ win0_2.index t = ![t.val % 8, t.val / 8] := (by decide +kernel : ∀ t : Fin grid0.N, _)

variable (m : (ℓ : Loc nD τ sig) → Buf (Elt Ideal) ℓ) (c : Dev nD)

abbrev Ha : S8192x2048.Idx → EReal := m ((c.tc : Thread nD τ).loc main_arg0)
abbrev Wa : S2x2048x2048.Idx → EReal := m ((c.tc : Thread nD τ).loc main_arg1)

/-- The product of the activations with the weights. -/
def out (x : S8192x2048.Idx) : EReal :=
  ∑ k : Fin 2048, Ha m c (ix2 (x 0) k) * Wa m c (ix3 0 k (x 1))

/-- The block of activations at a point: its row block. -/
theorem lhs_at (t : Fin cfg0.N) (r : Fin 1024) (k : Fin 2048) (R : Fin 8192) (h : R.val = t.val % 8 * 1024 + r.val) :
    iblk m c 0 t (ix2 r k) = Ha m c (ix2 R k) := by
  have ht : t.val < 16 := t.isLt
  blk_ext [iblk, V, idx t]

/-- The block of weights at a point: its column block. -/
theorem rhs_at (t : Fin cfg0.N) (k : Fin 2048) (j : Fin 1024) (J : Fin 2048) (h : J.val = t.val / 8 * 1024 + j.val) :
    iblk m c 1 t (ix3 0 k j) = Wa m c (ix3 0 k J) := by
  have ht : t.val < 16 := t.isLt
  blk_ext [iblk, V, idx t]

/-- A point's block is the product of its rows with the scratch. -/
theorem block (t : Fin cfg0.N) (r j : Fin 1024) : (outsAt0 m c t.val t.isLt).1 (ix2 r j)
    = ∑ k : Fin 2048, (show EReal from iblk m c 0 t (ix2 r k)) * (show EReal from (outsAt0 m c t.val t.isLt).2 (ix2 k j)) := by
  by_cases h0 : t.val % 8 = 0
  · rw [outsAt0_A m c t h0]
    frame_out
    exact dot_at _ _ r j
  · rw [outsAt0_B m c t h0]
    frame_out
    exact dot_at_of _ r j (Memref.IsWhole.read_unread _ _)

/-- The array of the result ends as the product. -/
theorem final : (dats m 0 c).arrAt 2 (cfgs 0).N = out m c := by
  refine (dats m 0 c).arrAt_eq_of_covers 2 _ (by decide +kernel) fun t _ y => ?_
  blk_simp
  rw [after0_2]
  obtain ⟨r, j, rfl⟩ : ∃ r j, y = ix2 r j := ⟨y 0, y 1, by funext a; match a with | 0 => rfl | 1 => rfl⟩
  refine (block m c t r j).trans (product (p := 8) (fun n h => iblk m c 0 ⟨n, h⟩) (fun n h => (outsAt0 m c n h).2) (Ha m c)
    (fun k J => Wa m c (ix3 0 k J)) (fun n h => lhs_at m c ⟨n, h⟩) (fun n h h0 k j J hJ => ?_) (fun n h h0 => ?_) t.val t.isLt r j _ _ ?_ ?_)
  · rw [outsAt0_A m c ⟨n, h⟩ h0]
    frame_out
    exact (weight_at _ k j).trans (rhs_at m c ⟨n, h⟩ k j J hJ)
  · rw [outsAt0_B m c ⟨n, h⟩ h0]
    rfl
  · blk_simp [idx t]
  · blk_simp [idx t]

end Cert.Kernel7Ideal.Mm

namespace Cert.Reference7Ideal.Mm

open Idealize.ShloMosaic Idealize.ShloMosaic.TcCoe Idealize.SL.Sem Cert.Reference7Ideal Cert.Reference7Ideal.Gen

/-- The two programs of the kernel have the same text, so the same bodies. -/
theorem defs_eq : Cert.Kernel7.defs (F := Bits) = Cert.Kernel7Ideal.defs (F := Bits) := by sl_kernel_rfl

/-- The kernel's frame, over words. -/
theorem frame_kernel : Cert.quiescent_Kernel7 (hKernel7 := Cert.Kernel7.Gen.facts) := fun m ρ _ => by
  have h := Cert.Kernel7Ideal.Gen.frame (F := Bits) m ρ
  rw [← defs_eq] at h
  exact h

/-- The kernel's frame, over the extended reals. -/
theorem frame_ideal : Cert.quiescent_Kernel7Ideal (hKernel7Ideal := Cert.Kernel7Ideal.Gen.facts) := fun m ρ _ => Cert.Kernel7Ideal.Gen.frame m ρ

/-- The reference ends with its arguments unchanged; it has no semaphore. -/
theorem frame_ref : Cert.quiescent_Reference7Ideal (hReference7Ideal := Cert.Reference7Ideal.Gen.facts) := fun m ρ _ =>
  (θ_run Cert.Reference7Ideal.defs _ _).mono (fun r h => ⟨fun c => (h c).2, sem_eq_zero_of_no_sems (by decide) r.2⟩)
    (Cert.Reference7Ideal.Value.run (F := Ideal) m ρ)

/-- From agreeing arguments both programs end with the same product. -/
theorem equal : Cert.algebraic_Kernel7Ideal_Reference7Ideal (hKernel7Ideal := Cert.Kernel7Ideal.Gen.facts)
    (hReference7Ideal := Cert.Reference7Ideal.Gen.facts) := by
  intro m g m' g' _ hagree
  refine ⟨fun c => Cert.Kernel7Ideal.Mm.out m c, ?_, ?_⟩
  · refine (θ_run Cert.Kernel7Ideal.defs _ _).mono (fun r h c => ⟨(h c).1.trans (Cert.Kernel7Ideal.Mm.final m c), (h c).2⟩)
      (Cert.Kernel7Ideal.Value.run_blocks (F := Ideal) m g)
  · refine (θ_run Cert.Reference7Ideal.defs _ _).mono (fun r h c => ⟨(h c).1.trans ?_, (h c).2⟩)
      (Cert.Reference7Ideal.Value.run (F := Ideal) m' g')
    rw [(hagree c).1, (hagree c).2]
    funext x
    unfold Cert.Kernel7Ideal.Mm.out
    pointwise []

end Cert.Reference7Ideal.Mm
-- ==== Proof.Mm.K8.lean ====
/-
  The branches merged: each branch's rows times its weights, weighted by the sigmoid of its gate, added up.
-/
module

public import proofs.«01_k».proof.Proof.Mm.Common
public import proofs.«01_k».proof.Proof.Gen.Kernel8Ideal.Value
public import proofs.«01_k».proof.Proof.Gen.Kernel8
public import proofs.«01_k».proof.Proof.Gen.Reference8Ideal.Run
public import proofs.«01_k».proof.Defs

@[expose] public section

set_option maxRecDepth 16384

noncomputable section

namespace Cert.Kernel8Ideal.Mm

open Idealize.ShloMosaic Idealize.ShloMosaic.TcCoe Idealize.SL.Sem Cert.Kernel8Ideal Cert.Kernel8Ideal.Gen Cert.Mm

/-- The blocks' places at point `t`, of row block `t % 32` and column block `t / 32`; the three gates' columns follow
    each other in one array. -/
theorem idx : ∀ t : Fin cfg0.N, win0_0.index t = ![t.val % 32, 0] ∧ win0_1.index t = ![t.val % 32, 0] ∧ win0_2.index t = ![t.val % 32, 0]
    ∧ win0_3.index t = ![0, 0, t.val / 32] ∧ win0_4.index t = ![0, 0, t.val / 32] ∧ win0_5.index t = ![0, 0, t.val / 32]
    ∧ win0_6.index t = ![t.val % 32, t.val / 32] ∧ win0_7.index t = ![t.val % 32, 4 + t.val / 32] ∧ win0_8.index t = ![t.val % 32, 8 + t.val / 32]
    ∧ win0_9.index t = ![t.val % 32, t.val / 32] := (by decide +kernel : ∀ t : Fin grid0.N, _)

variable (m : (ℓ : Loc nD τ sig) → Buf (Elt Ideal) ℓ) (c : Dev nD)

abbrev A0 : S8192x2048.Idx → EReal := m ((c.tc : Thread nD τ).loc main_arg0)
abbrev A1 : S8192x2048.Idx → EReal := m ((c.tc : Thread nD τ).loc main_arg1)
abbrev A2 : S8192x2048.Idx → EReal := m ((c.tc : Thread nD τ).loc main_arg2)
abbrev W0 : S2x2048x2048.Idx → EReal := m ((c.tc : Thread nD τ).loc main_arg3)
abbrev W1 : S2x2048x2048.Idx → EReal := m ((c.tc : Thread nD τ).loc main_arg4)
abbrev W2 : S2x2048x2048.Idx → EReal := m ((c.tc : Thread nD τ).loc main_arg5)
abbrev Ga : S8192x6144.Idx → EReal := m ((c.tc : Thread nD τ).loc main_arg6)

/-- Column `J` of the gate that starts at column `b`. -/
abbrev gcol (b : ℕ) (hb : b ≤ 4096) (J : Fin 2048) : Fin 6144 := ⟨b + J.val, by omega⟩

/-- One branch's term: the gate's sigmoid times a row of the branch against a column of its weights. -/
def term (x w : Fin 2048 → EReal) (g : EReal) : EReal := Ideal.div 1 (1 + Ideal.exp (-g)) * ∑ k, x k * w k

/-- The three branches' terms added. -/
def out (x : S8192x2048.Idx) : EReal :=
  (term (fun k => A0 m c (ix2 (x 0) k)) (fun k => W0 m c (ix3 0 k (x 1))) (Ga m c (ix2 (x 0) (gcol 0 (by decide) (x 1))))
    + term (fun k => A1 m c (ix2 (x 0) k)) (fun k => W1 m c (ix3 0 k (x 1))) (Ga m c (ix2 (x 0) (gcol 2048 (by decide) (x 1)))))
    + term (fun k => A2 m c (ix2 (x 0) k)) (fun k => W2 m c (ix3 0 k (x 1))) (Ga m c (ix2 (x 0) (gcol 4096 (by decide) (x 1))))

/-- The block's payload at one element. -/
theorem pay_at (x0 x1 x2 : Vec Ideal S256x2048 .bf16) (w0 w1 w2 : Vec Ideal S2048x512 .bf16) (g0 g1 g2 : Vec Ideal S256x512 .f32)
    (r : Fin 256) (j : Fin 512) :
    k0_pay1 (k0_pay5 g0 x0 w0 g1 x1 w1) (k0_pay6 g2) x2 w2 (ix2 r j)
      = (term (fun k => x0 (ix2 r k)) (fun k => w0 (ix2 k j)) (g0 (ix2 r j)) + term (fun k => x1 (ix2 r k)) (fun k => w1 (ix2 k j)) (g1 (ix2 r j)))
        + term (fun k => x2 (ix2 r k)) (fun k => w2 (ix2 k j)) (g2 (ix2 r j)) := by
  unfold term
  pointwise [k0_pay1, k0_pay5, k0_pay6]
  simp only [zero_sub]
/-- The same with the scratch read back. -/
theorem pay_at_of (x0 x1 x2 : Vec Ideal S256x2048 .bf16) {w0 w1 w2 w0' w1' w2' : Vec Ideal S2048x512 .bf16} (g0 g1 g2 : Vec Ideal S256x512 .f32)
    (r : Fin 256) (j : Fin 512) (h0 : w0 = w0') (h1 : w1 = w1') (h2 : w2 = w2') :
    k0_pay1 (k0_pay5 g0 x0 w0 g1 x1 w1) (k0_pay6 g2) x2 w2 (ix2 r j)
      = (term (fun k => x0 (ix2 r k)) (fun k => w0' (ix2 k j)) (g0 (ix2 r j)) + term (fun k => x1 (ix2 r k)) (fun k => w1' (ix2 k j)) (g1 (ix2 r j)))
        + term (fun k => x2 (ix2 r k)) (fun k => w2' (ix2 k j)) (g2 (ix2 r j)) := by
  subst h0 h1 h2
  exact pay_at _ _ _ _ _ _ _ _ _ r j

/-! A point's blocks: of each branch its row block, of each weight its column block, of each gate the block at both. -/

theorem act0_at (t : Fin cfg0.N) (r : Fin 256) (k : Fin 2048) (R : Fin 8192) (h : R.val = t.val % 32 * 256 + r.val) :
    iblk m c 0 t (ix2 r k) = A0 m c (ix2 R k) := by
  have ht : t.val < 128 := t.isLt
  blk_ext [iblk, V, idx t]

theorem rhs0_at (t : Fin cfg0.N) (k : Fin 2048) (j : Fin 512) (J : Fin 2048) (h : J.val = t.val / 32 * 512 + j.val) :
    iblk m c 3 t (ix3 0 k j) = W0 m c (ix3 0 k J) := by
  have ht : t.val < 128 := t.isLt
  blk_ext [iblk, V, idx t]

theorem gate0_at (t : Fin cfg0.N) (r : Fin 256) (j : Fin 512) (R : Fin 8192) (J : Fin 2048) (h : R.val = t.val % 32 * 256 + r.val)
    (h' : J.val = t.val / 32 * 512 + j.val) :
    iblk m c 6 t (ix2 r j) = Ga m c (ix2 R (gcol 0 (by decide) J)) := by
  have ht : t.val < 128 := t.isLt
  blk_ext [iblk, V, idx t]

theorem act1_at (t : Fin cfg0.N) (r : Fin 256) (k : Fin 2048) (R : Fin 8192) (h : R.val = t.val % 32 * 256 + r.val) :
    iblk m c 1 t (ix2 r k) = A1 m c (ix2 R k) := by
  have ht : t.val < 128 := t.isLt
  blk_ext [iblk, V, idx t]

theorem rhs1_at (t : Fin cfg0.N) (k : Fin 2048) (j : Fin 512) (J : Fin 2048) (h : J.val = t.val / 32 * 512 + j.val) :
    iblk m c 4 t (ix3 0 k j) = W1 m c (ix3 0 k J) := by
  have ht : t.val < 128 := t.isLt
  blk_ext [iblk, V, idx t]

theorem gate1_at (t : Fin cfg0.N) (r : Fin 256) (j : Fin 512) (R : Fin 8192) (J : Fin 2048) (h : R.val = t.val % 32 * 256 + r.val)
    (h' : J.val = t.val / 32 * 512 + j.val) :
    iblk m c 7 t (ix2 r j) = Ga m c (ix2 R (gcol 2048 (by decide) J)) := by
  have ht : t.val < 128 := t.isLt
  blk_ext [iblk, V, idx t]

theorem act2_at (t : Fin cfg0.N) (r : Fin 256) (k : Fin 2048) (R : Fin 8192) (h : R.val = t.val % 32 * 256 + r.val) :
    iblk m c 2 t (ix2 r k) = A2 m c (ix2 R k) := by
  have ht : t.val < 128 := t.isLt
  blk_ext [iblk, V, idx t]

theorem rhs2_at (t : Fin cfg0.N) (k : Fin 2048) (j : Fin 512) (J : Fin 2048) (h : J.val = t.val / 32 * 512 + j.val) :
    iblk m c 5 t (ix3 0 k j) = W2 m c (ix3 0 k J) := by
  have ht : t.val < 128 := t.isLt
  blk_ext [iblk, V, idx t]

theorem gate2_at (t : Fin cfg0.N) (r : Fin 256) (j : Fin 512) (R : Fin 8192) (J : Fin 2048) (h : R.val = t.val % 32 * 256 + r.val)
    (h' : J.val = t.val / 32 * 512 + j.val) :
    iblk m c 8 t (ix2 r j) = Ga m c (ix2 R (gcol 4096 (by decide) J)) := by
  have ht : t.val < 128 := t.isLt
  blk_ext [iblk, V, idx t]

/-- A weight block in scratch, at one element; the three have the same text. -/
theorem weight (w : Vec Ideal S1x2048x512 .f32) (k : Fin 2048) (j : Fin 512) : k0_pay2 w (ix2 k j) = w (ix3 0 k j) := by
  pointwise [k0_pay2]

/-- A term at equal gates and equal products. -/
theorem term_congr {x w x' w' : Fin 2048 → EReal} {g g' : EReal} (hg : g = g') (h : ∑ k, x k * w k = ∑ k, x' k * w' k) :
    term x w g = term x' w' g' := by
  unfold term
  rw [hg, h]

theorem prod0_at (t : Fin cfg0.N) (r : Fin 256) (j : Fin 512) (R : Fin 8192) (J : Fin 2048) (h : R.val = t.val % 32 * 256 + r.val)
    (h' : J.val = t.val / 32 * 512 + j.val) :
    ∑ k : Fin 2048, (show EReal from iblk m c 0 t (ix2 r k)) * (show EReal from (outsAt0 m c t.val t.isLt).2.1 (ix2 k j))
      = ∑ k : Fin 2048, A0 m c (ix2 R k) * W0 m c (ix3 0 k J) := by
  refine product (p := 32) (fun n h => iblk m c 0 ⟨n, h⟩) (fun n h => (outsAt0 m c n h).2.1) (A0 m c) (fun k J => W0 m c (ix3 0 k J))
    (fun n h => act0_at m c ⟨n, h⟩) (fun n h h0 k j J hJ => ?_) (fun n h h0 => ?_) t.val t.isLt r j R J h h'
  · rw [outsAt0_A m c ⟨n, h⟩ h0]
    frame_out
    exact (weight _ k j).trans (rhs0_at m c ⟨n, h⟩ k j J hJ)
  · rw [outsAt0_B m c ⟨n, h⟩ h0]
    rfl

theorem prod1_at (t : Fin cfg0.N) (r : Fin 256) (j : Fin 512) (R : Fin 8192) (J : Fin 2048) (h : R.val = t.val % 32 * 256 + r.val)
    (h' : J.val = t.val / 32 * 512 + j.val) :
    ∑ k : Fin 2048, (show EReal from iblk m c 1 t (ix2 r k)) * (show EReal from (outsAt0 m c t.val t.isLt).2.2.1 (ix2 k j))
      = ∑ k : Fin 2048, A1 m c (ix2 R k) * W1 m c (ix3 0 k J) := by
  refine product (p := 32) (fun n h => iblk m c 1 ⟨n, h⟩) (fun n h => (outsAt0 m c n h).2.2.1) (A1 m c) (fun k J => W1 m c (ix3 0 k J))
    (fun n h => act1_at m c ⟨n, h⟩) (fun n h h0 k j J hJ => ?_) (fun n h h0 => ?_) t.val t.isLt r j R J h h'
  · rw [outsAt0_A m c ⟨n, h⟩ h0]
    frame_out
    exact (weight _ k j).trans (rhs1_at m c ⟨n, h⟩ k j J hJ)
  · rw [outsAt0_B m c ⟨n, h⟩ h0]
    rfl

theorem prod2_at (t : Fin cfg0.N) (r : Fin 256) (j : Fin 512) (R : Fin 8192) (J : Fin 2048) (h : R.val = t.val % 32 * 256 + r.val)
    (h' : J.val = t.val / 32 * 512 + j.val) :
    ∑ k : Fin 2048, (show EReal from iblk m c 2 t (ix2 r k)) * (show EReal from (outsAt0 m c t.val t.isLt).2.2.2 (ix2 k j))
      = ∑ k : Fin 2048, A2 m c (ix2 R k) * W2 m c (ix3 0 k J) := by
  refine product (p := 32) (fun n h => iblk m c 2 ⟨n, h⟩) (fun n h => (outsAt0 m c n h).2.2.2) (A2 m c) (fun k J => W2 m c (ix3 0 k J))
    (fun n h => act2_at m c ⟨n, h⟩) (fun n h h0 k j J hJ => ?_) (fun n h h0 => ?_) t.val t.isLt r j R J h h'
  · rw [outsAt0_A m c ⟨n, h⟩ h0]
    frame_out
    exact (weight _ k j).trans (rhs2_at m c ⟨n, h⟩ k j J hJ)
  · rw [outsAt0_B m c ⟨n, h⟩ h0]
    rfl

/-- A point's block is the three terms at its rows, its scratch and its gates. -/
theorem block (t : Fin cfg0.N) (r : Fin 256) (j : Fin 512) : (outsAt0 m c t.val t.isLt).1 (ix2 r j)
    = (term (fun k => iblk m c 0 t (ix2 r k)) (fun k => (outsAt0 m c t.val t.isLt).2.1 (ix2 k j)) (iblk m c 6 t (ix2 r j))
        + term (fun k => iblk m c 1 t (ix2 r k)) (fun k => (outsAt0 m c t.val t.isLt).2.2.1 (ix2 k j)) (iblk m c 7 t (ix2 r j)))
      + term (fun k => iblk m c 2 t (ix2 r k)) (fun k => (outsAt0 m c t.val t.isLt).2.2.2 (ix2 k j)) (iblk m c 8 t (ix2 r j)) := by
  by_cases h0 : t.val % 32 = 0
  · rw [outsAt0_A m c t h0]
    frame_out
    exact pay_at _ _ _ _ _ _ _ _ _ r j
  · rw [outsAt0_B m c t h0]
    frame_out
    exact pay_at_of _ _ _ _ _ _ r j (Memref.IsWhole.read_unread _ _) (Memref.IsWhole.read_unread _ _) (Memref.IsWhole.read_unread _ _)

/-- The array of the result ends as the merged branches. -/
theorem final : (dats m 0 c).arrAt 9 (cfgs 0).N = out m c := by
  refine (dats m 0 c).arrAt_eq_of_covers 9 _ (by decide +kernel) fun t _ y => ?_
  blk_simp
  rw [after0_9]
  obtain ⟨r, j, rfl⟩ : ∃ r j, y = ix2 r j := ⟨y 0, y 1, by funext a; match a with | 0 => rfl | 1 => rfl⟩
  refine (block m c t r j).trans (congrArg₂ (fun a b : EReal => a + b) (congrArg₂ (fun a b : EReal => a + b)
    (term_congr (gate0_at m c t r j _ _ ?_ ?_) (prod0_at m c t r j _ _ ?_ ?_)) (term_congr (gate1_at m c t r j _ _ ?_ ?_) (prod1_at m c t r j _ _ ?_ ?_)))
    (term_congr (gate2_at m c t r j _ _ ?_ ?_) (prod2_at m c t r j _ _ ?_ ?_)))
  all_goals blk_simp [idx t]

end Cert.Kernel8Ideal.Mm

namespace Cert.Reference8Ideal.Mm

open Idealize.ShloMosaic Idealize.ShloMosaic.TcCoe Idealize.SL.Sem Cert.Reference8Ideal Cert.Reference8Ideal.Gen

/-- The two programs of the kernel have the same text, so the same bodies. -/
theorem defs_eq : Cert.Kernel8.defs (F := Bits) = Cert.Kernel8Ideal.defs (F := Bits) := by sl_kernel_rfl

/-- The kernel's frame, over words. -/
theorem frame_kernel : Cert.quiescent_Kernel8 (hKernel8 := Cert.Kernel8.Gen.facts) := fun m ρ _ => by
  have h := Cert.Kernel8Ideal.Gen.frame (F := Bits) m ρ
  rw [← defs_eq] at h
  exact h

/-- The kernel's frame, over the extended reals. -/
theorem frame_ideal : Cert.quiescent_Kernel8Ideal (hKernel8Ideal := Cert.Kernel8Ideal.Gen.facts) := fun m ρ _ => Cert.Kernel8Ideal.Gen.frame m ρ

/-- The reference ends with its arguments unchanged; it has no semaphore. -/
theorem frame_ref : Cert.quiescent_Reference8Ideal (hReference8Ideal := Cert.Reference8Ideal.Gen.facts) := fun m ρ _ =>
  (θ_run Cert.Reference8Ideal.defs _ _).mono (fun r h => ⟨fun c => (h c).2, sem_eq_zero_of_no_sems (by decide) r.2⟩)
    (Cert.Reference8Ideal.Value.run (F := Ideal) m ρ)

/-- From agreeing arguments both programs end with the same product. -/
theorem equal : Cert.algebraic_Kernel8Ideal_Reference8Ideal (hKernel8Ideal := Cert.Kernel8Ideal.Gen.facts)
    (hReference8Ideal := Cert.Reference8Ideal.Gen.facts) := by
  intro m g m' g' _ hagree
  refine ⟨fun c => Cert.Kernel8Ideal.Mm.out m c, ?_, ?_⟩
  · refine (θ_run Cert.Kernel8Ideal.defs _ _).mono (fun r h c => ⟨(h c).1.trans (Cert.Kernel8Ideal.Mm.final m c), (h c).2⟩)
      (Cert.Kernel8Ideal.Value.run_blocks (F := Ideal) m g)
  · refine (θ_run Cert.Reference8Ideal.defs _ _).mono (fun r h c => ⟨(h c).1.trans ?_, (h c).2⟩)
      (Cert.Reference8Ideal.Value.run (F := Ideal) m' g')
    rw [(hagree c).1, (hagree c).2.1, (hagree c).2.2.1, (hagree c).2.2.2.1, (hagree c).2.2.2.2.1, (hagree c).2.2.2.2.2.1, (hagree c).2.2.2.2.2.2]
    funext x
    unfold Cert.Kernel8Ideal.Mm.out Cert.Kernel8Ideal.Mm.term
    pointwise [Cert.Kernel8Ideal.Mm.gcol]
    try simp only [Nat.zero_add]

end Cert.Reference8Ideal.Mm
-- ==== Proof.Mm.K9.lean ====
/-
  The projection to the recurrence branch: columns 8192 to 12287 of the input weights.
-/
module

public import proofs.«01_k».proof.Proof.Mm.Common
public import proofs.«01_k».proof.Proof.Gen.Kernel9Ideal.Value
public import proofs.«01_k».proof.Proof.Gen.Kernel9
public import proofs.«01_k».proof.Proof.Gen.Reference9Ideal.Run
public import proofs.«01_k».proof.Defs

@[expose] public section

set_option maxRecDepth 16384

noncomputable section

namespace Cert.Kernel9Ideal.Mm

open Idealize.ShloMosaic Idealize.ShloMosaic.TcCoe Idealize.SL.Sem Cert.Kernel9Ideal Cert.Kernel9Ideal.Gen Cert.Mm

/-- The blocks' places at point `t`, of row block `t % 8` and column block `t / 8`. -/
theorem idx : ∀ t : Fin cfg0.N, win0_0.index t = ![t.val % 8, 0] ∧ win0_1.index t = ![0, 8 + t.val / 8, 0]
    ∧ win0_2.index t = ![t.val % 8, t.val / 8] := (by decide +kernel : ∀ t : Fin grid0.N, _)

variable (m : (ℓ : Loc nD τ sig) → Buf (Elt Ideal) ℓ) (c : Dev nD)

abbrev Ha : S8192x2048.Idx → EReal := m ((c.tc : Thread nD τ).loc main_arg0)
abbrev Wa : S2x2048x24592.Idx → EReal := m ((c.tc : Thread nD τ).loc main_arg1)

/-- The column of the weights that column `J` of the result takes. -/
abbrev col (J : Fin 4096) : Fin 24592 := ⟨8192 + J.val, by omega⟩

/-- The product of the activations with the chosen columns. -/
def out (x : S8192x4096.Idx) : EReal :=
  ∑ k : Fin 2048, Ha m c (ix2 (x 0) k) * Wa m c (ix3 0 k (col (x 1)))

/-- The block of activations at a point: its row block. -/
theorem lhs_at (t : Fin cfg0.N) (r : Fin 1024) (k : Fin 2048) (R : Fin 8192) (h : R.val = t.val % 8 * 1024 + r.val) :
    iblk m c 0 t (ix2 r k) = Ha m c (ix2 R k) := by
  have ht : t.val < 32 := t.isLt
  blk_ext [iblk, V, idx t]

/-- The block of transposed weights at a point: the rows of its column block. -/
theorem rhs_at (t : Fin cfg0.N) (r : Fin 1024) (k : Fin 2048) (J : Fin 4096) (h : J.val = t.val / 8 * 1024 + r.val) :
    X0_1 m c t (ix3 0 r k) = Wa m c (ix3 0 k (col J)) := by
  have ht : t.val < 32 := t.isLt
  unfold X0_1 Pipeline.Window.fill
  rw [dif_pos (moved0_1 t _)]
  blk_simp [iblk, idx t]
  entry_read
  pointwise []
  blk_ext [idx t]

/-- A point's block is the product of its rows with the scratch. -/
theorem block (t : Fin cfg0.N) (r j : Fin 1024) : (outsAt0 m c t.val t.isLt).1 (ix2 r j)
    = ∑ k : Fin 2048, (show EReal from iblk m c 0 t (ix2 r k)) * (show EReal from (outsAt0 m c t.val t.isLt).2 (ix2 k j)) := by
  by_cases h0 : t.val % 8 = 0
  · rw [outsAt0_A m c t h0]
    frame_out
    exact dot_at _ _ r j
  · rw [outsAt0_B m c t h0]
    frame_out
    exact dot_at_of _ r j (Memref.IsWhole.read_unread _ _)

/-- The array of the result ends as the product. -/
theorem final : (dats m 0 c).arrAt 2 (cfgs 0).N = out m c := by
  refine (dats m 0 c).arrAt_eq_of_covers 2 _ (by decide +kernel) fun t _ y => ?_
  blk_simp
  rw [after0_2]
  obtain ⟨r, j, rfl⟩ : ∃ r j, y = ix2 r j := ⟨y 0, y 1, by funext a; match a with | 0 => rfl | 1 => rfl⟩
  refine (block m c t r j).trans (product (p := 8) (fun n h => iblk m c 0 ⟨n, h⟩) (fun n h => (outsAt0 m c n h).2) (Ha m c)
    (fun k J => Wa m c (ix3 0 k (col J))) (fun n h => lhs_at m c ⟨n, h⟩) (fun n h h0 k j J hJ => ?_) (fun n h h0 => ?_) t.val t.isLt r j _ _ ?_ ?_)
  · rw [outsAt0_A m c ⟨n, h⟩ h0]
    frame_out
    exact (weightT_at _ k j).trans (rhs_at m c ⟨n, h⟩ j k J hJ)
  · rw [outsAt0_B m c ⟨n, h⟩ h0]
    rfl
  · blk_simp [idx t]
  · blk_simp [idx t]

end Cert.Kernel9Ideal.Mm

namespace Cert.Reference9Ideal.Mm

open Idealize.ShloMosaic Idealize.ShloMosaic.TcCoe Idealize.SL.Sem Cert.Reference9Ideal Cert.Reference9Ideal.Gen

/-- The two programs of the kernel have the same text, so the same bodies. -/
theorem defs_eq : Cert.Kernel9.defs (F := Bits) = Cert.Kernel9Ideal.defs (F := Bits) := by sl_kernel_rfl

/-- The kernel's frame, over words. -/
theorem frame_kernel : Cert.quiescent_Kernel9 (hKernel9 := Cert.Kernel9.Gen.facts) := fun m ρ _ => by
  have h := Cert.Kernel9Ideal.Gen.frame (F := Bits) m ρ
  rw [← defs_eq] at h
  exact h

/-- The kernel's frame, over the extended reals. -/
theorem frame_ideal : Cert.quiescent_Kernel9Ideal (hKernel9Ideal := Cert.Kernel9Ideal.Gen.facts) := fun m ρ _ => Cert.Kernel9Ideal.Gen.frame m ρ

/-- The reference ends with its arguments unchanged; it has no semaphore. -/
theorem frame_ref : Cert.quiescent_Reference9Ideal (hReference9Ideal := Cert.Reference9Ideal.Gen.facts) := fun m ρ _ =>
  (θ_run Cert.Reference9Ideal.defs _ _).mono (fun r h => ⟨fun c => (h c).2, sem_eq_zero_of_no_sems (by decide) r.2⟩)
    (Cert.Reference9Ideal.Value.run (F := Ideal) m ρ)

/-- From agreeing arguments both programs end with the same product. -/
theorem equal : Cert.algebraic_Kernel9Ideal_Reference9Ideal (hKernel9Ideal := Cert.Kernel9Ideal.Gen.facts)
    (hReference9Ideal := Cert.Reference9Ideal.Gen.facts) := by
  intro m g m' g' _ hagree
  refine ⟨fun c => Cert.Kernel9Ideal.Mm.out m c, ?_, ?_⟩
  · refine (θ_run Cert.Kernel9Ideal.defs _ _).mono (fun r h c => ⟨(h c).1.trans (Cert.Kernel9Ideal.Mm.final m c), (h c).2⟩)
      (Cert.Kernel9Ideal.Value.run_blocks (F := Ideal) m g)
  · refine (θ_run Cert.Reference9Ideal.defs _ _).mono (fun r h c => ⟨(h c).1.trans ?_, (h c).2⟩)
      (Cert.Reference9Ideal.Value.run (F := Ideal) m' g')
    rw [(hagree c).1, (hagree c).2]
    funext x
    unfold Cert.Kernel9Ideal.Mm.out
    pointwise []

end Cert.Reference9Ideal.Mm
-- ==== Proof.Mm.K10.lean ====
/-
  The projection to the attention's queries: columns 12288 to 14335 of the input weights.
-/
module

public import proofs.«01_k».proof.Proof.Mm.Common
public import proofs.«01_k».proof.Proof.Gen.Kernel10Ideal.Value
public import proofs.«01_k».proof.Proof.Gen.Kernel10
public import proofs.«01_k».proof.Proof.Gen.Reference10Ideal.Run
public import proofs.«01_k».proof.Defs

@[expose] public section

set_option maxRecDepth 16384

noncomputable section

namespace Cert.Kernel10Ideal.Mm

open Idealize.ShloMosaic Idealize.ShloMosaic.TcCoe Idealize.SL.Sem Cert.Kernel10Ideal Cert.Kernel10Ideal.Gen Cert.Mm

/-- The blocks' places at point `t`, of row block `t % 8` and column block `t / 8`. -/
theorem idx : ∀ t : Fin cfg0.N, win0_0.index t = ![t.val % 8, 0] ∧ win0_1.index t = ![0, 12 + t.val / 8, 0]
    ∧ win0_2.index t = ![t.val % 8, t.val / 8] := (by decide +kernel : ∀ t : Fin grid0.N, _)

variable (m : (ℓ : Loc nD τ sig) → Buf (Elt Ideal) ℓ) (c : Dev nD)

abbrev Ha : S8192x2048.Idx → EReal := m ((c.tc : Thread nD τ).loc main_arg0)
abbrev Wa : S2x2048x24592.Idx → EReal := m ((c.tc : Thread nD τ).loc main_arg1)

/-- The column of the weights that column `J` of the result takes. -/
abbrev col (J : Fin 2048) : Fin 24592 := ⟨12288 + J.val, by omega⟩

/-- The product of the activations with the chosen columns. -/
def out (x : S8192x2048.Idx) : EReal :=
  ∑ k : Fin 2048, Ha m c (ix2 (x 0) k) * Wa m c (ix3 0 k (col (x 1)))

/-- The block of activations at a point: its row block. -/
theorem lhs_at (t : Fin cfg0.N) (r : Fin 1024) (k : Fin 2048) (R : Fin 8192) (h : R.val = t.val % 8 * 1024 + r.val) :
    iblk m c 0 t (ix2 r k) = Ha m c (ix2 R k) := by
  have ht : t.val < 16 := t.isLt
  blk_ext [iblk, V, idx t]

/-- The block of transposed weights at a point: the rows of its column block. -/
theorem rhs_at (t : Fin cfg0.N) (r : Fin 1024) (k : Fin 2048) (J : Fin 2048) (h : J.val = t.val / 8 * 1024 + r.val) :
    X0_1 m c t (ix3 0 r k) = Wa m c (ix3 0 k (col J)) := by
  have ht : t.val < 16 := t.isLt
  unfold X0_1 Pipeline.Window.fill
  rw [dif_pos (moved0_1 t _)]
  blk_simp [iblk, idx t]
  entry_read
  pointwise []
  blk_ext [idx t]

/-- A point's block is the product of its rows with the scratch. -/
theorem block (t : Fin cfg0.N) (r j : Fin 1024) : (outsAt0 m c t.val t.isLt).1 (ix2 r j)
    = ∑ k : Fin 2048, (show EReal from iblk m c 0 t (ix2 r k)) * (show EReal from (outsAt0 m c t.val t.isLt).2 (ix2 k j)) := by
  by_cases h0 : t.val % 8 = 0
  · rw [outsAt0_A m c t h0]
    frame_out
    exact dot_at _ _ r j
  · rw [outsAt0_B m c t h0]
    frame_out
    exact dot_at_of _ r j (Memref.IsWhole.read_unread _ _)

/-- The array of the result ends as the product. -/
theorem final : (dats m 0 c).arrAt 2 (cfgs 0).N = out m c := by
  refine (dats m 0 c).arrAt_eq_of_covers 2 _ (by decide +kernel) fun t _ y => ?_
  blk_simp
  rw [after0_2]
  obtain ⟨r, j, rfl⟩ : ∃ r j, y = ix2 r j := ⟨y 0, y 1, by funext a; match a with | 0 => rfl | 1 => rfl⟩
  refine (block m c t r j).trans (product (p := 8) (fun n h => iblk m c 0 ⟨n, h⟩) (fun n h => (outsAt0 m c n h).2) (Ha m c)
    (fun k J => Wa m c (ix3 0 k (col J))) (fun n h => lhs_at m c ⟨n, h⟩) (fun n h h0 k j J hJ => ?_) (fun n h h0 => ?_) t.val t.isLt r j _ _ ?_ ?_)
  · rw [outsAt0_A m c ⟨n, h⟩ h0]
    frame_out
    exact (weightT_at _ k j).trans (rhs_at m c ⟨n, h⟩ j k J hJ)
  · rw [outsAt0_B m c ⟨n, h⟩ h0]
    rfl
  · blk_simp [idx t]
  · blk_simp [idx t]

end Cert.Kernel10Ideal.Mm

namespace Cert.Reference10Ideal.Mm

open Idealize.ShloMosaic Idealize.ShloMosaic.TcCoe Idealize.SL.Sem Cert.Reference10Ideal Cert.Reference10Ideal.Gen

/-- The two programs of the kernel have the same text, so the same bodies. -/
theorem defs_eq : Cert.Kernel10.defs (F := Bits) = Cert.Kernel10Ideal.defs (F := Bits) := by sl_kernel_rfl

/-- The kernel's frame, over words. -/
theorem frame_kernel : Cert.quiescent_Kernel10 (hKernel10 := Cert.Kernel10.Gen.facts) := fun m ρ _ => by
  have h := Cert.Kernel10Ideal.Gen.frame (F := Bits) m ρ
  rw [← defs_eq] at h
  exact h

/-- The kernel's frame, over the extended reals. -/
theorem frame_ideal : Cert.quiescent_Kernel10Ideal (hKernel10Ideal := Cert.Kernel10Ideal.Gen.facts) := fun m ρ _ => Cert.Kernel10Ideal.Gen.frame m ρ

/-- The reference ends with its arguments unchanged; it has no semaphore. -/
theorem frame_ref : Cert.quiescent_Reference10Ideal (hReference10Ideal := Cert.Reference10Ideal.Gen.facts) := fun m ρ _ =>
  (θ_run Cert.Reference10Ideal.defs _ _).mono (fun r h => ⟨fun c => (h c).2, sem_eq_zero_of_no_sems (by decide) r.2⟩)
    (Cert.Reference10Ideal.Value.run (F := Ideal) m ρ)

/-- From agreeing arguments both programs end with the same product. -/
theorem equal : Cert.algebraic_Kernel10Ideal_Reference10Ideal (hKernel10Ideal := Cert.Kernel10Ideal.Gen.facts)
    (hReference10Ideal := Cert.Reference10Ideal.Gen.facts) := by
  intro m g m' g' _ hagree
  refine ⟨fun c => Cert.Kernel10Ideal.Mm.out m c, ?_, ?_⟩
  · refine (θ_run Cert.Kernel10Ideal.defs _ _).mono (fun r h c => ⟨(h c).1.trans (Cert.Kernel10Ideal.Mm.final m c), (h c).2⟩)
      (Cert.Kernel10Ideal.Value.run_blocks (F := Ideal) m g)
  · refine (θ_run Cert.Reference10Ideal.defs _ _).mono (fun r h c => ⟨(h c).1.trans ?_, (h c).2⟩)
      (Cert.Reference10Ideal.Value.run (F := Ideal) m' g')
    rw [(hagree c).1, (hagree c).2]
    funext x
    unfold Cert.Kernel10Ideal.Mm.out
    pointwise []

end Cert.Reference10Ideal.Mm
-- ==== Proof.Mm.K11.lean ====
/-
  The projection to the attention's keys: columns 14336 to 16383 of the input weights.
-/
module

public import proofs.«01_k».proof.Proof.Mm.Common
public import proofs.«01_k».proof.Proof.Gen.Kernel11Ideal.Value
public import proofs.«01_k».proof.Proof.Gen.Kernel11
public import proofs.«01_k».proof.Proof.Gen.Reference11Ideal.Run
public import proofs.«01_k».proof.Defs

@[expose] public section

set_option maxRecDepth 16384

noncomputable section

namespace Cert.Kernel11Ideal.Mm

open Idealize.ShloMosaic Idealize.ShloMosaic.TcCoe Idealize.SL.Sem Cert.Kernel11Ideal Cert.Kernel11Ideal.Gen Cert.Mm

/-- The blocks' places at point `t`, of row block `t % 8` and column block `t / 8`. -/
theorem idx : ∀ t : Fin cfg0.N, win0_0.index t = ![t.val % 8, 0] ∧ win0_1.index t = ![0, 14 + t.val / 8, 0]
    ∧ win0_2.index t = ![t.val % 8, t.val / 8] := (by decide +kernel : ∀ t : Fin grid0.N, _)

variable (m : (ℓ : Loc nD τ sig) → Buf (Elt Ideal) ℓ) (c : Dev nD)

abbrev Ha : S8192x2048.Idx → EReal := m ((c.tc : Thread nD τ).loc main_arg0)
abbrev Wa : S2x2048x24592.Idx → EReal := m ((c.tc : Thread nD τ).loc main_arg1)

/-- The column of the weights that column `J` of the result takes. -/
abbrev col (J : Fin 2048) : Fin 24592 := ⟨14336 + J.val, by omega⟩

/-- The product of the activations with the chosen columns. -/
def out (x : S8192x2048.Idx) : EReal :=
  ∑ k : Fin 2048, Ha m c (ix2 (x 0) k) * Wa m c (ix3 0 k (col (x 1)))

/-- The block of activations at a point: its row block. -/
theorem lhs_at (t : Fin cfg0.N) (r : Fin 1024) (k : Fin 2048) (R : Fin 8192) (h : R.val = t.val % 8 * 1024 + r.val) :
    iblk m c 0 t (ix2 r k) = Ha m c (ix2 R k) := by
  have ht : t.val < 16 := t.isLt
  blk_ext [iblk, V, idx t]

/-- The block of transposed weights at a point: the rows of its column block. -/
theorem rhs_at (t : Fin cfg0.N) (r : Fin 1024) (k : Fin 2048) (J : Fin 2048) (h : J.val = t.val / 8 * 1024 + r.val) :
    X0_1 m c t (ix3 0 r k) = Wa m c (ix3 0 k (col J)) := by
  have ht : t.val < 16 := t.isLt
  unfold X0_1 Pipeline.Window.fill
  rw [dif_pos (moved0_1 t _)]
  blk_simp [iblk, idx t]
  entry_read
  pointwise []
  blk_ext [idx t]

/-- A point's block is the product of its rows with the scratch. -/
theorem block (t : Fin cfg0.N) (r j : Fin 1024) : (outsAt0 m c t.val t.isLt).1 (ix2 r j)
    = ∑ k : Fin 2048, (show EReal from iblk m c 0 t (ix2 r k)) * (show EReal from (outsAt0 m c t.val t.isLt).2 (ix2 k j)) := by
  by_cases h0 : t.val % 8 = 0
  · rw [outsAt0_A m c t h0]
    frame_out
    exact dot_at _ _ r j
  · rw [outsAt0_B m c t h0]
    frame_out
    exact dot_at_of _ r j (Memref.IsWhole.read_unread _ _)

/-- The array of the result ends as the product. -/
theorem final : (dats m 0 c).arrAt 2 (cfgs 0).N = out m c := by
  refine (dats m 0 c).arrAt_eq_of_covers 2 _ (by decide +kernel) fun t _ y => ?_
  blk_simp
  rw [after0_2]
  obtain ⟨r, j, rfl⟩ : ∃ r j, y = ix2 r j := ⟨y 0, y 1, by funext a; match a with | 0 => rfl | 1 => rfl⟩
  refine (block m c t r j).trans (product (p := 8) (fun n h => iblk m c 0 ⟨n, h⟩) (fun n h => (outsAt0 m c n h).2) (Ha m c)
    (fun k J => Wa m c (ix3 0 k (col J))) (fun n h => lhs_at m c ⟨n, h⟩) (fun n h h0 k j J hJ => ?_) (fun n h h0 => ?_) t.val t.isLt r j _ _ ?_ ?_)
  · rw [outsAt0_A m c ⟨n, h⟩ h0]
    frame_out
    exact (weightT_at _ k j).trans (rhs_at m c ⟨n, h⟩ j k J hJ)
  · rw [outsAt0_B m c ⟨n, h⟩ h0]
    rfl
  · blk_simp [idx t]
  · blk_simp [idx t]

end Cert.Kernel11Ideal.Mm

namespace Cert.Reference11Ideal.Mm

open Idealize.ShloMosaic Idealize.ShloMosaic.TcCoe Idealize.SL.Sem Cert.Reference11Ideal Cert.Reference11Ideal.Gen

/-- The two programs of the kernel have the same text, so the same bodies. -/
theorem defs_eq : Cert.Kernel11.defs (F := Bits) = Cert.Kernel11Ideal.defs (F := Bits) := by sl_kernel_rfl

/-- The kernel's frame, over words. -/
theorem frame_kernel : Cert.quiescent_Kernel11 (hKernel11 := Cert.Kernel11.Gen.facts) := fun m ρ _ => by
  have h := Cert.Kernel11Ideal.Gen.frame (F := Bits) m ρ
  rw [← defs_eq] at h
  exact h

/-- The kernel's frame, over the extended reals. -/
theorem frame_ideal : Cert.quiescent_Kernel11Ideal (hKernel11Ideal := Cert.Kernel11Ideal.Gen.facts) := fun m ρ _ => Cert.Kernel11Ideal.Gen.frame m ρ

/-- The reference ends with its arguments unchanged; it has no semaphore. -/
theorem frame_ref : Cert.quiescent_Reference11Ideal (hReference11Ideal := Cert.Reference11Ideal.Gen.facts) := fun m ρ _ =>
  (θ_run Cert.Reference11Ideal.defs _ _).mono (fun r h => ⟨fun c => (h c).2, sem_eq_zero_of_no_sems (by decide) r.2⟩)
    (Cert.Reference11Ideal.Value.run (F := Ideal) m ρ)

/-- From agreeing arguments both programs end with the same product. -/
theorem equal : Cert.algebraic_Kernel11Ideal_Reference11Ideal (hKernel11Ideal := Cert.Kernel11Ideal.Gen.facts)
    (hReference11Ideal := Cert.Reference11Ideal.Gen.facts) := by
  intro m g m' g' _ hagree
  refine ⟨fun c => Cert.Kernel11Ideal.Mm.out m c, ?_, ?_⟩
  · refine (θ_run Cert.Kernel11Ideal.defs _ _).mono (fun r h c => ⟨(h c).1.trans (Cert.Kernel11Ideal.Mm.final m c), (h c).2⟩)
      (Cert.Kernel11Ideal.Value.run_blocks (F := Ideal) m g)
  · refine (θ_run Cert.Reference11Ideal.defs _ _).mono (fun r h c => ⟨(h c).1.trans ?_, (h c).2⟩)
      (Cert.Reference11Ideal.Value.run (F := Ideal) m' g')
    rw [(hagree c).1, (hagree c).2]
    funext x
    unfold Cert.Kernel11Ideal.Mm.out
    pointwise []

end Cert.Reference11Ideal.Mm
-- ==== Proof.Mm.K12.lean ====
/-
  The projection to the attention's values: columns 16384 to 18431 of the input weights.
-/
module

public import proofs.«01_k».proof.Proof.Mm.Common
public import proofs.«01_k».proof.Proof.Gen.Kernel12Ideal.Value
public import proofs.«01_k».proof.Proof.Gen.Kernel12
public import proofs.«01_k».proof.Proof.Gen.Reference12Ideal.Run
public import proofs.«01_k».proof.Defs

@[expose] public section

set_option maxRecDepth 16384

noncomputable section

namespace Cert.Kernel12Ideal.Mm

open Idealize.ShloMosaic Idealize.ShloMosaic.TcCoe Idealize.SL.Sem Cert.Kernel12Ideal Cert.Kernel12Ideal.Gen Cert.Mm

/-- The blocks' places at point `t`, of row block `t % 8` and column block `t / 8`. -/
theorem idx : ∀ t : Fin cfg0.N, win0_0.index t = ![t.val % 8, 0] ∧ win0_1.index t = ![0, 16 + t.val / 8, 0]
    ∧ win0_2.index t = ![t.val % 8, t.val / 8] := (by decide +kernel : ∀ t : Fin grid0.N, _)

variable (m : (ℓ : Loc nD τ sig) → Buf (Elt Ideal) ℓ) (c : Dev nD)

abbrev Ha : S8192x2048.Idx → EReal := m ((c.tc : Thread nD τ).loc main_arg0)
abbrev Wa : S2x2048x24592.Idx → EReal := m ((c.tc : Thread nD τ).loc main_arg1)

/-- The column of the weights that column `J` of the result takes. -/
abbrev col (J : Fin 2048) : Fin 24592 := ⟨16384 + J.val, by omega⟩

/-- The product of the activations with the chosen columns. -/
def out (x : S8192x2048.Idx) : EReal :=
  ∑ k : Fin 2048, Ha m c (ix2 (x 0) k) * Wa m c (ix3 0 k (col (x 1)))

/-- The block of activations at a point: its row block. -/
theorem lhs_at (t : Fin cfg0.N) (r : Fin 1024) (k : Fin 2048) (R : Fin 8192) (h : R.val = t.val % 8 * 1024 + r.val) :
    iblk m c 0 t (ix2 r k) = Ha m c (ix2 R k) := by
  have ht : t.val < 16 := t.isLt
  blk_ext [iblk, V, idx t]

/-- The block of transposed weights at a point: the rows of its column block. -/
theorem rhs_at (t : Fin cfg0.N) (r : Fin 1024) (k : Fin 2048) (J : Fin 2048) (h : J.val = t.val / 8 * 1024 + r.val) :
    X0_1 m c t (ix3 0 r k) = Wa m c (ix3 0 k (col J)) := by
  have ht : t.val < 16 := t.isLt
  unfold X0_1 Pipeline.Window.fill
  rw [dif_pos (moved0_1 t _)]
  blk_simp [iblk, idx t]
  entry_read
  pointwise []
  blk_ext [idx t]

/-- A point's block is the product of its rows with the scratch. -/
theorem block (t : Fin cfg0.N) (r j : Fin 1024) : (outsAt0 m c t.val t.isLt).1 (ix2 r j)
    = ∑ k : Fin 2048, (show EReal from iblk m c 0 t (ix2 r k)) * (show EReal from (outsAt0 m c t.val t.isLt).2 (ix2 k j)) := by
  by_cases h0 : t.val % 8 = 0
  · rw [outsAt0_A m c t h0]
    frame_out
    exact dot_at _ _ r j
  · rw [outsAt0_B m c t h0]
    frame_out
    exact dot_at_of _ r j (Memref.IsWhole.read_unread _ _)

/-- The array of the result ends as the product. -/
theorem final : (dats m 0 c).arrAt 2 (cfgs 0).N = out m c := by
  refine (dats m 0 c).arrAt_eq_of_covers 2 _ (by decide +kernel) fun t _ y => ?_
  blk_simp
  rw [after0_2]
  obtain ⟨r, j, rfl⟩ : ∃ r j, y = ix2 r j := ⟨y 0, y 1, by funext a; match a with | 0 => rfl | 1 => rfl⟩
  refine (block m c t r j).trans (product (p := 8) (fun n h => iblk m c 0 ⟨n, h⟩) (fun n h => (outsAt0 m c n h).2) (Ha m c)
    (fun k J => Wa m c (ix3 0 k (col J))) (fun n h => lhs_at m c ⟨n, h⟩) (fun n h h0 k j J hJ => ?_) (fun n h h0 => ?_) t.val t.isLt r j _ _ ?_ ?_)
  · rw [outsAt0_A m c ⟨n, h⟩ h0]
    frame_out
    exact (weightT_at _ k j).trans (rhs_at m c ⟨n, h⟩ j k J hJ)
  · rw [outsAt0_B m c ⟨n, h⟩ h0]
    rfl
  · blk_simp [idx t]
  · blk_simp [idx t]

end Cert.Kernel12Ideal.Mm

namespace Cert.Reference12Ideal.Mm

open Idealize.ShloMosaic Idealize.ShloMosaic.TcCoe Idealize.SL.Sem Cert.Reference12Ideal Cert.Reference12Ideal.Gen

/-- The two programs of the kernel have the same text, so the same bodies. -/
theorem defs_eq : Cert.Kernel12.defs (F := Bits) = Cert.Kernel12Ideal.defs (F := Bits) := by sl_kernel_rfl

/-- The kernel's frame, over words. -/
theorem frame_kernel : Cert.quiescent_Kernel12 (hKernel12 := Cert.Kernel12.Gen.facts) := fun m ρ _ => by
  have h := Cert.Kernel12Ideal.Gen.frame (F := Bits) m ρ
  rw [← defs_eq] at h
  exact h

/-- The kernel's frame, over the extended reals. -/
theorem frame_ideal : Cert.quiescent_Kernel12Ideal (hKernel12Ideal := Cert.Kernel12Ideal.Gen.facts) := fun m ρ _ => Cert.Kernel12Ideal.Gen.frame m ρ

/-- The reference ends with its arguments unchanged; it has no semaphore. -/
theorem frame_ref : Cert.quiescent_Reference12Ideal (hReference12Ideal := Cert.Reference12Ideal.Gen.facts) := fun m ρ _ =>
  (θ_run Cert.Reference12Ideal.defs _ _).mono (fun r h => ⟨fun c => (h c).2, sem_eq_zero_of_no_sems (by decide) r.2⟩)
    (Cert.Reference12Ideal.Value.run (F := Ideal) m ρ)

/-- From agreeing arguments both programs end with the same product. -/
theorem equal : Cert.algebraic_Kernel12Ideal_Reference12Ideal (hKernel12Ideal := Cert.Kernel12Ideal.Gen.facts)
    (hReference12Ideal := Cert.Reference12Ideal.Gen.facts) := by
  intro m g m' g' _ hagree
  refine ⟨fun c => Cert.Kernel12Ideal.Mm.out m c, ?_, ?_⟩
  · refine (θ_run Cert.Kernel12Ideal.defs _ _).mono (fun r h c => ⟨(h c).1.trans (Cert.Kernel12Ideal.Mm.final m c), (h c).2⟩)
      (Cert.Kernel12Ideal.Value.run_blocks (F := Ideal) m g)
  · refine (θ_run Cert.Reference12Ideal.defs _ _).mono (fun r h c => ⟨(h c).1.trans ?_, (h c).2⟩)
      (Cert.Reference12Ideal.Value.run (F := Ideal) m' g')
    rw [(hagree c).1, (hagree c).2]
    funext x
    unfold Cert.Kernel12Ideal.Mm.out
    pointwise []

end Cert.Reference12Ideal.Mm
-- ==== Proof.Mm.K13.lean ====
/-
  The memory's keys, and with other weights its values: one row block, two column blocks.
-/
module

public import proofs.«01_k».proof.Proof.Mm.Common
public import proofs.«01_k».proof.Proof.Gen.Kernel13Ideal.Value
public import proofs.«01_k».proof.Proof.Gen.Kernel13
public import proofs.«01_k».proof.Proof.Gen.Reference13Ideal.Run
public import proofs.«01_k».proof.Defs

@[expose] public section

set_option maxRecDepth 16384

noncomputable section

namespace Cert.Kernel13Ideal.Mm

open Idealize.ShloMosaic Idealize.ShloMosaic.TcCoe Idealize.SL.Sem Cert.Kernel13Ideal Cert.Kernel13Ideal.Gen Cert.Mm

/-- The blocks' places at point `t`: all rows, column block `t`. -/
theorem idx : ∀ t : Fin cfg0.N, win0_0.index t = ![0, 0] ∧ win0_1.index t = ![0, 0, t.val]
    ∧ win0_2.index t = ![0, t.val] := (by decide +kernel : ∀ t : Fin grid0.N, _)

variable (m : (ℓ : Loc nD τ sig) → Buf (Elt Ideal) ℓ) (c : Dev nD)

abbrev Ha : S1024x2048.Idx → EReal := m ((c.tc : Thread nD τ).loc main_arg0)
abbrev Wa : S2x2048x2048.Idx → EReal := m ((c.tc : Thread nD τ).loc main_arg1)

/-- The product of the memory's rows with the weights. -/
def out (x : S1024x2048.Idx) : EReal :=
  ∑ k : Fin 2048, Ha m c (ix2 (x 0) k) * Wa m c (ix3 0 k (x 1))

/-- The block of rows at a point: all of them. -/
theorem lhs_at (t : Fin cfg0.N) (r : Fin 1024) (k : Fin 2048) (R : Fin 1024) (h : R.val = r.val) :
    iblk m c 0 t (ix2 r k) = Ha m c (ix2 R k) := by
  have ht : t.val < 2 := t.isLt
  blk_ext [iblk, V, idx t]

/-- The block of weights at a point: its column block. -/
theorem rhs_at (t : Fin cfg0.N) (k : Fin 2048) (j : Fin 1024) (J : Fin 2048) (h : J.val = t.val * 1024 + j.val) :
    iblk m c 1 t (ix3 0 k j) = Wa m c (ix3 0 k J) := by
  have ht : t.val < 2 := t.isLt
  blk_ext [iblk, V, idx t]

/-- A point's block is the product of the rows with its weights. -/
theorem block (t : Fin cfg0.N) (r j : Fin 1024) : outsAt0 m c t (ix2 r j)
    = ∑ k : Fin 2048, (show EReal from iblk m c 0 t (ix2 r k)) * (show EReal from iblk m c 1 t (ix3 0 k j)) := by
  unfold outsAt0
  frame_out
  exact (dot_at _ _ r j).trans (Finset.sum_congr rfl fun k _ => congrArg₂ (fun a b : EReal => a * b) rfl (weight_at _ k j))

/-- The array of the result ends as the product. -/
theorem final : (dats m 0 c).arrAt 2 (cfgs 0).N = out m c := by
  refine (dats m 0 c).arrAt_eq_of_covers 2 _ (by decide +kernel) fun t _ y => ?_
  blk_simp
  rw [after0_2]
  obtain ⟨r, j, rfl⟩ : ∃ r j, y = ix2 r j := ⟨y 0, y 1, by funext a; match a with | 0 => rfl | 1 => rfl⟩
  refine (block m c t r j).trans (Finset.sum_congr rfl fun k _ => congrArg₂ (fun a b : EReal => a * b)
    (lhs_at m c t r k _ ?_) (rhs_at m c t k j _ ?_))
  · blk_simp [idx t]
  · blk_simp [idx t]

end Cert.Kernel13Ideal.Mm

namespace Cert.Reference13Ideal.Mm

open Idealize.ShloMosaic Idealize.ShloMosaic.TcCoe Idealize.SL.Sem Cert.Reference13Ideal Cert.Reference13Ideal.Gen

/-- The two programs of the kernel have the same text, so the same bodies. -/
theorem defs_eq : Cert.Kernel13.defs (F := Bits) = Cert.Kernel13Ideal.defs (F := Bits) := by sl_kernel_rfl

/-- The kernel's frame, over words. -/
theorem frame_kernel : Cert.quiescent_Kernel13 (hKernel13 := Cert.Kernel13.Gen.facts) := fun m ρ _ => by
  have h := Cert.Kernel13Ideal.Gen.frame (F := Bits) m ρ
  rw [← defs_eq] at h
  exact h

/-- The kernel's frame, over the extended reals. -/
theorem frame_ideal : Cert.quiescent_Kernel13Ideal (hKernel13Ideal := Cert.Kernel13Ideal.Gen.facts) := fun m ρ _ => Cert.Kernel13Ideal.Gen.frame m ρ

/-- The reference ends with its arguments unchanged; it has no semaphore. -/
theorem frame_ref : Cert.quiescent_Reference13Ideal (hReference13Ideal := Cert.Reference13Ideal.Gen.facts) := fun m ρ _ =>
  (θ_run Cert.Reference13Ideal.defs _ _).mono (fun r h => ⟨fun c => (h c).2, sem_eq_zero_of_no_sems (by decide) r.2⟩)
    (Cert.Reference13Ideal.Value.run (F := Ideal) m ρ)

/-- From agreeing arguments both programs end with the same product. -/
theorem equal : Cert.algebraic_Kernel13Ideal_Reference13Ideal (hKernel13Ideal := Cert.Kernel13Ideal.Gen.facts)
    (hReference13Ideal := Cert.Reference13Ideal.Gen.facts) := by
  intro m g m' g' _ hagree
  refine ⟨fun c => Cert.Kernel13Ideal.Mm.out m c, ?_, ?_⟩
  · refine (θ_run Cert.Kernel13Ideal.defs _ _).mono (fun r h c => ⟨(h c).1.trans (Cert.Kernel13Ideal.Mm.final m c), (h c).2⟩)
      (Cert.Kernel13Ideal.Value.run_blocks (F := Ideal) m g)
  · refine (θ_run Cert.Reference13Ideal.defs _ _).mono (fun r h c => ⟨(h c).1.trans ?_, (h c).2⟩)
      (Cert.Reference13Ideal.Value.run (F := Ideal) m' g')
    rw [(hagree c).1, (hagree c).2]
    funext x
    unfold Cert.Kernel13Ideal.Mm.out
    pointwise []

end Cert.Reference13Ideal.Mm
-- ==== Proof.Mm.Norm.lean ====
/-
  What the two norms share: the normed element of a row.
-/
module

public import Idealize.ShloMosaic.Lib.Pipeline.ValueKit

@[expose] public section

noncomputable section

namespace Cert.Mm

open Idealize.ShloMosaic

/-- An element over the root mean square of its row, times its weight. -/
def normed (x : Fin 2048 → EReal) (g : EReal) (j : Fin 2048) : EReal :=
  x j * Ideal.rsqrt (Ideal.div (∑ k, x k * x k) (Ideal.ofBits .f32 0x45000000#32) + Ideal.ofBits .f32 0x358637BD#32) * g

/-- The norm at equal rows and equal weights. -/
theorem normed_congr {x x' : Fin 2048 → EReal} {g g' : EReal} {j j' : Fin 2048} (hx : x = x') (hg : g = g') (hj : j = j') :
    normed x g j = normed x' g' j' := by
  subst hx hg hj
  rfl

end Cert.Mm
-- ==== Proof.Mm.K14.lean ====
/-
  The last norm of the prompt: sixteen blocks of 512 rows.
-/
module

public import proofs.«01_k».proof.Proof.Mm.Norm
public import proofs.«01_k».proof.Proof.Gen.Kernel14Ideal.Value
public import proofs.«01_k».proof.Proof.Gen.Kernel14
public import proofs.«01_k».proof.Proof.Gen.Reference14Ideal.Run
public import proofs.«01_k».proof.Defs

@[expose] public section

set_option maxRecDepth 16384

noncomputable section

namespace Cert.Kernel14Ideal.Mm

open Idealize.ShloMosaic Idealize.ShloMosaic.TcCoe Idealize.SL.Sem Cert.Kernel14Ideal Cert.Kernel14Ideal.Gen Cert.Mm

/-- The blocks' places at point `t`: row block `t`, all columns. -/
theorem idx : ∀ t : Fin cfg0.N, win0_0.index t = ![t.val, 0] ∧ win0_1.index t = ![0, 0]
    ∧ win0_2.index t = ![t.val, 0] := (by decide +kernel : ∀ t : Fin grid0.N, _)

variable (m : (ℓ : Loc nD τ sig) → Buf (Elt Ideal) ℓ) (c : Dev nD)

abbrev Xa : S8192x2048.Idx → EReal := m ((c.tc : Thread nD τ).loc main_arg0)
abbrev Ga : S2048.Idx → EReal := m ((c.tc : Thread nD τ).loc main_arg1)

/-- The normed rows. -/
def out (x : S8192x2048.Idx) : EReal := normed (fun k => Xa m c (ix2 (x 0) k)) (Ga m c (ix1 (x 1))) (x 1)

/-- A block's payload at one element. -/
theorem pay_at (x : Vec Ideal S512x2048 .f32) (g : Vec Ideal S1x2048 .f32) (r : Fin 512) (j : Fin 2048) :
    k0_pay1 x g (ix2 r j) = normed (fun k => x (ix2 r k)) (g (ix2 0 j)) j := by
  unfold normed
  pointwise [k0_pay1]

/-- The block of rows at a point: its row block. -/
theorem row_at (t : Fin cfg0.N) (r : Fin 512) (k : Fin 2048) (R : Fin 8192) (h : R.val = t.val * 512 + r.val) :
    iblk m c 0 t (ix2 r k) = Xa m c (ix2 R k) := by
  have ht : t.val < 16 := t.isLt
  blk_ext [iblk, V, idx t]

/-- The weights at a point: all of them. -/
theorem weight_at (t : Fin cfg0.N) (j : Fin 2048) (J : Fin 2048) (h : J.val = j.val) :
    iblk m c 1 t (ix2 0 j) = Ga m c (ix1 J) := by
  have ht : t.val < 16 := t.isLt
  blk_simp [iblk, idx t]
  entry_read
  pointwise []
  blk_ext [idx t]

/-- A point's block is its rows normed. -/
theorem block (t : Fin cfg0.N) (r : Fin 512) (j : Fin 2048) : out0_2 (iblk m c 0 t) (iblk m c 1 t) (ix2 r j)
    = normed (fun k => iblk m c 0 t (ix2 r k)) (iblk m c 1 t (ix2 0 j)) j := by
  unfold out0_2
  frame_out
  exact pay_at _ _ r j

/-- The array of the result ends as the normed rows. -/
theorem final : (dats m 0 c).arrAt 2 (cfgs 0).N = out m c := by
  refine (dats m 0 c).arrAt_eq_of_covers 2 _ (by decide +kernel) fun t _ y => ?_
  blk_simp
  rw [after0_2]
  obtain ⟨r, j, rfl⟩ : ∃ r j, y = ix2 r j := ⟨y 0, y 1, by funext a; match a with | 0 => rfl | 1 => rfl⟩
  refine (block m c t r j).trans (normed_congr (funext fun k => row_at m c t r k _ ?_) (weight_at m c t j _ ?_) (Fin.ext ?_))
  all_goals blk_simp [idx t]

end Cert.Kernel14Ideal.Mm

namespace Cert.Reference14Ideal.Mm

open Idealize.ShloMosaic Idealize.ShloMosaic.TcCoe Idealize.SL.Sem Cert.Reference14Ideal Cert.Reference14Ideal.Gen

/-- The two programs of the kernel have the same text, so the same bodies. -/
theorem defs_eq : Cert.Kernel14.defs (F := Bits) = Cert.Kernel14Ideal.defs (F := Bits) := by sl_kernel_rfl

/-- The kernel's frame, over words. -/
theorem frame_kernel : Cert.quiescent_Kernel14 (hKernel14 := Cert.Kernel14.Gen.facts) := fun m ρ _ => by
  have h := Cert.Kernel14Ideal.Gen.frame (F := Bits) m ρ
  rw [← defs_eq] at h
  exact h

/-- The kernel's frame, over the extended reals. -/
theorem frame_ideal : Cert.quiescent_Kernel14Ideal (hKernel14Ideal := Cert.Kernel14Ideal.Gen.facts) := fun m ρ _ => Cert.Kernel14Ideal.Gen.frame m ρ

/-- The reference ends with its arguments unchanged; it has no semaphore. -/
theorem frame_ref : Cert.quiescent_Reference14Ideal (hReference14Ideal := Cert.Reference14Ideal.Gen.facts) := fun m ρ _ =>
  (θ_run Cert.Reference14Ideal.defs _ _).mono (fun r h => ⟨fun c => (h c).2, sem_eq_zero_of_no_sems (by decide) r.2⟩)
    (Cert.Reference14Ideal.Value.run (F := Ideal) m ρ)

/-- From agreeing arguments both programs end with the same normed rows. -/
theorem equal : Cert.algebraic_Kernel14Ideal_Reference14Ideal (hKernel14Ideal := Cert.Kernel14Ideal.Gen.facts)
    (hReference14Ideal := Cert.Reference14Ideal.Gen.facts) := by
  intro m g m' g' _ hagree
  refine ⟨fun c => Cert.Kernel14Ideal.Mm.out m c, ?_, ?_⟩
  · refine (θ_run Cert.Kernel14Ideal.defs _ _).mono (fun r h c => ⟨(h c).1.trans (Cert.Kernel14Ideal.Mm.final m c), (h c).2⟩)
      (Cert.Kernel14Ideal.Value.run_blocks (F := Ideal) m g)
  · refine (θ_run Cert.Reference14Ideal.defs _ _).mono (fun r h c => ⟨(h c).1.trans ?_, (h c).2⟩)
      (Cert.Reference14Ideal.Value.run (F := Ideal) m' g')
    rw [(hagree c).1, (hagree c).2]
    funext x
    unfold Cert.Kernel14Ideal.Mm.out Cert.Mm.normed
    pointwise []

end Cert.Reference14Ideal.Mm
-- ==== Proof.Mm.K15.lean ====
/-
  The memory attention of the prompt: sixteen blocks of 512 queries, each against the 256 memories of its batch, four
  heads of 512 components side by side in the columns.
-/
module

public import proofs.«01_k».proof.Proof.Fox.Ref
public import proofs.«01_k».proof.Proof.Fox.Finite
public import proofs.«01_k».proof.Proof.Gen.Kernel15Ideal.Value
public import proofs.«01_k».proof.Proof.Gen.Kernel15
public import proofs.«01_k».proof.Proof.Gen.Reference15Ideal.Run
public import proofs.«01_k».proof.Proof.Gen.Pre_finite_mem
public import proofs.«01_k».proof.Defs

@[expose] public section

set_option maxRecDepth 16384

noncomputable section

namespace Cert.Kernel15Ideal.Mm

open Idealize.ShloMosaic Idealize.ShloMosaic.TcCoe Idealize.SL.Sem Cert.Kernel15Ideal Cert.Kernel15Ideal.Gen Cert.Fox

/-- The scores' scale, one over the root of 512. -/
def scl : EReal := Ideal.ofBits .f32 0x3D3504F3#32

theorem scl_eq : scl = ((11863283 / 268435456 : ℝ) : EReal) := by
  unfold scl
  simp [Ideal.ofBits, Ideal.ieee, -EReal.coe_mul]; norm_num

/-- The blocks' places at point `t`: row block `t` of the queries, batch `t / 4` of the memories. -/
theorem idx : ∀ t : Fin cfg0.N, win0_0.index t = ![t.val, 0] ∧ win0_1.index t = ![t.val / 4, 0, 0]
    ∧ win0_2.index t = ![t.val / 4, 0, 0] ∧ win0_3.index t = ![t.val, 0] := (by decide +kernel : ∀ t : Fin grid0.N, _)

/-- Memory `k` of 256. -/
abbrev mem (k : ℕ) : Fin 256 := ⟨k % 256, Nat.mod_lt _ (by norm_num)⟩
/-- Component `d` of head `h`, as a column. -/
abbrev col (h : Fin 4) (d : Fin 512) : Fin 2048 := ⟨512 * h.val + d.val, by omega⟩

/-- The score of a query's row against memory `k` of batch `b`, in head `h`. -/
def score (Q : S8192x2048.Idx → EReal) (K : S4x256x2048.Idx → EReal) (b : Fin 4) (h : Fin 4) (p : Fin 8192) (k : ℕ) : EReal :=
  (∑ e : Fin 512, Q (ix2 p (col h e)) * K (ix3 b (mem k) (col h e))) * scl
/-- Component `d` of memory `k`'s value. -/
def val (V : S4x256x2048.Idx → EReal) (b : Fin 4) (h : Fin 4) (d : Fin 512) (k : ℕ) : EReal := V (ix3 b (mem k) (col h d))
/-- The attention of a row: numerator over denominator. -/
def attn (Q : S8192x2048.Idx → EReal) (K V : S4x256x2048.Idx → EReal) (b : Fin 4) (h : Fin 4) (p : Fin 8192) (d : Fin 512) : EReal :=
  Ideal.div (num (score Q K b h p) (val V b h d) 256) (den (score Q K b h p) 256)

/-- The greatest of 256 scores. -/
theorem top_eq (s : ℕ → EReal) : top s 256 = Finset.univ.fold max ⊥ fun a : Fin 256 => s a := by
  have h := top_add s 0 256
  simp only [Nat.zero_add] at h
  rw [h]
  exact max_eq_right bot_le

/-- Of a head's queries and keys, the scores. -/
def sc (q : FVec Ideal S512x512 .bf16) (k : FVec Ideal S1x256x512 .f32) : FVec Ideal S512x256 .f32 :=
  mulf (matmul dot_S512x512_S256x512_S512x256_1_1_0_0_n_n none q (truncf .bf16 (shapeCast S256x512 k shapeCasts_S1x256x512_S256x512) bitsLt_bf16_f32)
    (constant S512x256 .f32 0x00000000#32)) (broadcast S512x256 (Scalar.ofBits .f32 0x3D3504F3#32))
/-- Of scores, their exponentials below their row's greatest. -/
def ex (S : FVec Ideal S512x256 .f32) : FVec Ideal S512x256 .f32 :=
  exp (subf S (broadcastTo S512x256 (shapeCast S512x1
    (multiReduction .maximumf [1] S512 S 0xFF800000#32 reduces_S512x256_S512 (.inl rfl) rfl) shapeCasts_S512_S512x1) broadcasts_S512x1_S512x256))
/-- Of exponentials and values, the weighted values over the row's sum. -/
def wv (E : FVec Ideal S512x256 .f32) (v : FVec Ideal S1x256x512 .f32) : FVec Ideal S512x512 .bf16 :=
  truncf .bf16 (divf (matmul dot_S512x256_S256x512_S512x512_1_0_0_1_n_n none (truncf .bf16 E bitsLt_bf16_f32)
    (truncf .bf16 (shapeCast S256x512 v shapeCasts_S1x256x512_S256x512) bitsLt_bf16_f32) (constant S512x512 .f32 0x00000000#32))
    (broadcastTo S512x512 (shapeCast S512x1 (multiReduction .add [1] S512 E 0x00000000#32 reduces_S512x256_S512 (.inl rfl) rfl)
      shapeCasts_S512_S512x1) broadcasts_S512x1_S512x512)) bitsLt_bf16_f32

theorem sc_at (q : FVec Ideal S512x512 .bf16) (k : FVec Ideal S1x256x512 .f32) (r : Fin 512) (a : Fin 256) :
    sc q k (ix2 r a) = (∑ e : Fin 512, (show EReal from q (ix2 r e)) * (show EReal from k (ix3 0 a e))) * scl := by
  unfold scl
  pointwise [sc]

theorem ex_at (S : FVec Ideal S512x256 .f32) (r : Fin 512) (a : Fin 256) :
    ex S (ix2 r a) = Ideal.exp (S (ix2 r a) - Finset.univ.fold max ⊥ fun a : Fin 256 => S (ix2 r a)) := by
  pointwise [ex]
  rw [ninf]

theorem wv_at (E : FVec Ideal S512x256 .f32) (v : FVec Ideal S1x256x512 .f32) (r d : Fin 512) :
    wv E v (ix2 r d) = Ideal.div (∑ a : Fin 256, (show EReal from E (ix2 r a)) * (show EReal from v (ix3 0 a d))) (∑ a : Fin 256, (show EReal from E (ix2 r a))) := by
  pointwise [wv]

/-- The four heads' payloads are one function of the head's queries, keys and values. -/
theorem piece0 (q : FVec Ideal S512x512 .bf16) (k v : FVec Ideal S1x256x512 .f32) : k0_pay2 q k v = wv (ex (sc q k)) v := rfl
theorem piece1 (q : FVec Ideal S512x512 .bf16) (k v : FVec Ideal S1x256x512 .f32) : k0_pay4 (k0_pay3 q k) v = wv (ex (sc q k)) v := rfl
theorem piece2 (q : FVec Ideal S512x512 .bf16) (k v : FVec Ideal S1x256x512 .f32) : k0_pay5 q k v = wv (ex (sc q k)) v := rfl
theorem piece3 (q : FVec Ideal S512x512 .bf16) (k v : FVec Ideal S1x256x512 .f32) : k0_pay1 q k v = wv (ex (sc q k)) v := rfl

/-- A head's payload at one element, from where its queries, keys and values come from. -/
theorem head_at (Q : S8192x2048.Idx → EReal) (K V : S4x256x2048.Idx → EReal) (b h : Fin 4) (p : Fin 8192) (r d : Fin 512)
    (q : FVec Ideal S512x512 .bf16) (k v : FVec Ideal S1x256x512 .f32) (hq : ∀ e, q (ix2 r e) = Q (ix2 p (col h e)))
    (hk : ∀ a e, k (ix3 0 a e) = K (ix3 b a (col h e))) (hv : ∀ a, v (ix3 0 a d) = V (ix3 b a (col h d))) :
    wv (ex (sc q k)) v (ix2 r d) = attn Q K V b h p d := by
  have em : ∀ a : Fin 256, mem a.val = a := fun a => Fin.ext (Nat.mod_eq_of_lt a.isLt)
  have hs : ∀ a : Fin 256, sc q k (ix2 r a) = score Q K b h p a := fun a => by
    rw [sc_at]
    unfold score
    rw [em]
    exact congrArg (fun z : EReal => z * scl) (Finset.sum_congr rfl fun e _ => congrArg₂ (fun a b : EReal => a * b) (hq e) (hk a e))
  have he : ∀ a : Fin 256, ex (sc q k) (ix2 r a) = Ideal.exp (score Q K b h p a - top (score Q K b h p) 256) := fun a => by
    rw [ex_at, top_eq, hs]
    exact congrArg (fun z : EReal => Ideal.exp (_ - z)) (Finset.fold_congr fun a _ => hs a)
  rw [wv_at]
  unfold attn num den
  rw [Finset.sum_range, Finset.sum_range]
  refine congrArg₂ Ideal.div (Finset.sum_congr rfl fun a _ => congrArg₂ (fun a b : EReal => a * b) (he a) ?_) (Finset.sum_congr rfl fun a _ => he a)
  unfold val
  rw [em]
  exact hv a

variable (m : (ℓ : Loc nD τ sig) → Buf (Elt Ideal) ℓ) (c : Dev nD)

abbrev Qa : S8192x2048.Idx → EReal := m ((c.tc : Thread nD τ).loc main_arg0)
abbrev Ka : S4x256x2048.Idx → EReal := m ((c.tc : Thread nD τ).loc main_arg1)
abbrev Va : S4x256x2048.Idx → EReal := m ((c.tc : Thread nD τ).loc main_arg2)

/-- The attention of every row. -/
def out (x : S8192x2048.Idx) : EReal :=
  attn (Qa m c) (Ka m c) (Va m c) ⟨(x 0).val / 2048, by have := (x 0).isLt; simp at this; omega⟩ ⟨(x 1).val / 512, by have := (x 1).isLt; simp at this; omega⟩
    (x 0) ⟨(x 1).val % 512, by omega⟩

theorem out_at (x : S8192x2048.Idx) (b h : Fin 4) (p : Fin 8192) (d : Fin 512) (hb : b.val = (x 0).val / 2048)
    (h0 : (x 0).val = p.val) (h1 : (x 1).val = 512 * h.val + d.val) :
    attn (Qa m c) (Ka m c) (Va m c) b h p d = out m c x := by
  unfold out
  congr 1
  · exact Fin.ext hb
  · exact Fin.ext (by simp only [h1]; omega)
  · exact Fin.ext h0.symm
  · exact Fin.ext (by simp only [h1]; omega)

/-- The blocks at a point: the row block's queries, its batch's keys and values. -/
theorem query_at (t : Fin cfg0.N) (r : Fin 512) (e : Fin 2048) (p : Fin 8192) (h : p.val = t.val * 512 + r.val) :
    iblk m c 0 t (ix2 r e) = Qa m c (ix2 p e) := by
  have ht : t.val < 16 := t.isLt
  blk_ext [iblk, V, idx t]
theorem key_at (t : Fin cfg0.N) (a : Fin 256) (e : Fin 2048) (b : Fin 4) (h : b.val = t.val / 4) :
    iblk m c 1 t (ix3 0 a e) = Ka m c (ix3 b a e) := by
  have ht : t.val < 16 := t.isLt
  blk_ext [iblk, V, idx t]
theorem value_at (t : Fin cfg0.N) (a : Fin 256) (e : Fin 2048) (b : Fin 4) (h : b.val = t.val / 4) :
    iblk m c 2 t (ix3 0 a e) = Va m c (ix3 b a e) := by
  have ht : t.val < 16 := t.isLt
  blk_ext [iblk, V, idx t]

/-- A head's columns of a point's block: the attention of its rows. -/
theorem point_at (t : Fin cfg0.N) (h : Fin 4) (off : Fin 2 → ℕ) (off' : Fin 3 → ℕ) (inb) (inb') (ho : off = ![0, 512 * h.val]) (ho' : off' = ![0, 0, 512 * h.val])
    (r d : Fin 512) (x : S8192x2048.Idx) (h0 : (x 0).val = t.val * 512 + r.val) (h1 : (x 1).val = 512 * h.val + d.val) :
    wv (ex (sc (View.ld (iblk m c 0 t) (Rect.unit (s := S512x2048) off S512x512.size inb))
      (View.ld (iblk m c 1 t) (Rect.unit (s := S1x256x2048) off' S1x256x512.size inb'))))
      (View.ld (iblk m c 2 t) (Rect.unit (s := S1x256x2048) off' S1x256x512.size inb')) (ix2 r d) = out m c x := by
  subst ho ho'
  have ht : t.val < 16 := t.isLt
  have hx : (x 0).val < 8192 := (x 0).isLt
  refine (head_at (Qa m c) (Ka m c) (Va m c) ⟨t.val / 4, by omega⟩ h ⟨t.val * 512 + r.val, by omega⟩ r d _ _ _
    (fun e => ?_) (fun a e => ?_) (fun a => ?_)).trans (out_at m c x _ _ _ _ ?_ h0 h1)
  · refine Eq.trans ?_ (query_at m c t r (col h e) _ rfl)
    refine congrArg (iblk m c 0 t) (funext fun i => Fin.ext ?_)
    match i with
    | 0 => show 0 + 1 * r.val = r.val; omega
    | 1 => show 512 * h.val + 1 * e.val = 512 * h.val + e.val; omega
  · refine Eq.trans ?_ (key_at m c t a (col h e) _ rfl)
    refine congrArg (iblk m c 1 t) (funext fun i => Fin.ext ?_)
    match i with
    | 0 => rfl
    | 1 => show 0 + 1 * a.val = a.val; omega
    | 2 => show 512 * h.val + 1 * e.val = 512 * h.val + e.val; omega
  · refine Eq.trans ?_ (value_at m c t a (col h d) _ rfl)
    refine congrArg (iblk m c 2 t) (funext fun i => Fin.ext ?_)
    match i with
    | 0 => rfl
    | 1 => show 0 + 1 * a.val = a.val; omega
    | 2 => show 512 * h.val + 1 * d.val = 512 * h.val + d.val; omega
  · show t.val / 4 = (x 0).val / 2048
    omega

/-- The array of the result ends as the attention. -/
theorem final : (dats m 0 c).arrAt 3 (cfgs 0).N = out m c := by
  refine (dats m 0 c).arrAt_eq_of_covers 3 _ (by decide +kernel) fun t _ y => ?_
  blk_simp
  rw [after0_3]
  have e0 : (((View.whole main_v0).slice (win0_3.rect t)).emb y 0).val = t.val * 512 + (y 0).val := by
    blk_simp [idx t]
  have e1 : (((View.whole main_v0).slice (win0_3.rect t)).emb y 1).val = (y 1).val := by
    blk_simp [idx t]
  unfold out0_3
  canon_tiles x h
  · obtain ⟨r, d, rfl⟩ : ∃ r d, x = ix2 r d := ⟨x 0, x 1, by funext a; match a with | 0 => rfl | 1 => rfl⟩
    refine (congrFun (piece3 _ _ _) _).trans (point_at m c t 3 _ _ _ _ rfl rfl r d _ (e0.trans ?_) (e1.trans ?_))
    · exact congrArg (t.val * 512 + ·) (show (y 0).val = r.val from h0)
    · exact h1
  · obtain ⟨r, d, rfl⟩ : ∃ r d, x = ix2 r d := ⟨x 0, x 1, by funext a; match a with | 0 => rfl | 1 => rfl⟩
    refine (congrFun (piece2 _ _ _) _).trans (point_at m c t 2 _ _ _ _ rfl rfl r d _ (e0.trans ?_) (e1.trans ?_))
    · exact congrArg (t.val * 512 + ·) (show (y 0).val = r.val from h0)
    · exact h1
  · obtain ⟨r, d, rfl⟩ : ∃ r d, x = ix2 r d := ⟨x 0, x 1, by funext a; match a with | 0 => rfl | 1 => rfl⟩
    refine (congrFun (piece1 _ _ _) _).trans (point_at m c t 1 _ _ _ _ rfl rfl r d _ (e0.trans ?_) (e1.trans ?_))
    · exact congrArg (t.val * 512 + ·) (show (y 0).val = r.val from h0)
    · exact h1
  · obtain ⟨r, d, rfl⟩ : ∃ r d, x = ix2 r d := ⟨x 0, x 1, by funext a; match a with | 0 => rfl | 1 => rfl⟩
    refine (congrFun (piece0 _ _ _) _).trans (point_at m c t 0 _ _ _ _ rfl rfl r d _ (e0.trans ?_) (e1.trans ?_))
    · exact congrArg (t.val * 512 + ·) (show (y 0).val = r.val from h0)
    · exact (by simpa using h1 : (y 1).val = 512 * 0 + d.val)

/-- The greatest score of a row of real queries and keys is a real number. -/
theorem top_real {Q : S8192x2048.Idx → EReal} {K : S4x256x2048.Idx → EReal} (hq : ∀ i, ∃ r : ℝ, Q i = (r : EReal))
    (hk : ∀ i, ∃ r : ℝ, K i = (r : EReal)) (b h : Fin 4) (p : Fin 8192) : ∃ M : ℝ, top (score Q K b h p) 256 = M := by
  choose q hq using hq
  choose k hk using hk
  have hs : ∀ a : ℕ, ∃ r : ℝ, score Q K b h p a = (r : EReal) := fun a => by
    refine ⟨(∑ e : Fin 512, q (ix2 p (col h e)) * k (ix3 b (mem a) (col h e))) * (11863283 / 268435456), ?_⟩
    unfold score
    simp only [hq, hk, scl_eq, ← EReal.coe_mul, ← coe_sum']
  have hlt : top (score Q K b h p) 256 < ⊤ := by
    refine (Finset.sup_lt_iff bot_lt_top).2 fun a _ => ?_
    obtain ⟨r, hr⟩ := hs a
    rw [hr]; exact EReal.coe_lt_top r
  have hge : ⊥ < top (score Q K b h p) 256 := by
    refine lt_of_lt_of_le ?_ (le_top_of_lt (s := score Q K b h p) (k := 0) (by norm_num))
    obtain ⟨r, hr⟩ := hs 0
    rw [hr]; exact EReal.bot_lt_coe r
  exact ⟨(top (score Q K b h p) 256).toReal, (EReal.coe_toReal hlt.ne hge.ne').symm⟩

end Cert.Kernel15Ideal.Mm

namespace Cert.Reference15Ideal.Mm

open Idealize.ShloMosaic Idealize.ShloMosaic.TcCoe Idealize.SL.Sem Cert.Reference15Ideal Cert.Reference15Ideal.Gen
open Cert.Fox (num den top num_div_den ninf)
open Cert.Kernel15Ideal.Mm (scl score val attn mem col top_eq top_real)

/-- The reference's scores. -/
def sco (Q : FVec Ideal S8192x2048 .bf16) (K : FVec Ideal S4x256x2048 .f32) : FVec Ideal S4x4x2048x256 .f32 :=
  mulf (Host.dotGeneral dot_S4x2048x4x512_S4x256x4x512_S4x4x2048x256_3_3_1_1_02_02 none (shapeCast _ (extf .f32 Q bitsLt_bf16_f32) shapeCasts_S8192x2048_S4x2048x4x512) (shapeCast _ K shapeCasts_S4x256x2048_S4x256x4x512)) (broadcastInDim S4x4x2048x256 ![] bcast_S_S4x4x2048x256 (constant S_ .f32 0x3D3504F3#32))
/-- Each row's greatest score. -/
def gre (S : FVec Ideal S4x4x2048x256 .f32) : FVec Ideal S4x4x2048 .f32 :=
  Host.reduce FloatOps.maximumf S (constant S_ .f32 0xFF800000#32) reducesTo_S4x4x2048x256_S4x4x2048_d3 h_S_
/-- The exponentials of scores below their row's greatest. -/
def expo (S : FVec Ideal S4x4x2048x256 .f32) (M : FVec Ideal S4x4x2048 .f32) : FVec Ideal S4x4x2048x256 .f32 :=
  Host.exp (subf S (broadcastInDim S4x4x2048x256 ![0, 1, 2, 3] bcast_S4x4x2048x1_S4x4x2048x256_0_1_2_3 (broadcastInDim S4x4x2048x1 ![0, 1, 2] bcast_S4x4x2048_S4x4x2048x1_0_1_2 (maximumf (broadcastInDim S4x4x2048 ![] bcast_S_S4x4x2048 (constant S_ .f32 0xFF800000#32)) M))))
/-- The exponentials over their row's sum. -/
def soft (E : FVec Ideal S4x4x2048x256 .f32) : FVec Ideal S4x4x2048x256 .f32 :=
  Host.divf E (broadcastInDim S4x4x2048x256 ![0, 1, 2, 3] bcast_S4x4x2048x1_S4x4x2048x256_0_1_2_3 (broadcastInDim S4x4x2048x1 ![0, 1, 2] bcast_S4x4x2048_S4x4x2048x1_0_1_2 (Host.reduceAdd E (constant S_ .f32 0x00000000#32) reducesTo_S4x4x2048x256_S4x4x2048_d3 h_S_)))
/-- The weighted values, as the program returns them. -/
def wei (V : FVec Ideal S4x256x2048 .f32) (A : FVec Ideal S4x4x2048x256 .f32) : FVec Ideal S8192x2048 .bf16 :=
  truncf .bf16 (shapeCast _ (transpose S4x2048x4x512 [0, 3, 1, 2] (Host.dotGeneral dot_S4x256x4x512_S4x4x2048x256_S4x4x512x2048_1_3_3_2_02_01 none (shapeCast _ V shapeCasts_S4x256x2048_S4x256x4x512) A) transposes_S4x4x512x2048_S4x2048x4x512_0_3_1_2) shapeCasts_S4x2048x4x512_S8192x2048) bitsLt_bf16_f32

/-- Position `p` of batch `b`, as a row. -/
abbrev row (b : Fin 4) (p : Fin 2048) : Fin 8192 := ⟨2048 * b.val + p.val, by omega⟩

theorem sco_apply (Q : FVec Ideal S8192x2048 .bf16) (K : FVec Ideal S4x256x2048 .f32) (b h : Fin 4) (p : Fin 2048) (k : Fin 256) :
    sco Q K (ix4 b h p k) = score Q K b h (row b p) k := by
  pointwise [sco]
  unfold score scl
  refine congrArg (fun z : EReal => z * _) (Finset.sum_congr rfl fun e _ => congrArg₂ (fun a b : EReal => a * b) (congrArg Q ?_) (congrArg K ?_))
  · funext i
    match i with
    | 0 => exact Fin.ext (by show b.val * 2048 + p.val = 2048 * b.val + p.val; omega)
    | 1 => exact Fin.ext (by show h.val * 512 + e.val = 512 * h.val + e.val; omega)
  · funext i
    match i with
    | 0 => rfl
    | 1 => exact Fin.ext (Nat.mod_eq_of_lt k.isLt).symm
    | 2 => exact Fin.ext (by show h.val * 512 + e.val = 512 * h.val + e.val; omega)

theorem gre_apply (S : FVec Ideal S4x4x2048x256 .f32) (b h : Fin 4) (p : Fin 2048) :
    gre S (ix3 b h p) = Finset.univ.fold max ⊥ fun a : Fin 256 => S (ix4 b h p a) := by
  refine (Host.reduce_eq_fold_single (a := 3) _ S _ reducesTo_S4x4x2048x256_S4x4x2048_d3 (by decide) h_S_ _).trans ?_
  have e : (constant (F := Ideal) S_ .f32 0xFF800000#32) (Shape.Idx.first h_S_) = (⊥ : EReal) := ninf
  rw [e]
  refine Finset.fold_congr fun a _ => congrArg S ?_
  funext i
  match i with
  | 0 => rfl
  | 1 => rfl
  | 2 => rfl
  | 3 => rfl

theorem expo_apply (S : FVec Ideal S4x4x2048x256 .f32) (M : FVec Ideal S4x4x2048 .f32) (b h : Fin 4) (p : Fin 2048) (k : Fin 256) :
    expo S M (ix4 b h p k) = Ideal.exp (S (ix4 b h p k) - M (ix3 b h p)) := by
  pointwise [expo]
  rw [ninf]
  exact congrArg (fun z : EReal => Ideal.exp (_ - z)) (max_eq_right bot_le)

theorem soft_apply (E : FVec Ideal S4x4x2048x256 .f32) (b h : Fin 4) (p : Fin 2048) (k : Fin 256) :
    soft E (ix4 b h p k) = Ideal.div (E (ix4 b h p k)) (∑ a : Fin 256, E (ix4 b h p a)) := by
  pointwise [soft]

theorem wei_apply (V : FVec Ideal S4x256x2048 .f32) (A : FVec Ideal S4x4x2048x256 .f32) (x : S8192x2048.Idx) (b h : Fin 4) (p : Fin 2048) (d : Fin 512)
    (h0 : (x 0).val = 2048 * b.val + p.val) (h1 : (x 1).val = 512 * h.val + d.val) :
    wei V A x = ∑ k : Fin 256, A (ix4 b h p k) * V (ix3 b k (col h d)) := by
  pointwise [wei]
  refine Finset.sum_congr rfl fun k _ => (mul_comm _ _).trans (congrArg₂ (· * ·) (congrArg A ?_) (congrArg V ?_))
  · funext i
    match i with
    | 0 => exact Fin.ext (by show (x 0).val / 2048 = b.val; omega)
    | 1 => exact Fin.ext (by show (x 1).val / 512 = h.val; omega)
    | 2 => exact Fin.ext (by show (x 0).val % 2048 = p.val; omega)
    | 3 => rfl
  · funext i
    match i with
    | 0 => exact Fin.ext (by show (x 0).val / 2048 = b.val; omega)
    | 1 => rfl
    | 2 => exact Fin.ext (by show (x 1).val = 512 * h.val + d.val; omega)

/-- The reference's result is the attention, where the greatest score of each row is a real number. -/
theorem ref_apply (Q : FVec Ideal S8192x2048 .bf16) (K V : FVec Ideal S4x256x2048 .f32) (S : FVec Ideal S4x4x2048x256 .f32) (hS : S = sco Q K)
    (x : S8192x2048.Idx) (b h : Fin 4) (p : Fin 2048) (d : Fin 512)
    (h0 : (x 0).val = 2048 * b.val + p.val) (h1 : (x 1).val = 512 * h.val + d.val) {M : ℝ} (hM : top (score Q K b h (row b p)) 256 = M) :
    wei V (soft (expo S (gre S))) x = attn Q K V b h (row b p) d := by
  have e1 : ∀ k : Fin 256, S (ix4 b h p k) = score Q K b h (row b p) k := fun k => by rw [hS]; exact sco_apply Q K b h p k
  have e2 : ∀ k : Fin 256, expo S (gre S) (ix4 b h p k) = Ideal.exp (score Q K b h (row b p) k - top (score Q K b h (row b p)) 256) := fun k => by
    rw [expo_apply, gre_apply, top_eq, e1]
    exact congrArg (fun z : EReal => Ideal.exp (_ - z)) (Finset.fold_congr fun a _ => e1 a)
  refine (wei_apply V _ x b h p d h0 h1).trans ?_
  refine Eq.trans ?_ (num_div_den hM (by norm_num)).symm
  rw [Finset.sum_range]
  refine Finset.sum_congr rfl fun k _ => congrArg₂ (fun a b : EReal => a * b) ?_ ?_
  · rw [soft_apply, e2]
    refine congrArg (Ideal.div _) ?_
    unfold den
    rw [Finset.sum_range]
    exact Finset.sum_congr rfl fun a _ => e2 a
  · unfold val
    exact congrArg (fun a => V (ix3 b a (col h d))) (Fin.ext (Nat.mod_eq_of_lt k.isLt).symm)

/-- What the precondition says of its arguments: every query and key is a real number. -/
theorem real_of_pre (q : FVec Ideal S8192x2048 .bf16) (k v : FVec Ideal S4x256x2048 .f32)
    (h : Cert.Pre_finite_mem.fn q k v = fun _ => 1#1) :
    (∀ i, ∃ r : ℝ, q i = (r : EReal)) ∧ (∀ i, ∃ r : ℝ, k i = (r : EReal)) := by
  have h0 := congrFun h ix0
  dsimp only [Cert.Pre_finite_mem.fn] at h0
  obtain ⟨hq, hk⟩ := IntOp.andi_eq_one.1 h0
  exact ⟨Cert.FoxRef.real_of_all (extf .f32 q (by decide)) _ _ _ _ hq, Cert.FoxRef.real_of_all k _ _ _ _ hk⟩

/-- The two programs of the kernel have the same text, so the same bodies. -/
theorem defs_eq : Cert.Kernel15.defs (F := Bits) = Cert.Kernel15Ideal.defs (F := Bits) := by sl_kernel_rfl

/-- The kernel's frame, over words. -/
theorem frame_kernel : Cert.quiescent_Kernel15 (hKernel15 := Cert.Kernel15.Gen.facts) := fun m ρ _ => by
  have h := Cert.Kernel15Ideal.Gen.frame (F := Bits) m ρ
  rw [← defs_eq] at h
  exact h

/-- The kernel's frame, over the extended reals. -/
theorem frame_ideal : Cert.quiescent_Kernel15Ideal (hKernel15Ideal := Cert.Kernel15Ideal.Gen.facts) := fun m ρ _ => Cert.Kernel15Ideal.Gen.frame m ρ

/-- The reference ends with its arguments unchanged; it has no semaphore. -/
theorem frame_ref : Cert.quiescent_Reference15Ideal (hReference15Ideal := Cert.Reference15Ideal.Gen.facts) := fun m ρ _ =>
  (θ_run Cert.Reference15Ideal.defs _ _).mono (fun r h => ⟨fun c => (h c).2, sem_eq_zero_of_no_sems (by decide) r.2⟩)
    (Cert.Reference15Ideal.Value.run (F := Ideal) m ρ)

/-- From agreeing arguments, under the precondition, both programs end with the same attention. -/
theorem equal : Cert.algebraic_Kernel15Ideal_Reference15Ideal_pre_finite_mem (hKernel15Ideal := Cert.Kernel15Ideal.Gen.facts)
    (hReference15Ideal := Cert.Reference15Ideal.Gen.facts) (hPre_finite_mem := Cert.Pre_finite_mem.Gen.facts) := by
  intro m g m' g' hpre hagree
  refine ⟨fun c => Cert.Kernel15Ideal.Mm.out m c, ?_, ?_⟩
  · refine (θ_run Cert.Kernel15Ideal.defs _ _).mono (fun r h c => ⟨(h c).1.trans (Cert.Kernel15Ideal.Mm.final m c), (h c).2⟩)
      (Cert.Kernel15Ideal.Value.run_blocks (F := Ideal) m g)
  · refine (θ_run Cert.Reference15Ideal.defs _ _).mono (fun r h c => ⟨(h c).1.trans ?_, (h c).2⟩)
      (Cert.Reference15Ideal.Value.run (F := Ideal) m' g')
    rw [(hagree c).1, (hagree c).2.1, (hagree c).2.2]
    obtain ⟨hq, hk⟩ := real_of_pre _ _ _ (hpre c)
    funext x
    have hx0 : (x 0).val < 8192 := (x 0).isLt
    have hx1 : (x 1).val < 2048 := (x 1).isLt
    obtain ⟨M, hM⟩ := top_real hq hk ⟨(x 0).val / 2048, by omega⟩ ⟨(x 1).val / 512, by omega⟩ (row ⟨(x 0).val / 2048, by omega⟩ ⟨(x 0).val % 2048, by omega⟩)
    refine (ref_apply (Cert.Kernel15Ideal.Mm.Qa m c) (Cert.Kernel15Ideal.Mm.Ka m c) (Cert.Kernel15Ideal.Mm.Va m c) _ rfl x
      ⟨(x 0).val / 2048, by omega⟩ ⟨(x 1).val / 512, by omega⟩ ⟨(x 0).val % 2048, by omega⟩ ⟨(x 1).val % 512, by omega⟩ ?_ ?_ hM).trans
      (Cert.Kernel15Ideal.Mm.out_at m c x _ _ _ _ rfl ?_ ?_)
    · show (x 0).val = 2048 * ((x 0).val / 2048) + (x 0).val % 2048; omega
    · show (x 1).val = 512 * ((x 1).val / 512) + (x 1).val % 512; omega
    · show (x 0).val = 2048 * ((x 0).val / 2048) + (x 0).val % 2048; omega
    · show (x 1).val = 512 * ((x 1).val / 512) + (x 1).val % 512; omega

end Cert.Reference15Ideal.Mm
-- ==== Proof.Mm.Gated.lean ====
/-
  What the two gated convolutions share: the convolved and gated element, and what a scratch holds after the two stores
  that join the carried rows to a block's own.
-/
module

public import proofs.«01_k».proof.Proof.Mm.Common

@[expose] public section

set_option maxRecDepth 16384

noncomputable section

namespace Cert.Mm

open Idealize.ShloMosaic Idealize.ShloMosaic.TcCoe Idealize.SL.Sem

/-- What the convolved and gated element is, of the three taps, their weights, the bias and the value. -/
def gated (x0 x1 x2 w0 w1 w2 b v : EReal) : EReal :=
  (b + w0 * x0 + w1 * x1 + w2 * x2) * Ideal.div 1 (1 + Ideal.exp (0 - (b + w0 * x0 + w1 * x1 + w2 * x2))) * v

theorem gated_congr {x0 x1 x2 w0 w1 w2 b v x0' x1' x2' w0' w1' w2' b' v' : EReal} (h0 : x0 = x0') (h1 : x1 = x1') (h2 : x2 = x2')
    (k0 : w0 = w0') (k1 : w1 = w1') (k2 : w2 = w2') (hb : b = b') (hv : v = v') :
    gated x0 x1 x2 w0 w1 w2 b v = gated x0' x1' x2' w0' w1' w2' b' v' := by
  rw [h0, h1, h2, k0, k1, k2, hb, hv]

/-- A scratch whose rows from 8 on are stored from one block and whose rows 6 and 7 from another, as those stores leave it. -/
abbrev stores {N T : ℕ} (h8 : ∀ a, (![8, 0] : Fin 2 → ℕ) a + (![T, 512] : Fin 2 → ℕ) a ≤ (⟨2, ![N, 512]⟩ : Shape).size a)
    (h6 : ∀ a, (![6, 0] : Fin 2 → ℕ) a + (![2, 512] : Fin 2 → ℕ) a ≤ (⟨2, ![N, 512]⟩ : Shape).size a)
    (g : FVec Ideal ⟨2, ![T, 512]⟩ .f32) (b : FVec Ideal ⟨2, ![2, 512]⟩ .f32) : List (View.Piece (Elt Ideal) ⟨2, ![N, 512]⟩ .f32) :=
  [⟨Rect.unit (s := ⟨2, ![N, 512]⟩) ![8, 0] ![T, 512] h8, g⟩, ⟨Rect.unit (s := ⟨2, ![N, 512]⟩) ![6, 0] ![2, 512] h6, b⟩]

/-- A row of that scratch, counted from row 6. -/
theorem stored {N T : ℕ} (h8 : ∀ a, (![8, 0] : Fin 2 → ℕ) a + (![T, 512] : Fin 2 → ℕ) a ≤ (⟨2, ![N, 512]⟩ : Shape).size a)
    (h6 : ∀ a, (![6, 0] : Fin 2 → ℕ) a + (![2, 512] : Fin 2 → ℕ) a ≤ (⟨2, ![N, 512]⟩ : Shape).size a)
    (g : FVec Ideal ⟨2, ![T, 512]⟩ .f32) (b : FVec Ideal ⟨2, ![2, 512]⟩ .f32) (n : Fin (T + 2)) (j : Fin 512) (y : (⟨2, ![N, 512]⟩ : Shape).Idx)
    (h0 : (y 0).val = 6 + n.val) (h1 : (y 1).val = j.val) :
    View.canon (stores h8 h6 g b) y = if h : n.val < 2 then b (ix2 ⟨n.val, h⟩ j) else g (ix2 ⟨n.val - 2, by omega⟩ j) := by
  by_cases h : n.val < 2
  · rw [dif_pos h]
    refine (View.canon_cons_of_not_mem _ _ fun hy => ?_).trans ?_
    · obtain ⟨x, hx⟩ := LoadRect.exists_idx_of_mem _ hy
      have e := congrArg (fun z : (⟨2, ![N, 512]⟩ : Shape).Idx => (z 0).val) hx
      change 8 + 1 * (x 0).val = (y 0).val at e
      omega
    · have e : y = (Rect.unit (s := ⟨2, ![N, 512]⟩) ![6, 0] ![2, 512] h6).emb (ix2 ⟨n.val, h⟩ j) := by
        funext a
        match a with
        | 0 => exact Fin.ext (by show (y 0).val = 6 + 1 * n.val; omega)
        | 1 => exact Fin.ext (by show (y 1).val = 0 + 1 * j.val; omega)
      rw [e]
      exact View.canon_cons_emb _ _ _ _
  · rw [dif_neg h]
    have e : y = (Rect.unit (s := ⟨2, ![N, 512]⟩) ![8, 0] ![T, 512] h8).emb (ix2 ⟨n.val - 2, by omega⟩ j) := by
      funext a
      match a with
      | 0 => exact Fin.ext (by show (y 0).val = 8 + 1 * (n.val - 2); omega)
      | 1 => exact Fin.ext (by show (y 1).val = 0 + 1 * j.val; omega)
    rw [e]
    exact View.canon_cons_emb _ _ _ _

end Cert.Mm
-- ==== Proof.Mm.K16.lean ====
/-
  The gate of the feed-forward block: a depthwise convolution of three taps over the gate columns with the two carried
  rows before them, its SiLU times the value columns, and the last two rows as the new state.
-/
module

public import proofs.«01_k».proof.Proof.Mm.Common
public import proofs.«01_k».proof.Proof.Mm.Gated
public import proofs.«01_k».proof.Proof.Gen.Kernel16Ideal.Value
public import proofs.«01_k».proof.Proof.Gen.Kernel16
public import proofs.«01_k».proof.Proof.Gen.Reference16Ideal.Run
public import proofs.«01_k».proof.Defs

@[expose] public section

set_option maxRecDepth 16384

noncomputable section

namespace Cert.Kernel16Ideal.Mm

open Idealize.ShloMosaic Idealize.ShloMosaic.TcCoe Idealize.SL.Sem Cert.Kernel16Ideal Cert.Kernel16Ideal.Gen Cert.Mm

/-- The blocks' places at point `t`, of group `t / 11` and column block `t % 11`. -/
theorem idx : ∀ t : Fin cfg0.N, win0_0.index t = ![t.val / 11, t.val % 11] ∧ win0_1.index t = ![t.val / 11, 11 + t.val % 11]
    ∧ win0_2.index t = ![t.val / 11, 0, t.val % 11] ∧ win0_3.index t = ![0, t.val % 11] ∧ win0_4.index t = ![0, t.val % 11]
    ∧ win0_5.index t = ![t.val / 11, t.val % 11] ∧ win0_6.index t = ![t.val / 11, 0, t.val % 11] := (by decide +kernel : ∀ t : Fin grid0.N, _)

/-- The body's block, at one element. -/
theorem act_at (bias : Vec Ideal S1x512 .f32) (x0 : Vec Ideal S1x2048x512 .f32) (w0 : Vec Ideal S1x512 .f32) (x1 : Vec Ideal S1x2048x512 .f32)
    (w1 : Vec Ideal S1x512 .f32) (x2 : Vec Ideal S2048x512 .f32) (w2 : Vec Ideal S1x512 .f32) (v : Vec Ideal S2048x512 .f32) (r : Fin 2048) (j : Fin 512) :
    k0_pay1 (k0_pay6 bias x0 w0) x1 w1 x2 w2 v (ix2 r j)
      = gated (x0 (ix3 0 r j)) (x1 (ix3 0 r j)) (x2 (ix2 r j)) (w0 (ix2 0 j)) (w1 (ix2 0 j)) (w2 (ix2 0 j)) (bias (ix2 0 j)) (v (ix2 r j)) := by
  unfold gated
  pointwise [k0_pay1, k0_pay6]

theorem pay4_at (g : Vec Ideal S2048x512 .f32) (r : Fin 2048) (j : Fin 512) : k0_pay4 g (ix2 r j) = g (ix2 r j) := by
  pointwise [k0_pay4]
theorem pay3_at (b : Vec Ideal S1x2x512 .f32) (r : Fin 2) (j : Fin 512) : k0_pay3 b (ix2 r j) = b (ix3 0 r j) := by
  pointwise [k0_pay3]
theorem pay5_at (g : Vec Ideal S2048x512 .f32) (r : Fin 2048) (j : Fin 512) : k0_pay5 g (ix3 0 r j) = g (ix2 r j) := by
  pointwise [k0_pay5]
theorem pay7_at (g : Vec Ideal S2048x512 .f32) (r : Fin 2048) (j : Fin 512) : k0_pay7 g (ix3 0 r j) = g (ix2 r j) := by
  pointwise [k0_pay7]
theorem pay2_at (g : Vec Ideal S2x512 .f32) (r : Fin 2) (j : Fin 512) : k0_pay2 g (ix3 0 r j) = g (ix2 r j) := by
  pointwise [k0_pay2]

variable (m : (ℓ : Loc nD τ sig) → Buf (Elt Ideal) ℓ) (c : Dev nD)

/-- The rows that a point's scratch holds from row 6 on: the two carried ones, then the gate's. -/
def prow (t : Fin cfg0.N) (n : Fin 2050) (j : Fin 512) : EReal :=
  if h : n.val < 2 then iblk m c 2 t (ix3 0 ⟨n.val, h⟩ j) else iblk m c 0 t (ix2 ⟨n.val - 2, by omega⟩ j)

/-- A row of the scratch. -/
theorem row_at (t : Fin cfg0.N) (n : Fin 2050) (j : Fin 512) (y : S2056x512.Idx) (h0 : (y 0).val = 6 + n.val) (h1 : (y 1).val = j.val) :
    View.canon (stores inb_S2056x512_S2048x512_8_0 inb_S2056x512_S2x512_6_0 (k0_pay4 (iblk m c 0 t)) (k0_pay3 (iblk m c 2 t))) y = prow m c t n j := by
  refine (stored _ _ _ _ n j y h0 h1).trans ?_
  unfold prow
  split
  · exact pay3_at _ _ _
  · exact pay4_at _ _ _

/-- A point's block of the activation. -/
theorem t5 (t : Fin cfg0.N) (r : Fin 2048) (j : Fin 512) : (outsAt0 m c t).1 (ix2 r j)
    = gated (prow m c t ⟨r.val, by omega⟩ j) (prow m c t ⟨r.val + 1, by omega⟩ j) (prow m c t ⟨r.val + 2, by omega⟩ j)
      (iblk m c 3 t (ix2 0 j)) (iblk m c 3 t (ix2 1 j)) (iblk m c 3 t (ix2 2 j)) (iblk m c 4 t (ix2 0 j)) (iblk m c 1 t (ix2 r j)) := by
  unfold outsAt0
  frame_out
  rw [View.readCov_cons_toLoadRect, View.readCov_cons_toLoadRect]
  refine (act_at _ _ _ _ _ _ _ _ r j).trans ?_
  rw [pay5_at, pay7_at, View.readCov_eq_canon', View.readCov_eq_canon', View.readCov_eq_canon']
  have ha : ∀ i : ℕ, ∀ hi : i < 3, ∀ inb, View.ld (iblk m c 3 t) (Rect.unit (s := S3x512) ![i, 0] ![1, 512] inb) (ix2 0 j) = iblk m c 3 t (ix2 ⟨i, hi⟩ j) :=
    fun i hi inb => congrArg (iblk m c 3 t) (by
      funext a
      match a with
      | 0 => exact Fin.ext (by show i + 1 * 0 = i; omega)
      | 1 => exact Fin.ext (by show 0 + 1 * j.val = j.val; omega))
  have hs : ∀ (o : ℕ) (ho : r.val + o < 2050) inb, View.canon (stores inb_S2056x512_S2048x512_8_0 inb_S2056x512_S2x512_6_0 (k0_pay4 (iblk m c 0 t)) (k0_pay3 (iblk m c 2 t)))
      ((Rect.unit (s := S2056x512) ![6 + o, 0] ![2048, 512] inb).idx (ix2 r j)) = prow m c t ⟨r.val + o, ho⟩ j := fun o ho inb =>
    row_at m c t _ _ _ (by show 6 + o + 1 * r.val = 6 + (r.val + o); omega) (by show 0 + 1 * j.val = j.val; omega)
  have e0 := hs 0 (by omega) inb_S2056x512_S2048x512_6_0
  have e1 := hs 1 (by omega) inb_S2056x512_S2048x512_7_0
  have e2 := hs 2 (by omega) inb_S2056x512_S2048x512_8_0
  have w0 := ha 0 (by omega) inb_S3x512_S1x512_0_0
  have w1 := ha 1 (by omega) inb_S3x512_S1x512_1_0
  have w2 := ha 2 (by omega) inb_S3x512_S1x512_2_0
  exact gated_congr e0 e1 e2 w0 w1 w2 rfl rfl
/-- A point's block of the new state. -/
theorem t6 (t : Fin cfg0.N) (r : Fin 2) (j : Fin 512) : (outsAt0 m c t).2 (ix3 0 r j) = prow m c t ⟨2048 + r.val, by omega⟩ j := by
  unfold outsAt0
  frame_out
  rw [pay2_at, View.readCov_eq_canon']
  refine row_at m c t _ _ _ ?_ ?_
  · show 2054 + 1 * r.val = 6 + (2048 + r.val); omega
  · show 0 + 1 * j.val = j.val; omega

abbrev Ua : S8192x11264.Idx → EReal := m ((c.tc : Thread nD τ).loc main_arg0)
abbrev Sa : S4x2x5632.Idx → EReal := m ((c.tc : Thread nD τ).loc main_arg1)
abbrev Ca : S3x5632.Idx → EReal := m ((c.tc : Thread nD τ).loc main_arg2)
abbrev Ba : S5632.Idx → EReal := m ((c.tc : Thread nD τ).loc main_arg3)

/-- The rows of a group: its two carried ones, then those of the gate columns. -/
def grow (b : Fin 4) (n : Fin 2050) (J : Fin 5632) : EReal :=
  if h : n.val < 2 then Sa m c (ix3 b ⟨n.val, h⟩ J) else Ua m c (ix2 ⟨2048 * b.val + (n.val - 2), by omega⟩ ⟨J.val, by omega⟩)

/-- The activation. -/
def act (x : S8192x5632.Idx) : EReal :=
  gated (grow m c ⟨(x 0).val / 2048, by have : (x 0).val < 8192 := (x 0).isLt; omega⟩ ⟨(x 0).val % 2048, by omega⟩ (x 1))
    (grow m c ⟨(x 0).val / 2048, by have : (x 0).val < 8192 := (x 0).isLt; omega⟩ ⟨(x 0).val % 2048 + 1, by omega⟩ (x 1))
    (grow m c ⟨(x 0).val / 2048, by have : (x 0).val < 8192 := (x 0).isLt; omega⟩ ⟨(x 0).val % 2048 + 2, by omega⟩ (x 1))
    (Ca m c (ix2 0 (x 1))) (Ca m c (ix2 1 (x 1))) (Ca m c (ix2 2 (x 1))) (Ba m c (ix1 (x 1)))
    (Ua m c (ix2 (x 0) ⟨5632 + (x 1).val, by have : (x 1).val < 5632 := (x 1).isLt; omega⟩))

/-- The new state: each group's last two rows. -/
def state (x : S4x2x5632.Idx) : EReal := grow m c (x 0) ⟨2048 + (x 1).val, by have : (x 1).val < 2 := (x 1).isLt; omega⟩ (x 2)

theorem prow_at (t : Fin cfg0.N) (n n' : Fin 2050) (j : Fin 512) (b : Fin 4) (J : Fin 5632) (hb : b.val = t.val / 11) (hn : n.val = n'.val) (hJ : J.val = t.val % 11 * 512 + j.val) :
    prow m c t n j = grow m c b n' J := by
  have ht : t.val < 44 := t.isLt
  have hj := j.isLt
  obtain rfl : n = n' := Fin.ext hn
  unfold prow grow
  by_cases h : n.val < 2
  · rw [dif_pos h, dif_pos h]
    blk_ext [iblk, V, idx t]
  · rw [dif_neg h, dif_neg h]
    blk_ext [iblk, V, idx t]

theorem weight_at (t : Fin cfg0.N) (i : Fin 3) (j : Fin 512) (J : Fin 5632) (hJ : J.val = t.val % 11 * 512 + j.val) :
    iblk m c 3 t (ix2 i j) = Ca m c (ix2 i J) := by
  have ht : t.val < 44 := t.isLt
  blk_ext [iblk, V, idx t]

theorem bias_at (t : Fin cfg0.N) (j : Fin 512) (J : Fin 5632) (hJ : J.val = t.val % 11 * 512 + j.val) :
    iblk m c 4 t (ix2 0 j) = Ba m c (ix1 J) := by
  have ht : t.val < 44 := t.isLt
  blk_simp [iblk, idx t]
  entry_read
  pointwise []
  blk_ext [idx t]

theorem value_at (t : Fin cfg0.N) (r : Fin 2048) (j : Fin 512) (R : Fin 8192) (J : Fin 11264) (hR : R.val = t.val / 11 * 2048 + r.val) (hJ : J.val = 5632 + (t.val % 11 * 512 + j.val)) :
    iblk m c 1 t (ix2 r j) = Ua m c (ix2 R J) := by
  have ht : t.val < 44 := t.isLt
  blk_ext [iblk, V, idx t]

/-- The activation's array ends as the activation. -/
theorem final5 : (dats m 0 c).arrAt 5 (cfgs 0).N = act m c := by
  refine (dats m 0 c).arrAt_eq_of_covers 5 _ (by decide +kernel) fun t _ y => ?_
  have ht : t.val < 44 := t.isLt
  blk_simp
  rw [after0_5]
  obtain ⟨r, j, rfl⟩ : ∃ r j, y = ix2 r j := ⟨y 0, y 1, by funext a; match a with | 0 => rfl | 1 => rfl⟩
  refine (t5 m c t r j).trans ?_
  unfold act
  have hr := r.isLt
  have hj := j.isLt
  generalize hx : (win0_5.blk t).view.emb (ix2 r j) = x
  have c0 : (x 0).val = t.val / 11 * 2048 + r.val := by rw [← hx]; blk_simp [idx t]
  have c1 : (x 1).val = t.val % 11 * 512 + j.val := by rw [← hx]; blk_simp [idx t]
  have hb : (x 0).val / 2048 = t.val / 11 := by omega
  exact gated_congr (prow_at m c t _ _ j _ _ hb (by show r.val = (x 0).val % 2048; omega) c1)
    (prow_at m c t _ _ j _ _ hb (by show r.val + 1 = (x 0).val % 2048 + 1; omega) c1)
    (prow_at m c t _ _ j _ _ hb (by show r.val + 2 = (x 0).val % 2048 + 2; omega) c1)
    (weight_at m c t 0 j _ c1) (weight_at m c t 1 j _ c1) (weight_at m c t 2 j _ c1) (bias_at m c t j _ c1)
    (value_at m c t r j _ _ c0 (by show 5632 + (x 1).val = _; omega))

/-- The state's array ends as the state. -/
theorem final6 : (dats m 0 c).arrAt 6 (cfgs 0).N = state m c := by
  refine (dats m 0 c).arrAt_eq_of_covers 6 _ (by decide +kernel) fun t _ y => ?_
  have ht : t.val < 44 := t.isLt
  blk_simp
  rw [after0_6]
  obtain ⟨r, j, rfl⟩ : ∃ r j, y = ix3 0 r j := ⟨y 1, y 2, by funext a; match a with | 0 => exact Fin.ext (by have : (y 0).val < 1 := (y 0).isLt; show (y 0).val = 0; omega) | 1 => rfl | 2 => rfl⟩
  refine (t6 m c t r j).trans ?_
  unfold state
  refine prow_at m c t _ _ _ _ _ ?_ ?_ ?_
  · blk_simp [idx t]
    exact Nat.add_zero _
  · blk_simp [idx t]
  · blk_simp [idx t]

end Cert.Kernel16Ideal.Mm

namespace Cert.Reference16Ideal.Mm

open Idealize.ShloMosaic Idealize.ShloMosaic.TcCoe Idealize.SL.Sem Cert.Reference16Ideal Cert.Reference16Ideal.Gen Cert.Mm

/-- The two programs of the kernel have the same text, so the same bodies. -/
theorem defs_eq : Cert.Kernel16.defs (F := Bits) = Cert.Kernel16Ideal.defs (F := Bits) := by sl_kernel_rfl

/-- The kernel's frame, over words. -/
theorem frame_kernel : Cert.quiescent_Kernel16 (hKernel16 := Cert.Kernel16.Gen.facts) := fun m ρ _ => by
  have h := Cert.Kernel16Ideal.Gen.frame (F := Bits) m ρ
  rw [← defs_eq] at h
  exact h

/-- The kernel's frame, over the extended reals. -/
theorem frame_ideal : Cert.quiescent_Kernel16Ideal (hKernel16Ideal := Cert.Kernel16Ideal.Gen.facts) := fun m ρ _ => Cert.Kernel16Ideal.Gen.frame m ρ

/-- The reference ends with its arguments unchanged; it has no semaphore. -/
theorem frame_ref : Cert.quiescent_Reference16Ideal (hReference16Ideal := Cert.Reference16Ideal.Gen.facts) := fun m ρ _ =>
  (θ_run Cert.Reference16Ideal.defs _ _).mono (fun r h => ⟨fun c => (h c).2.2, sem_eq_zero_of_no_sems (by decide) r.2⟩)
    (Cert.Reference16Ideal.Value.run (F := Ideal) m ρ)

/-- The reference's rows of a group, as it joins them. -/
abbrev join (U : FVec Ideal S8192x11264 .f32) (S : FVec Ideal S4x2x5632 .f32) : FVec Ideal S4x2050x5632 .f32 :=
  concatenate S4x2050x5632 1 [⟨S4x2x5632, S⟩, ⟨S4x2048x5632, (shapeCast _ (extractStridedSlice S8192x5632 ![0, 0] U slices_S8192x11264_S8192x5632_0_0) shapeCasts_S8192x5632_S4x2048x5632)⟩] concatenates_S4x2x5632_S4x2048x5632_S4x2050x5632_d1

theorem join_at (m : (ℓ : Loc Cert.Kernel16Ideal.nD Cert.Kernel16Ideal.τ Cert.Kernel16Ideal.sig) → Buf (Elt Ideal) ℓ) (c : Dev Cert.Kernel16Ideal.nD)
    (b : Fin 4) (n : Fin 2050) (J : Fin 5632) :
    join (Cert.Kernel16Ideal.Mm.Ua m c) (Cert.Kernel16Ideal.Mm.Sa m c) (ix3 b n J) = Cert.Kernel16Ideal.Mm.grow m c b n J := by
  unfold Cert.Kernel16Ideal.Mm.grow
  pointwise [join]
  split
  · rfl
  · exact congrArg (Cert.Kernel16Ideal.Mm.Ua m c) (by
      funext a
      match a with
      | 0 => exact Fin.ext (by show b.val * 2048 + (n.val - 2) = 2048 * b.val + (n.val - 2); omega)
      | 1 => rfl)

/-- The reference's convolution, of its joined rows. -/
abbrev convOf (P : FVec Ideal S4x2050x5632 .f32) (C : FVec Ideal S3x5632 .f32) (B : FVec Ideal S5632 .f32) : FVec Ideal S4x2048x5632 .f32 :=
  addf (addf (addf (mulf (broadcastInDim S4x2048x5632 ![0, 1, 2] bcast_S1x1x5632_S4x2048x5632_0_1_2 (broadcastInDim S1x1x5632 ![2] bcast_S5632_S1x1x5632_2 (shapeCast _ (extractStridedSlice S1x5632 ![0, 0] C slices_S3x5632_S1x5632_0_0) shapeCasts_S1x5632_S5632))) (extractStridedSlice S4x2048x5632 ![0, 0, 0] P slices_S4x2050x5632_S4x2048x5632_0_0_0)) (mulf (broadcastInDim S4x2048x5632 ![0, 1, 2] bcast_S1x1x5632_S4x2048x5632_0_1_2 (broadcastInDim S1x1x5632 ![2] bcast_S5632_S1x1x5632_2 (shapeCast _ (extractStridedSlice S1x5632 ![1, 0] C slices_S3x5632_S1x5632_1_0) shapeCasts_S1x5632_S5632))) (extractStridedSlice S4x2048x5632 ![0, 1, 0] P slices_S4x2050x5632_S4x2048x5632_0_1_0))) (mulf (broadcastInDim S4x2048x5632 ![0, 1, 2] bcast_S1x1x5632_S4x2048x5632_0_1_2 (broadcastInDim S1x1x5632 ![2] bcast_S5632_S1x1x5632_2 (shapeCast _ (extractStridedSlice S1x5632 ![2, 0] C slices_S3x5632_S1x5632_2_0) shapeCasts_S1x5632_S5632))) (extractStridedSlice S4x2048x5632 ![0, 2, 0] P slices_S4x2050x5632_S4x2048x5632_0_2_0))) (broadcastInDim S4x2048x5632 ![0, 1, 2] bcast_S1x1x5632_S4x2048x5632_0_1_2 (broadcastInDim S1x1x5632 ![2] bcast_S5632_S1x1x5632_2 B))

/-- The reference's activation, of its joined rows. -/
abbrev actOf (U : FVec Ideal S8192x11264 .f32) (P : FVec Ideal S4x2050x5632 .f32) (C : FVec Ideal S3x5632 .f32) (B : FVec Ideal S5632 .f32) : FVec Ideal S8192x5632 .bf16 :=
  truncf .bf16 (shapeCast _ (mulf (mulf (convOf P C B) (Host.divf (broadcastInDim S4x2048x5632 ![] bcast_S_S4x2048x5632 (constant S_ .f32 0x3F800000#32)) (addf (broadcastInDim S4x2048x5632 ![] bcast_S_S4x2048x5632 (constant S_ .f32 0x3F800000#32)) (Host.exp (Host.negf (convOf P C B)))))) (shapeCast _ (extractStridedSlice S8192x5632 ![0, 5632] U slices_S8192x11264_S8192x5632_0_5632) shapeCasts_S8192x5632_S4x2048x5632)) shapeCasts_S4x2048x5632_S8192x5632) bitsLt_bf16_f32

theorem actOf_at (U : FVec Ideal S8192x11264 .f32) (P : FVec Ideal S4x2050x5632 .f32) (C : FVec Ideal S3x5632 .f32) (B : FVec Ideal S5632 .f32)
    (R : Fin 8192) (J : Fin 5632) :
    actOf U P C B (ix2 R J) = gated (P (ix3 ⟨R.val / 2048, by omega⟩ ⟨R.val % 2048, by omega⟩ J))
      (P (ix3 ⟨R.val / 2048, by omega⟩ ⟨R.val % 2048 + 1, by omega⟩ J)) (P (ix3 ⟨R.val / 2048, by omega⟩ ⟨R.val % 2048 + 2, by omega⟩ J))
      (C (ix2 0 J)) (C (ix2 1 J)) (C (ix2 2 J)) (B (ix1 J)) (U (ix2 R ⟨5632 + J.val, by omega⟩)) := by
  have e : ∀ a b c d : EReal, d + a + b + c = a + b + c + d := fun a b c d => by ac_rfl
  unfold gated
  rw [e]
  pointwise [actOf, convOf]
  simp only [zero_sub, Nat.add_comm 1 (R.val % 2048), Nat.add_comm 2 (R.val % 2048)]

/-- From agreeing arguments both programs end with the same activation and the same state. -/
theorem equal : Cert.algebraic_Kernel16Ideal_Reference16Ideal (hKernel16Ideal := Cert.Kernel16Ideal.Gen.facts)
    (hReference16Ideal := Cert.Reference16Ideal.Gen.facts) := by
  intro m g m' g' _ hagree
  refine ⟨fun c => Cert.Kernel16Ideal.Mm.act m c, fun c => Cert.Kernel16Ideal.Mm.state m c, ?_, ?_⟩
  · refine (θ_run Cert.Kernel16Ideal.defs _ _).mono (fun r h c => ⟨(h c).1.trans (Cert.Kernel16Ideal.Mm.final5 m c),
      (h c).2.1.trans (Cert.Kernel16Ideal.Mm.final6 m c), (h c).2.2⟩) (Cert.Kernel16Ideal.Value.run_blocks (F := Ideal) m g)
  · refine (θ_run Cert.Reference16Ideal.defs _ _).mono (fun r h c => ⟨(h c).1.trans ?_, (h c).2.1.trans ?_, (h c).2.2⟩)
      (Cert.Reference16Ideal.Value.run (F := Ideal) m' g')
    · unfold Cert.Reference16Ideal.Value.res_main_v31
      rw [(hagree c).1, (hagree c).2.1, (hagree c).2.2.1, (hagree c).2.2.2]
      funext x
      obtain ⟨R, J, rfl⟩ : ∃ (R : Fin 8192) (J : Fin 5632), x = ix2 R J := ⟨x 0, x 1, by funext a; match a with | 0 => rfl | 1 => rfl⟩
      refine (actOf_at (Cert.Kernel16Ideal.Mm.Ua m c) (join (Cert.Kernel16Ideal.Mm.Ua m c) (Cert.Kernel16Ideal.Mm.Sa m c)) (Cert.Kernel16Ideal.Mm.Ca m c)
        (Cert.Kernel16Ideal.Mm.Ba m c) R J).trans ?_
      rw [join_at, join_at, join_at]
      rfl
    · rw [(hagree c).1, (hagree c).2.1]
      funext x
      obtain ⟨b, n, J, rfl⟩ : ∃ (b : Fin 4) (n : Fin 2) (J : Fin 5632), x = ix3 b n J := ⟨x 0, x 1, x 2, by funext a; match a with | 0 => rfl | 1 => rfl | 2 => rfl⟩
      refine Eq.trans ?_ (join_at m c b ⟨2048 + n.val, by omega⟩ J)
      pointwise [join]

end Cert.Reference16Ideal.Mm
-- ==== Proof.Mm.Logf.lean ====
/-
  What the log-forgets need: the two forms of the log-sigmoid agree, a number split in three parts is their sum, and the
  host's cumulative sum along the middle axis is a sum over the positions up to its own.
-/
module

public import proofs.«01_k».proof.Proof.Mm.Common

@[expose] public section

set_option maxRecDepth 16384

noncomputable section

namespace Cert.Mm

open Idealize.ShloMosaic Idealize.ShloMosaic.TcCoe Idealize.SL.Sem Finset

/-- The log-sigmoid, as the kernel writes it. -/
def logsig (z : EReal) : EReal := min z 0 - Ideal.log (1 + Ideal.exp (0 - max z (-z)))

/-- The logarithm in it is a real number that is not negative. -/
theorem logsig_log (z : EReal) : ∃ b : ℝ, 0 ≤ b ∧ Ideal.log (1 + Ideal.exp (0 - max z (-z))) = b := by
  have key : ∀ e : ℝ, 0 ≤ e → ∃ b : ℝ, 0 ≤ b ∧ Ideal.log (1 + (e : EReal)) = b := fun e he => by
    have h1 : ¬ (1 + e ≤ 0) := by linarith
    refine ⟨Real.log (1 + e), Real.log_nonneg (by linarith), ?_⟩
    rw [← EReal.coe_one, ← EReal.coe_add]
    show (if 1 + e ≤ 0 then (⊥ : EReal) else (Real.log (1 + e) : EReal)) = _
    rw [if_neg h1]
  induction z using EReal.rec with
  | bot =>
    have e : Ideal.exp (0 - max (⊥ : EReal) (-⊥)) = ((0 : ℝ) : EReal) := by
      rw [show 0 - max (⊥ : EReal) (-⊥) = ⊥ by simp]; rfl
    rw [e]
    exact key 0 le_rfl
  | top =>
    have e : Ideal.exp (0 - max (⊤ : EReal) (-⊤)) = ((0 : ℝ) : EReal) := by
      rw [show 0 - max (⊤ : EReal) (-⊤) = ⊥ by simp]; rfl
    rw [e]
    exact key 0 le_rfl
  | coe r =>
    have e : Ideal.exp (0 - max (r : EReal) (-(r : EReal))) = ((Real.exp (0 - max r (-r)) : ℝ) : EReal) := by
      rw [← EReal.coe_neg, ← EReal.coe_strictMono.monotone.map_max, ← EReal.coe_zero, ← EReal.coe_sub]
      rfl
    rw [e]
    exact key _ (Real.exp_pos _).le

/-- A log-sigmoid is not above zero. -/
theorem logsig_le (z : EReal) : logsig z ≤ 0 := by
  obtain ⟨b, hb, e⟩ := logsig_log z
  unfold logsig
  rw [e]
  have h : (0 : EReal) ≤ (b : EReal) := by exact_mod_cast hb
  calc min z 0 - (b : EReal) ≤ min z 0 - 0 := EReal.sub_le_sub le_rfl h
    _ = min z 0 := by simp
    _ ≤ 0 := min_le_right _ _

/-- The negated softplus of the negation is the log-sigmoid. -/
theorem logsig_eq (z : EReal) : -(max (-z) 0 + Ideal.log (1 + Ideal.exp (-(max (-z) (- -z))))) = logsig z := by
  obtain ⟨b, hb, e⟩ := logsig_log z
  have e' : -(max (-z) (- -z)) = 0 - max z (-z) := by rw [zero_sub, neg_neg, max_comm]
  unfold logsig
  rw [e', e, EReal.neg_add (Or.inr (EReal.coe_ne_top _)) (Or.inr (EReal.coe_ne_bot _))]
  refine congrArg (fun a : EReal => a - (b : EReal)) ?_
  rw [← EReal.min_neg_neg, neg_neg, neg_zero]

/-- The three parts of a number below +∞, each times the same 0 or 1, add up to the number times that. -/
theorem split (x : EReal) (hx : x ≠ ⊤) (p : Prop) [Decidable p] :
    (if p then (1 : EReal) else 0) * x + (if p then (1 : EReal) else 0) * (x - x) + (if p then (1 : EReal) else 0) * (x - x - (x - x))
      = if p then x else 0 := by
  by_cases hp : p
  · simp only [if_pos hp, one_mul]
    induction x using EReal.rec with
    | bot => simp
    | top => exact absurd rfl hx
    | coe r => simp only [← EReal.coe_sub, ← EReal.coe_add]; congr 1; ring
  · simp only [if_neg hp, zero_mul, add_zero]

/-- A sum over 256 positions of those up to `r` is a sum over a range. -/
theorem sum_upto {n : ℕ} (f : ℕ → EReal) (r : ℕ) (hr : r < n) :
    (∑ k : Fin n, if k.val ≤ r then f k.val else 0) = ∑ k ∈ range (r + 1), f k := by
  rw [Fin.sum_univ_eq_sum_range (fun k => if k ≤ r then f k else 0) n, ← Finset.sum_filter]
  refine Finset.sum_congr (Finset.ext fun k => ?_) fun _ _ => rfl
  rw [Finset.mem_filter, Finset.mem_range, Finset.mem_range]
  omega

theorem foldl_add {ι : Type} (g : ι → EReal) (l : List ι) (v : EReal) : l.foldl (fun r n => r + g n) v = v + (l.map g).sum := by
  induction l generalizing v with
  | nil => simp
  | cons a l ih => rw [List.foldl_cons, ih, List.map_cons, List.sum_cons, add_assoc]

/-- Of a window over `n` positions, the ones that reach back into the array are the ones up to `j`. -/
theorem sum_window (f : ℕ → EReal) (n j : ℕ) (hj : j < n + 1) :
    (∑ w ∈ range (n + 1), if n ≤ j + w then f (j + w - n) else 0) = ∑ k ∈ range (j + 1), f k := by
  have e : n + 1 = (n - j) + (j + 1) := by omega
  rw [e, Finset.sum_range_add]
  rw [Finset.sum_eq_zero (fun w hw => if_neg (by have := Finset.mem_range.1 hw; omega)), zero_add]
  refine Finset.sum_congr rfl fun k hk => ?_
  rw [if_pos (by omega)]
  exact congrArg f (by omega)

/-- The host's cumulative sum along the middle axis of an array of three. -/
theorem cumsum {A n C : ℕ} (x : FVec Ideal ⟨3, ![A, n + 1, C]⟩ .f32) (init : FVec Ideal ⟨0, ![]⟩ .f32) (hinit : init (Shape.Idx.first (by decide)) = (0 : EReal))
    (h : (⟨3, ![A, n + 1, C]⟩ : Shape).ReduceWindows (![1, n + 1, 1] : Fin 3 → ℕ) ![1, 1, 1] ![0, n, 0] ![0, 0, 0] ⟨3, ![A, n + 1, C]⟩)
    (hu : 0 < (⟨0, ![]⟩ : Shape).numel) (b : Fin A) (j : Fin (n + 1)) (l : Fin C) (f : ℕ → EReal) (hf : ∀ k : Fin (n + 1), x (ix3 b k l) = f k.val) :
    Host.reduceWindowAdd ![1, n + 1, 1] ![1, 1, 1] ![0, n, 0] ![0, 0, 0] x init h hu (ix3 b j l) = ∑ k ∈ range (j.val + 1), f k := by
  have hb := b.isLt
  have hl := l.isLt
  have hj := j.isLt
  have hN : (⟨3, ![1, n + 1, 1]⟩ : Shape).numel = n + 1 := by
    refine (Fin.prod_univ_three _).trans ?_
    show 1 * (n + 1) * 1 = n + 1
    omega
  have hs : ∀ w : Fin (⟨3, ![1, n + 1, 1]⟩ : Shape).numel, ((⟨3, ![1, n + 1, 1]⟩ : Shape).rowMajor.symm w 1).val = w.val := fun w => by
    have e := rowMajor_val3 ((⟨3, ![1, n + 1, 1]⟩ : Shape).rowMajor.symm w) ((n + 1) * 1) 1 rfl rfl
    rw [Equiv.apply_symm_apply] at e
    have h0 : ((⟨3, ![1, n + 1, 1]⟩ : Shape).rowMajor.symm w 0).val < 1 := ((⟨3, ![1, n + 1, 1]⟩ : Shape).rowMajor.symm w 0).isLt
    have h2 : ((⟨3, ![1, n + 1, 1]⟩ : Shape).rowMajor.symm w 2).val < 1 := ((⟨3, ![1, n + 1, 1]⟩ : Shape).rowMajor.symm w 2).isLt
    have z0 : ((⟨3, ![1, n + 1, 1]⟩ : Shape).rowMajor.symm w 0).val = 0 := by omega
    rw [z0] at e
    omega
  have hs0 : ∀ w : Fin (⟨3, ![1, n + 1, 1]⟩ : Shape).numel, ((⟨3, ![1, n + 1, 1]⟩ : Shape).rowMajor.symm w 0).val = 0 := fun w => by
    have h0 : ((⟨3, ![1, n + 1, 1]⟩ : Shape).rowMajor.symm w 0).val < 1 := ((⟨3, ![1, n + 1, 1]⟩ : Shape).rowMajor.symm w 0).isLt
    omega
  have hs2 : ∀ w : Fin (⟨3, ![1, n + 1, 1]⟩ : Shape).numel, ((⟨3, ![1, n + 1, 1]⟩ : Shape).rowMajor.symm w 2).val = 0 := fun w => by
    have h2 : ((⟨3, ![1, n + 1, 1]⟩ : Shape).rowMajor.symm w 2).val < 1 := ((⟨3, ![1, n + 1, 1]⟩ : Shape).rowMajor.symm w 2).isLt
    omega
  show (List.finRange (⟨3, ![1, n + 1, 1]⟩ : Shape).numel).foldl (fun r w => r + _) (init (Shape.Idx.first hu)) = _
  rw [foldl_add, hinit, zero_add, ← Fin.sum_univ_def]
  refine (Finset.sum_congr rfl fun w _ => ?_).trans ((Fin.sum_univ_eq_sum_range (fun w => if n ≤ j.val + w then f (j.val + w - n) else 0) _).trans
    ((congrArg (fun N => ∑ w ∈ range N, if n ≤ j.val + w then f (j.val + w - n) else 0) hN).trans (sum_window f n j.val hj)))
  have hw : w.val < n + 1 := lt_of_lt_of_eq w.isLt hN
  dsimp only
  split
  · next hin =>
    have h1 := hin 1
    change n ≤ j.val * 1 + ((⟨3, ![1, n + 1, 1]⟩ : Shape).rowMajor.symm w 1).val
      ∧ j.val * 1 + ((⟨3, ![1, n + 1, 1]⟩ : Shape).rowMajor.symm w 1).val - n < n + 1 at h1
    rw [hs] at h1
    rw [if_pos (by omega)]
    refine (congrArg x (funext fun a => Fin.ext ?_)).trans (hf ⟨j.val + w.val - n, by omega⟩)
    match a with
    | ⟨0, _⟩ =>
      show b.val * 1 + ((⟨3, ![1, n + 1, 1]⟩ : Shape).rowMajor.symm w 0).val - 0 = b.val
      rw [hs0]; omega
    | ⟨1, _⟩ =>
      show j.val * 1 + ((⟨3, ![1, n + 1, 1]⟩ : Shape).rowMajor.symm w 1).val - n = j.val + w.val - n
      rw [hs]; omega
    | ⟨2, _⟩ =>
      show l.val * 1 + ((⟨3, ![1, n + 1, 1]⟩ : Shape).rowMajor.symm w 2).val - 0 = l.val
      rw [hs2]; omega
  · next hin =>
    rw [if_neg fun hle => hin fun a => by
      match a with
      | ⟨0, _⟩ =>
        show 0 ≤ b.val * 1 + ((⟨3, ![1, n + 1, 1]⟩ : Shape).rowMajor.symm w 0).val ∧ b.val * 1 + ((⟨3, ![1, n + 1, 1]⟩ : Shape).rowMajor.symm w 0).val - 0 < A
        rw [hs0]; omega
      | ⟨1, _⟩ =>
        show n ≤ j.val * 1 + ((⟨3, ![1, n + 1, 1]⟩ : Shape).rowMajor.symm w 1).val
          ∧ j.val * 1 + ((⟨3, ![1, n + 1, 1]⟩ : Shape).rowMajor.symm w 1).val - n < n + 1
        rw [hs]; omega
      | ⟨2, _⟩ =>
        show 0 ≤ l.val * 1 + ((⟨3, ![1, n + 1, 1]⟩ : Shape).rowMajor.symm w 2).val ∧ l.val * 1 + ((⟨3, ![1, n + 1, 1]⟩ : Shape).rowMajor.symm w 2).val - 0 < C
        rw [hs2]; omega]

end Cert.Mm
-- ==== Proof.Mm.K17.lean ====
/-
  The log-forgets of the attention: the log-sigmoid of a projection plus a bias, and its running sum over the positions
  of a group, which the kernel carries from row block to row block.
-/
module

public import proofs.«01_k».proof.Proof.Mm.Common
public import proofs.«01_k».proof.Proof.Mm.Logf
public import proofs.«01_k».proof.Proof.Gen.Kernel17Ideal.Value
public import proofs.«01_k».proof.Proof.Gen.Kernel17
public import proofs.«01_k».proof.Proof.Gen.Reference17Ideal.Run
public import proofs.«01_k».proof.Defs

@[expose] public section

set_option maxRecDepth 16384

noncomputable section

namespace Cert.Kernel17Ideal.Mm

open Idealize.ShloMosaic Idealize.ShloMosaic.TcCoe Idealize.SL.Sem Cert.Kernel17Ideal Cert.Kernel17Ideal.Gen Cert.Mm Finset

variable (m : (ℓ : Loc nD τ sig) → Buf (Elt Ideal) ℓ) (c : Dev nD)

/-- The blocks' places at point `t`. -/
theorem idx : ∀ t : Fin cfg0.N, win0_0.index t = ![t.val, 0] ∧ win0_1.index t = ![0, 144, 0]
    ∧ win0_2.index t = ![0, 0] ∧ win0_3.index t = ![t.val, 0] ∧ win0_4.index t = ![t.val, 0] := (by decide +kernel : ∀ t : Fin grid0.N, _)

/-- The log-sigmoid block, at one element. -/
theorem pay4_at (h : Vec Ideal S256x2048 .bf16) (w : Vec Ideal S1x128x2048 .f32) (b : Vec Ideal S1x128 .f32) (r : Fin 256) (l : Fin 128) :
    k0_pay4 h w b (ix2 r l) = logsig ((∑ k : Fin 2048, (show EReal from h (ix2 r k)) * (show EReal from w (ix3 0 l k))) + (show EReal from b (ix2 0 l))) := by
  unfold logsig
  pointwise [k0_pay4]
  rfl

/-- The triangle of ones, at one element. -/
theorem pay5_at (r k : Fin 256) : k0_pay5 (F := Ideal) (ix2 r k) = if k.val ≤ r.val then (1 : EReal) else 0 := by
  pointwise [k0_pay5]
  have e : IntOp.cmpi CmpIPredicate.sle (BitVec.ofNat 32 k.val) (BitVec.ofNat 32 r.val) = if k.val ≤ r.val then 1#1 else 0#1 := by
    revert r k
    decide +kernel
  rw [e]
  split <;> rfl

/-- A block of running sums: the carried row, and the block's own rows up to each. -/
theorem pay1_at (h : Vec Ideal S256x2048 .bf16) (w : Vec Ideal S1x128x2048 .f32) (b z : Vec Ideal S1x128 .f32) (r : Fin 256) (l : Fin 128)
    (f : ℕ → EReal) (hf : ∀ k : Fin 256, k0_pay4 h w b (ix2 k l) = f k.val) :
    k0_pay1 k0_pay5 (k0_pay8 h w b) (k0_pay9 h w b) (k0_pay10 h w b) (constant S256x128 .f32 0x00000000#32) z (ix2 r l)
      = (∑ k ∈ range (r.val + 1), f k) + (show EReal from z (ix2 0 l)) := by
  have hne : ∀ k : Fin 256, f k.val ≠ ⊤ := fun k => by
    rw [← hf, pay4_at]
    exact ((logsig_le _).trans_lt EReal.zero_lt_top).ne
  pointwise [k0_pay1, k0_pay8, k0_pay9, k0_pay10, k0_pay7, k0_pay6]
  refine congrArg (fun a : EReal => a + (show EReal from z (ix2 0 l))) ?_
  rw [← Finset.sum_add_distrib, ← Finset.sum_add_distrib, ← sum_upto f r.val r.isLt]
  refine Finset.sum_congr rfl fun k _ => ?_
  rw [pay5_at, hf]
  exact split _ (hne k) _

/-- The carried row is a block's last row. -/
theorem pay2_at (a : FVec Ideal S256x256 .bf16) (d e : FVec Ideal S256x128 .bf16) (f g : FVec Ideal S256x128 .f32) (z : Vec Ideal S1x128 .f32) (l : Fin 128) :
    k0_pay2 a d e f g z (ix2 0 l) = k0_pay1 a d e f g z (ix2 255 l) := by
  pointwise [k0_pay2]

theorem pay3_at (l : Fin 128) : k0_pay3 (F := Ideal) (ix2 0 l) = (0 : EReal) := by
  pointwise [k0_pay3]

abbrev Ha : S8192x2048.Idx → EReal := m ((c.tc : Thread nD τ).loc main_arg0)
abbrev Wa : S2x2048x24592.Idx → EReal := m ((c.tc : Thread nD τ).loc main_arg1)
abbrev Ba : S1x128.Idx → EReal := m ((c.tc : Thread nD τ).loc main_arg2)

/-- The log-forget at a position and a lane. -/
def lf (R : Fin 8192) (l : Fin 128) : EReal :=
  logsig ((∑ k : Fin 2048, Ha m c (ix2 R k) * Wa m c (ix3 0 k ⟨18432 + l.val, by omega⟩)) + Ba m c (ix2 0 l))

/-- The same over all counts, zero past the last position. -/
def lfn (n : ℕ) (l : Fin 128) : EReal := if h : n < 8192 then lf m c ⟨n, h⟩ l else 0

theorem lfn_of (R : Fin 8192) (n : ℕ) (h : R.val = n) (l : Fin 128) : lfn m c n l = lf m c R l := by
  subst h
  exact dif_pos R.isLt

theorem lhs_at (t : Fin cfg0.N) (r : Fin 256) (k : Fin 2048) (R : Fin 8192) (h : R.val = t.val * 256 + r.val) :
    iblk m c 0 t (ix2 r k) = Ha m c (ix2 R k) := by
  have ht : t.val < 32 := t.isLt
  blk_ext [iblk, V, idx t]

theorem rhs_at (t : Fin cfg0.N) (l : Fin 128) (k : Fin 2048) (J : Fin 24592) (h : J.val = 18432 + l.val) :
    X0_1 m c t (ix3 0 l k) = Wa m c (ix3 0 k J) := by
  have ht : t.val < 32 := t.isLt
  unfold X0_1 Pipeline.Window.fill
  rw [dif_pos (moved0_1 t _)]
  blk_simp [iblk, idx t]
  entry_read
  pointwise []
  blk_ext [idx t]

theorem bias_at (t : Fin cfg0.N) (l : Fin 128) : iblk m c 2 t (ix2 0 l) = Ba m c (ix2 0 l) := by
  have ht : t.val < 32 := t.isLt
  blk_ext [iblk, V, idx t]

/-- A point's log-sigmoid block. -/
theorem lf_at (t : Fin cfg0.N) (r : Fin 256) (l : Fin 128) :
    k0_pay4 (iblk m c 0 t) (X0_1 m c t) (iblk m c 2 t) (ix2 r l) = lfn m c (t.val * 256 + r.val) l := by
  have ht : t.val < 32 := t.isLt
  have hr := r.isLt
  rw [lfn_of m c ⟨t.val * 256 + r.val, by omega⟩ _ rfl, pay4_at]
  unfold lf
  refine congrArg logsig (congrArg₂ (fun a b : EReal => a + b) (Finset.sum_congr rfl fun k _ => congrArg₂ (fun a b : EReal => a * b) ?_ ?_) ?_)
  · exact lhs_at m c t r k _ rfl
  · exact rhs_at m c t l k _ rfl
  · exact bias_at m c t l

/-- A point's block of running sums, where the carried row sums the group's earlier blocks. -/
theorem cum_at (t : Fin cfg0.N) (z : Vec Ideal S1x128 .f32) (r : Fin 256) (l : Fin 128)
    (hz : z (ix2 0 l) = ∑ s ∈ range (256 * (t.val % 8)), lfn m c (t.val / 8 * 2048 + s) l) :
    k0_pay1 k0_pay5 (k0_pay8 (iblk m c 0 t) (X0_1 m c t) (iblk m c 2 t)) (k0_pay9 (iblk m c 0 t) (X0_1 m c t) (iblk m c 2 t))
      (k0_pay10 (iblk m c 0 t) (X0_1 m c t) (iblk m c 2 t)) (constant S256x128 .f32 0x00000000#32) z (ix2 r l)
      = ∑ s ∈ range (256 * (t.val % 8) + (r.val + 1)), lfn m c (t.val / 8 * 2048 + s) l := by
  refine (pay1_at _ _ _ z r l (fun k => lfn m c (t.val * 256 + k) l) fun k => lf_at m c t k l).trans ?_
  refine (add_comm _ _).trans (Eq.trans ?_ (Finset.sum_range_add _ (256 * (t.val % 8)) (r.val + 1)).symm)
  refine congrArg₂ (fun a b : EReal => a + b) hz (Finset.sum_congr rfl fun k _ => congrArg (fun n => lfn m c n l) ?_)
  omega

/-- What a point carries on: the group's sum up to its last row. -/
theorem carry (l : Fin 128) : ∀ n (h : n < cfg0.N), (outsAt0 m c n h).2.2 (ix2 0 l)
    = ∑ s ∈ range (256 * (n % 8) + (255 + 1)), lfn m c (n / 8 * 2048 + s) l := by
  intro n
  induction n with
  | zero =>
    intro h
    rw [outsAt0_A m c ⟨0, h⟩ rfl]
    frame_out
    rw [pay2_at]
    exact cum_at m c ⟨0, h⟩ _ 255 l ((pay3_at l).trans (by simp))
  | succ n ih =>
    intro h
    by_cases h0 : (n + 1) % 8 = 0
    · rw [outsAt0_A m c ⟨n + 1, h⟩ h0]
      frame_out
      rw [pay2_at]
      refine cum_at m c ⟨n + 1, h⟩ _ 255 l ((pay3_at l).trans ?_)
      show (0 : EReal) = ∑ s ∈ range (256 * ((n + 1) % 8)), _
      rw [h0]
      rfl
    · rw [outsAt0_B m c ⟨n + 1, h⟩ h0]
      frame_out
      rw [pay2_at]
      refine cum_at m c ⟨n + 1, h⟩ _ 255 l ((congrFun (Memref.IsWhole.read_unread _ _) (ix2 0 l)).trans ((ih _).trans ?_))
      show _ = ∑ s ∈ range (256 * ((n + 1) % 8)), lfn m c ((n + 1) / 8 * 2048 + s) l
      rw [show (n + 1) / 8 = n / 8 by omega, show (n + 1) % 8 = n % 8 + 1 by omega]
      rfl

/-- A point's block of running sums. -/
theorem cum (t : Fin cfg0.N) (r : Fin 256) (l : Fin 128) : (outsAt0 m c t.val t.isLt).2.1 (ix2 r l)
    = ∑ s ∈ range (256 * (t.val % 8) + (r.val + 1)), lfn m c (t.val / 8 * 2048 + s) l := by
  by_cases h0 : t.val % 8 = 0
  · rw [outsAt0_A m c t h0]
    frame_out
    refine cum_at m c t _ r l ((pay3_at l).trans ?_)
    rw [h0]
    rfl
  · rw [outsAt0_B m c t h0]
    frame_out
    refine cum_at m c t _ r l ((congrFun (Memref.IsWhole.read_unread _ _) (ix2 0 l)).trans ((carry m c l _ _).trans ?_))
    rw [show (t.val - 1) / 8 = t.val / 8 by omega, show 256 * ((t.val - 1) % 8) + (255 + 1) = 256 * (t.val % 8) by omega]

/-- A point's block of log-forgets. -/
theorem log (t : Fin cfg0.N) (r : Fin 256) (l : Fin 128) : (outsAt0 m c t.val t.isLt).1 (ix2 r l) = lfn m c (t.val * 256 + r.val) l := by
  by_cases h0 : t.val % 8 = 0
  · rw [outsAt0_A m c t h0]
    frame_out
    exact lf_at m c t r l
  · rw [outsAt0_B m c t h0]
    frame_out
    exact lf_at m c t r l

/-- The log-forgets. -/
def logs (x : S8192x128.Idx) : EReal := lfn m c (x 0).val (x 1)

/-- Their running sums within each group. -/
def cums (x : S8192x128.Idx) : EReal := ∑ s ∈ range ((x 0).val % 2048 + 1), lfn m c ((x 0).val / 2048 * 2048 + s) (x 1)

theorem final3 : (dats m 0 c).arrAt 3 (cfgs 0).N = logs m c := by
  refine (dats m 0 c).arrAt_eq_of_covers 3 _ (by decide +kernel) fun t _ y => ?_
  have ht : t.val < 32 := t.isLt
  blk_simp
  rw [after0_3]
  obtain ⟨r, l, rfl⟩ : ∃ r l, y = ix2 r l := ⟨y 0, y 1, by funext a; match a with | 0 => rfl | 1 => rfl⟩
  refine (log m c t r l).trans ?_
  unfold logs
  refine congrArg₂ (lfn m c) ?_ (Fin.ext ?_)
  · blk_simp [idx t]
  · blk_simp [idx t]

theorem final4 : (dats m 0 c).arrAt 4 (cfgs 0).N = cums m c := by
  refine (dats m 0 c).arrAt_eq_of_covers 4 _ (by decide +kernel) fun t _ y => ?_
  have ht : t.val < 32 := t.isLt
  blk_simp
  rw [after0_4]
  obtain ⟨r, l, rfl⟩ : ∃ r l, y = ix2 r l := ⟨y 0, y 1, by funext a; match a with | 0 => rfl | 1 => rfl⟩
  refine (cum m c t r l).trans ?_
  have hr := r.isLt
  generalize hx : (win0_4.blk t).view.emb (ix2 r l) = x
  have c0 : (x 0).val = t.val * 256 + r.val := by rw [← hx]; blk_simp [idx t]
  have c1 : (x 1) = l := Fin.ext (by rw [← hx]; blk_simp [idx t])
  unfold cums
  rw [c0, c1, show (t.val * 256 + r.val) % 2048 + 1 = 256 * (t.val % 8) + (r.val + 1) by omega, show (t.val * 256 + r.val) / 2048 = t.val / 8 by omega]

end Cert.Kernel17Ideal.Mm

namespace Cert.Reference17Ideal.Mm

open Idealize.ShloMosaic Idealize.ShloMosaic.TcCoe Idealize.SL.Sem Cert.Reference17Ideal Cert.Reference17Ideal.Gen Cert.Mm

/-- The two programs of the kernel have the same text, so the same bodies. -/
theorem defs_eq : Cert.Kernel17.defs (F := Bits) = Cert.Kernel17Ideal.defs (F := Bits) := by sl_kernel_rfl

/-- The kernel's frame, over words. -/
theorem frame_kernel : Cert.quiescent_Kernel17 (hKernel17 := Cert.Kernel17.Gen.facts) := fun m ρ _ => by
  have h := Cert.Kernel17Ideal.Gen.frame (F := Bits) m ρ
  rw [← defs_eq] at h
  exact h

/-- The kernel's frame, over the extended reals. -/
theorem frame_ideal : Cert.quiescent_Kernel17Ideal (hKernel17Ideal := Cert.Kernel17Ideal.Gen.facts) := fun m ρ _ => Cert.Kernel17Ideal.Gen.frame m ρ

/-- The reference ends with its arguments unchanged; it has no semaphore. -/
theorem frame_ref : Cert.quiescent_Reference17Ideal (hReference17Ideal := Cert.Reference17Ideal.Gen.facts) := fun m ρ _ =>
  (θ_run Cert.Reference17Ideal.defs _ _).mono (fun r h => ⟨fun c => (h c).2.2, sem_eq_zero_of_no_sems (by decide) r.2⟩)
    (Cert.Reference17Ideal.Value.run (F := Ideal) m ρ)

/-- The reference's logits. -/
abbrev logit (H : FVec Ideal S8192x2048 .bf16) (W : FVec Ideal S2x2048x24592 .f32) (B : FVec Ideal S1x128 .f32) : FVec Ideal S8192x128 .f32 :=
  addf (extractStridedSlice S8192x128 ![0, 18432] (Host.dotGeneral dot_S8192x2048_S2048x24592_S8192x24592_1_0_0_1_n_n none (extf .f32 H bitsLt_bf16_f32) (shapeCast _ (extractStridedSlice S1x2048x24592 ![0, 0, 0] W slices_S2x2048x24592_S1x2048x24592_0_0_0) shapeCasts_S1x2048x24592_S2048x24592)) slices_S8192x24592_S8192x128_0_18432) (broadcastInDim S8192x128 ![0, 1] bcast_S1x128_S8192x128_0_1 B)

/-- The reference's log-sigmoid. -/
abbrev lsg (z : FVec Ideal S8192x128 .f32) : FVec Ideal S8192x128 .f32 :=
  Host.negf (select (cmpf .une (subf (Host.negf z) (broadcastInDim S8192x128 ![] bcast_S_S8192x128 (constant S_ .f32 0x00000000#32))) (subf (Host.negf z) (broadcastInDim S8192x128 ![] bcast_S_S8192x128 (constant S_ .f32 0x00000000#32)))) (addf (Host.negf z) (broadcastInDim S8192x128 ![] bcast_S_S8192x128 (constant S_ .f32 0x00000000#32))) (addf (maximumf (Host.negf z) (broadcastInDim S8192x128 ![] bcast_S_S8192x128 (constant S_ .f32 0x00000000#32))) (Host.log1p (Host.exp (Host.negf (Host.absf (subf (Host.negf z) (broadcastInDim S8192x128 ![] bcast_S_S8192x128 (constant S_ .f32 0x00000000#32)))))))))

/-- The reference's running sums. -/
abbrev csm (x : FVec Ideal S8192x128 .f32) : FVec Ideal S8192x128 .f32 :=
  shapeCast _ (Host.reduceWindowAdd ![1, 2048, 1] ![1, 1, 1] ![0, 2047, 0] ![0, 0, 0] (shapeCast S4x2048x128 x shapeCasts_S8192x128_S4x2048x128) (broadcastInDim S_ ![] bcast_S_S_ (constant S_ .f32 0x00000000#32)) reduceWindows_S4x2048x128_S4x2048x128_w1s1p0_0_w2048s1p2047_0_w1s1p0_0 h_S_) shapeCasts_S4x2048x128_S8192x128

theorem lsg_at (z : FVec Ideal S8192x128 .f32) (R : Fin 8192) (l : Fin 128) : lsg z (ix2 R l) = logsig (z (ix2 R l)) := by
  refine Eq.trans ?_ (logsig_eq _)
  pointwise [lsg]
  rw [if_neg (not_not_intro rfl)]
  rfl

theorem logit_at (H : FVec Ideal S8192x2048 .bf16) (W : FVec Ideal S2x2048x24592 .f32) (B : FVec Ideal S1x128 .f32) (R : Fin 8192) (l : Fin 128) :
    logit H W B (ix2 R l) = (∑ k : Fin 2048, (show EReal from H (ix2 R k)) * (show EReal from W (ix3 0 k ⟨18432 + l.val, by omega⟩))) + (show EReal from B (ix2 0 l)) := by
  pointwise [logit]

theorem csm_at (x : FVec Ideal S8192x128 .f32) (R : Fin 8192) (l : Fin 128) (f : ℕ → EReal) (hf : ∀ n : Fin 8192, x (ix2 n l) = f n.val) :
    csm x (ix2 R l) = ∑ s ∈ Finset.range (R.val % 2048 + 1), f (R.val / 2048 * 2048 + s) := by
  have hR := R.isLt
  refine Eq.trans ?_ (cumsum (n := 2047) (shapeCast S4x2048x128 x shapeCasts_S8192x128_S4x2048x128) (broadcastInDim S_ ![] bcast_S_S_ (constant S_ .f32 0x00000000#32)) ?_
    reduceWindows_S4x2048x128_S4x2048x128_w1s1p0_0_w2048s1p2047_0_w1s1p0_0 h_S_ ⟨R.val / 2048, by omega⟩ ⟨R.val % 2048, by omega⟩ l
    (fun s => f (R.val / 2048 * 2048 + s)) fun k => ?_)
  · pointwise [csm]
  · pointwise []
  · pointwise []
    exact hf _

/-- From agreeing arguments both programs end with the same log-forgets and the same running sums. -/
theorem equal : Cert.algebraic_Kernel17Ideal_Reference17Ideal (hKernel17Ideal := Cert.Kernel17Ideal.Gen.facts)
    (hReference17Ideal := Cert.Reference17Ideal.Gen.facts) := by
  intro m g m' g' _ hagree
  have key : ∀ (c : Dev Cert.Kernel17Ideal.nD) (R : Fin 8192) (l : Fin 128),
      lsg (logit (Cert.Kernel17Ideal.Mm.Ha m c) (Cert.Kernel17Ideal.Mm.Wa m c) (Cert.Kernel17Ideal.Mm.Ba m c)) (ix2 R l) = Cert.Kernel17Ideal.Mm.lfn m c R.val l :=
    fun c R l => by
      rw [Cert.Kernel17Ideal.Mm.lfn_of m c R _ rfl, lsg_at, logit_at]
      rfl
  refine ⟨fun c => Cert.Kernel17Ideal.Mm.logs m c, fun c => Cert.Kernel17Ideal.Mm.cums m c, ?_, ?_⟩
  · refine (θ_run Cert.Kernel17Ideal.defs _ _).mono (fun r h c => ⟨(h c).1.trans (Cert.Kernel17Ideal.Mm.final3 m c),
      (h c).2.1.trans (Cert.Kernel17Ideal.Mm.final4 m c), (h c).2.2⟩) (Cert.Kernel17Ideal.Value.run_blocks (F := Ideal) m g)
  · refine (θ_run Cert.Reference17Ideal.defs _ _).mono (fun r h c => ⟨(h c).1.trans ?_, (h c).2.1.trans ?_, (h c).2.2⟩)
      (Cert.Reference17Ideal.Value.run (F := Ideal) m' g')
    · rw [(hagree c).1, (hagree c).2.1, (hagree c).2.2]
      funext x
      obtain ⟨R, l, rfl⟩ : ∃ (R : Fin 8192) (l : Fin 128), x = ix2 R l := ⟨x 0, x 1, by funext a; match a with | 0 => rfl | 1 => rfl⟩
      exact key c R l
    · rw [(hagree c).1, (hagree c).2.1, (hagree c).2.2]
      funext x
      obtain ⟨R, l, rfl⟩ : ∃ (R : Fin 8192) (l : Fin 128), x = ix2 R l := ⟨x 0, x 1, by funext a; match a with | 0 => rfl | 1 => rfl⟩
      exact csm_at _ R l (fun n => Cert.Kernel17Ideal.Mm.lfn m c n l) fun n => key c n l

end Cert.Reference17Ideal.Mm
-- ==== Proof.Mm.K19.lean ====
/-
  The projection to the sample group's keys: one row block, two column blocks.
-/
module

public import proofs.«01_k».proof.Proof.Mm.Common
public import proofs.«01_k».proof.Proof.Gen.Kernel19Ideal.Value
public import proofs.«01_k».proof.Proof.Gen.Kernel19
public import proofs.«01_k».proof.Proof.Gen.Reference19Ideal.Run
public import proofs.«01_k».proof.Defs

@[expose] public section

set_option maxRecDepth 16384

noncomputable section

namespace Cert.Kernel19Ideal.Mm

open Idealize.ShloMosaic Idealize.ShloMosaic.TcCoe Idealize.SL.Sem Cert.Kernel19Ideal Cert.Kernel19Ideal.Gen Cert.Mm

/-- The blocks' places at point `t`: all rows, column block `t`. -/
theorem idx : ∀ t : Fin cfg0.N, win0_0.index t = ![0, 0] ∧ win0_1.index t = ![0, 14 + t.val, 0]
    ∧ win0_2.index t = ![0, t.val] := (by decide +kernel : ∀ t : Fin grid0.N, _)

variable (m : (ℓ : Loc nD τ sig) → Buf (Elt Ideal) ℓ) (c : Dev nD)

abbrev Ha : S64x2048.Idx → EReal := m ((c.tc : Thread nD τ).loc main_arg0)
abbrev Wa : S2x2048x24592.Idx → EReal := m ((c.tc : Thread nD τ).loc main_arg1)

/-- The column of the weights that column `J` of the result takes. -/
abbrev col (J : Fin 2048) : Fin 24592 := ⟨14336 + J.val, by omega⟩

/-- The product of the activations with the chosen columns. -/
def out (x : S64x2048.Idx) : EReal :=
  ∑ k : Fin 2048, Ha m c (ix2 (x 0) k) * Wa m c (ix3 0 k (col (x 1)))

/-- The block of activations at a point: all of them. -/
theorem lhs_at (t : Fin cfg0.N) (r : Fin 64) (k : Fin 2048) (R : Fin 64) (h : R.val = r.val) :
    iblk m c 0 t (ix2 r k) = Ha m c (ix2 R k) := by
  have ht : t.val < 2 := t.isLt
  blk_ext [iblk, V, idx t]

/-- The block of transposed weights at a point: the rows of its column block. -/
theorem rhs_at (t : Fin cfg0.N) (k : Fin 2048) (r : Fin 1024) (J : Fin 2048) (h : J.val = t.val * 1024 + r.val) :
    X0_1 m c t (ix3 0 r k) = Wa m c (ix3 0 k (col J)) := by
  have ht : t.val < 2 := t.isLt
  unfold X0_1 Pipeline.Window.fill
  rw [dif_pos (moved0_1 t _)]
  blk_simp [iblk, idx t]
  entry_read
  pointwise []
  blk_ext [idx t]

/-- A block of the product, at one element. -/
theorem dot_at (x : Vec Ideal S64x2048 .f32) (w : Vec Ideal S2048x1024 .bf16) (r : Fin 64) (j : Fin 1024) :
    k0_pay2 x w (ix2 r j) = ∑ k : Fin 2048, x (ix2 r k) * w (ix2 k j) := by
  pointwise [k0_pay2]

/-- A point's block is the product of the rows with its weights. -/
theorem block (t : Fin cfg0.N) (r : Fin 64) (j : Fin 1024) : outsAt0 m c t (ix2 r j)
    = ∑ k : Fin 2048, (show EReal from iblk m c 0 t (ix2 r k)) * (show EReal from X0_1 m c t (ix3 0 j k)) := by
  unfold outsAt0
  frame_out
  exact (dot_at _ _ r j).trans (Finset.sum_congr rfl fun k _ => congrArg₂ (fun a b : EReal => a * b) rfl (weightT_at _ k j))

/-- The array of the result ends as the product. -/
theorem final : (dats m 0 c).arrAt 2 (cfgs 0).N = out m c := by
  refine (dats m 0 c).arrAt_eq_of_covers 2 _ (by decide +kernel) fun t _ y => ?_
  blk_simp
  rw [after0_2]
  obtain ⟨r, j, rfl⟩ : ∃ r j, y = ix2 r j := ⟨y 0, y 1, by funext a; match a with | 0 => rfl | 1 => rfl⟩
  refine (block m c t r j).trans (Finset.sum_congr rfl fun k _ => congrArg₂ (fun a b : EReal => a * b)
    (lhs_at m c t r k _ ?_) (rhs_at m c t k j _ ?_))
  all_goals blk_simp [idx t]

end Cert.Kernel19Ideal.Mm

namespace Cert.Reference19Ideal.Mm

open Idealize.ShloMosaic Idealize.ShloMosaic.TcCoe Idealize.SL.Sem Cert.Reference19Ideal Cert.Reference19Ideal.Gen

/-- The two programs of the kernel have the same text, so the same bodies. -/
theorem defs_eq : Cert.Kernel19.defs (F := Bits) = Cert.Kernel19Ideal.defs (F := Bits) := by sl_kernel_rfl

/-- The kernel's frame, over words. -/
theorem frame_kernel : Cert.quiescent_Kernel19 (hKernel19 := Cert.Kernel19.Gen.facts) := fun m ρ _ => by
  have h := Cert.Kernel19Ideal.Gen.frame (F := Bits) m ρ
  rw [← defs_eq] at h
  exact h

/-- The kernel's frame, over the extended reals. -/
theorem frame_ideal : Cert.quiescent_Kernel19Ideal (hKernel19Ideal := Cert.Kernel19Ideal.Gen.facts) := fun m ρ _ => Cert.Kernel19Ideal.Gen.frame m ρ

/-- The reference ends with its arguments unchanged; it has no semaphore. -/
theorem frame_ref : Cert.quiescent_Reference19Ideal (hReference19Ideal := Cert.Reference19Ideal.Gen.facts) := fun m ρ _ =>
  (θ_run Cert.Reference19Ideal.defs _ _).mono (fun r h => ⟨fun c => (h c).2, sem_eq_zero_of_no_sems (by decide) r.2⟩)
    (Cert.Reference19Ideal.Value.run (F := Ideal) m ρ)

/-- From agreeing arguments both programs end with the same product. -/
theorem equal : Cert.algebraic_Kernel19Ideal_Reference19Ideal (hKernel19Ideal := Cert.Kernel19Ideal.Gen.facts)
    (hReference19Ideal := Cert.Reference19Ideal.Gen.facts) := by
  intro m g m' g' _ hagree
  refine ⟨fun c => Cert.Kernel19Ideal.Mm.out m c, ?_, ?_⟩
  · refine (θ_run Cert.Kernel19Ideal.defs _ _).mono (fun r h c => ⟨(h c).1.trans (Cert.Kernel19Ideal.Mm.final m c), (h c).2⟩)
      (Cert.Kernel19Ideal.Value.run_blocks (F := Ideal) m g)
  · refine (θ_run Cert.Reference19Ideal.defs _ _).mono (fun r h c => ⟨(h c).1.trans ?_, (h c).2⟩)
      (Cert.Reference19Ideal.Value.run (F := Ideal) m' g')
    rw [(hagree c).1, (hagree c).2]
    funext x
    unfold Cert.Kernel19Ideal.Mm.out
    pointwise []

end Cert.Reference19Ideal.Mm
-- ==== Proof.Mm.K20.lean ====
/-
  The projection to the sample group's values: one row block, two column blocks.
-/
module

public import proofs.«01_k».proof.Proof.Mm.Common
public import proofs.«01_k».proof.Proof.Gen.Kernel20Ideal.Value
public import proofs.«01_k».proof.Proof.Gen.Kernel20
public import proofs.«01_k».proof.Proof.Gen.Reference20Ideal.Run
public import proofs.«01_k».proof.Defs

@[expose] public section

set_option maxRecDepth 16384

noncomputable section

namespace Cert.Kernel20Ideal.Mm

open Idealize.ShloMosaic Idealize.ShloMosaic.TcCoe Idealize.SL.Sem Cert.Kernel20Ideal Cert.Kernel20Ideal.Gen Cert.Mm

/-- The blocks' places at point `t`: all rows, column block `t`. -/
theorem idx : ∀ t : Fin cfg0.N, win0_0.index t = ![0, 0] ∧ win0_1.index t = ![0, 16 + t.val, 0]
    ∧ win0_2.index t = ![0, t.val] := (by decide +kernel : ∀ t : Fin grid0.N, _)

variable (m : (ℓ : Loc nD τ sig) → Buf (Elt Ideal) ℓ) (c : Dev nD)

abbrev Ha : S64x2048.Idx → EReal := m ((c.tc : Thread nD τ).loc main_arg0)
abbrev Wa : S2x2048x24592.Idx → EReal := m ((c.tc : Thread nD τ).loc main_arg1)

/-- The column of the weights that column `J` of the result takes. -/
abbrev col (J : Fin 2048) : Fin 24592 := ⟨16384 + J.val, by omega⟩

/-- The product of the activations with the chosen columns. -/
def out (x : S64x2048.Idx) : EReal :=
  ∑ k : Fin 2048, Ha m c (ix2 (x 0) k) * Wa m c (ix3 0 k (col (x 1)))

/-- The block of activations at a point: all of them. -/
theorem lhs_at (t : Fin cfg0.N) (r : Fin 64) (k : Fin 2048) (R : Fin 64) (h : R.val = r.val) :
    iblk m c 0 t (ix2 r k) = Ha m c (ix2 R k) := by
  have ht : t.val < 2 := t.isLt
  blk_ext [iblk, V, idx t]

/-- The block of transposed weights at a point: the rows of its column block. -/
theorem rhs_at (t : Fin cfg0.N) (k : Fin 2048) (r : Fin 1024) (J : Fin 2048) (h : J.val = t.val * 1024 + r.val) :
    X0_1 m c t (ix3 0 r k) = Wa m c (ix3 0 k (col J)) := by
  have ht : t.val < 2 := t.isLt
  unfold X0_1 Pipeline.Window.fill
  rw [dif_pos (moved0_1 t _)]
  blk_simp [iblk, idx t]
  entry_read
  pointwise []
  blk_ext [idx t]

/-- A block of the product, at one element. -/
theorem dot_at (x : Vec Ideal S64x2048 .f32) (w : Vec Ideal S2048x1024 .bf16) (r : Fin 64) (j : Fin 1024) :
    k0_pay2 x w (ix2 r j) = ∑ k : Fin 2048, x (ix2 r k) * w (ix2 k j) := by
  pointwise [k0_pay2]

/-- A point's block is the product of the rows with its weights. -/
theorem block (t : Fin cfg0.N) (r : Fin 64) (j : Fin 1024) : outsAt0 m c t (ix2 r j)
    = ∑ k : Fin 2048, (show EReal from iblk m c 0 t (ix2 r k)) * (show EReal from X0_1 m c t (ix3 0 j k)) := by
  unfold outsAt0
  frame_out
  exact (dot_at _ _ r j).trans (Finset.sum_congr rfl fun k _ => congrArg₂ (fun a b : EReal => a * b) rfl (weightT_at _ k j))

/-- The array of the result ends as the product. -/
theorem final : (dats m 0 c).arrAt 2 (cfgs 0).N = out m c := by
  refine (dats m 0 c).arrAt_eq_of_covers 2 _ (by decide +kernel) fun t _ y => ?_
  blk_simp
  rw [after0_2]
  obtain ⟨r, j, rfl⟩ : ∃ r j, y = ix2 r j := ⟨y 0, y 1, by funext a; match a with | 0 => rfl | 1 => rfl⟩
  refine (block m c t r j).trans (Finset.sum_congr rfl fun k _ => congrArg₂ (fun a b : EReal => a * b)
    (lhs_at m c t r k _ ?_) (rhs_at m c t k j _ ?_))
  all_goals blk_simp [idx t]

end Cert.Kernel20Ideal.Mm

namespace Cert.Reference20Ideal.Mm

open Idealize.ShloMosaic Idealize.ShloMosaic.TcCoe Idealize.SL.Sem Cert.Reference20Ideal Cert.Reference20Ideal.Gen

/-- The two programs of the kernel have the same text, so the same bodies. -/
theorem defs_eq : Cert.Kernel20.defs (F := Bits) = Cert.Kernel20Ideal.defs (F := Bits) := by sl_kernel_rfl

/-- The kernel's frame, over words. -/
theorem frame_kernel : Cert.quiescent_Kernel20 (hKernel20 := Cert.Kernel20.Gen.facts) := fun m ρ _ => by
  have h := Cert.Kernel20Ideal.Gen.frame (F := Bits) m ρ
  rw [← defs_eq] at h
  exact h

/-- The kernel's frame, over the extended reals. -/
theorem frame_ideal : Cert.quiescent_Kernel20Ideal (hKernel20Ideal := Cert.Kernel20Ideal.Gen.facts) := fun m ρ _ => Cert.Kernel20Ideal.Gen.frame m ρ

/-- The reference ends with its arguments unchanged; it has no semaphore. -/
theorem frame_ref : Cert.quiescent_Reference20Ideal (hReference20Ideal := Cert.Reference20Ideal.Gen.facts) := fun m ρ _ =>
  (θ_run Cert.Reference20Ideal.defs _ _).mono (fun r h => ⟨fun c => (h c).2, sem_eq_zero_of_no_sems (by decide) r.2⟩)
    (Cert.Reference20Ideal.Value.run (F := Ideal) m ρ)

/-- From agreeing arguments both programs end with the same product. -/
theorem equal : Cert.algebraic_Kernel20Ideal_Reference20Ideal (hKernel20Ideal := Cert.Kernel20Ideal.Gen.facts)
    (hReference20Ideal := Cert.Reference20Ideal.Gen.facts) := by
  intro m g m' g' _ hagree
  refine ⟨fun c => Cert.Kernel20Ideal.Mm.out m c, ?_, ?_⟩
  · refine (θ_run Cert.Kernel20Ideal.defs _ _).mono (fun r h c => ⟨(h c).1.trans (Cert.Kernel20Ideal.Mm.final m c), (h c).2⟩)
      (Cert.Kernel20Ideal.Value.run_blocks (F := Ideal) m g)
  · refine (θ_run Cert.Reference20Ideal.defs _ _).mono (fun r h c => ⟨(h c).1.trans ?_, (h c).2⟩)
      (Cert.Reference20Ideal.Value.run (F := Ideal) m' g')
    rw [(hagree c).1, (hagree c).2]
    funext x
    unfold Cert.Kernel20Ideal.Mm.out
    pointwise []

end Cert.Reference20Ideal.Mm
-- ==== Proof.Mm.K21.lean ====
/-
  The last norm of the sample group: one block of all rows.
-/
module

public import proofs.«01_k».proof.Proof.Mm.Norm
public import proofs.«01_k».proof.Proof.Gen.Kernel21Ideal.Value
public import proofs.«01_k».proof.Proof.Gen.Kernel21
public import proofs.«01_k».proof.Proof.Gen.Reference21Ideal.Run
public import proofs.«01_k».proof.Defs

@[expose] public section

set_option maxRecDepth 16384

noncomputable section

namespace Cert.Kernel21Ideal.Mm

open Idealize.ShloMosaic Idealize.ShloMosaic.TcCoe Idealize.SL.Sem Cert.Kernel21Ideal Cert.Kernel21Ideal.Gen Cert.Mm

/-- The blocks' places at point `t`: row block `t`, all columns. -/
theorem idx : ∀ t : Fin cfg0.N, win0_0.index t = ![t.val, 0] ∧ win0_1.index t = ![0, 0]
    ∧ win0_2.index t = ![t.val, 0] := (by decide +kernel : ∀ t : Fin grid0.N, _)

variable (m : (ℓ : Loc nD τ sig) → Buf (Elt Ideal) ℓ) (c : Dev nD)

abbrev Xa : S64x2048.Idx → EReal := m ((c.tc : Thread nD τ).loc main_arg0)
abbrev Ga : S2048.Idx → EReal := m ((c.tc : Thread nD τ).loc main_arg1)

/-- The normed rows. -/
def out (x : S64x2048.Idx) : EReal := normed (fun k => Xa m c (ix2 (x 0) k)) (Ga m c (ix1 (x 1))) (x 1)

/-- A block's payload at one element. -/
theorem pay_at (x : Vec Ideal S64x2048 .f32) (g : Vec Ideal S1x2048 .f32) (r : Fin 64) (j : Fin 2048) :
    k0_pay1 x g (ix2 r j) = normed (fun k => x (ix2 r k)) (g (ix2 0 j)) j := by
  unfold normed
  pointwise [k0_pay1]

/-- The block of rows at a point: its row block. -/
theorem row_at (t : Fin cfg0.N) (r : Fin 64) (k : Fin 2048) (R : Fin 64) (h : R.val = t.val * 64 + r.val) :
    iblk m c 0 t (ix2 r k) = Xa m c (ix2 R k) := by
  have ht : t.val < 1 := t.isLt
  blk_ext [iblk, V, idx t]

/-- The weights at a point: all of them. -/
theorem weight_at (t : Fin cfg0.N) (j : Fin 2048) (J : Fin 2048) (h : J.val = j.val) :
    iblk m c 1 t (ix2 0 j) = Ga m c (ix1 J) := by
  have ht : t.val < 1 := t.isLt
  blk_simp [iblk, idx t]
  entry_read
  pointwise []
  blk_ext [idx t]

/-- A point's block is its rows normed. -/
theorem block (t : Fin cfg0.N) (r : Fin 64) (j : Fin 2048) : out0_2 (iblk m c 0 t) (iblk m c 1 t) (ix2 r j)
    = normed (fun k => iblk m c 0 t (ix2 r k)) (iblk m c 1 t (ix2 0 j)) j := by
  unfold out0_2
  frame_out
  exact pay_at _ _ r j

/-- The array of the result ends as the normed rows. -/
theorem final : (dats m 0 c).arrAt 2 (cfgs 0).N = out m c := by
  refine (dats m 0 c).arrAt_eq_of_covers 2 _ (by decide +kernel) fun t _ y => ?_
  blk_simp
  rw [after0_2]
  obtain ⟨r, j, rfl⟩ : ∃ r j, y = ix2 r j := ⟨y 0, y 1, by funext a; match a with | 0 => rfl | 1 => rfl⟩
  refine (block m c t r j).trans (normed_congr (funext fun k => row_at m c t r k _ ?_) (weight_at m c t j _ ?_) (Fin.ext ?_))
  all_goals blk_simp [idx t]

end Cert.Kernel21Ideal.Mm

namespace Cert.Reference21Ideal.Mm

open Idealize.ShloMosaic Idealize.ShloMosaic.TcCoe Idealize.SL.Sem Cert.Reference21Ideal Cert.Reference21Ideal.Gen

/-- The two programs of the kernel have the same text, so the same bodies. -/
theorem defs_eq : Cert.Kernel21.defs (F := Bits) = Cert.Kernel21Ideal.defs (F := Bits) := by sl_kernel_rfl

/-- The kernel's frame, over words. -/
theorem frame_kernel : Cert.quiescent_Kernel21 (hKernel21 := Cert.Kernel21.Gen.facts) := fun m ρ _ => by
  have h := Cert.Kernel21Ideal.Gen.frame (F := Bits) m ρ
  rw [← defs_eq] at h
  exact h

/-- The kernel's frame, over the extended reals. -/
theorem frame_ideal : Cert.quiescent_Kernel21Ideal (hKernel21Ideal := Cert.Kernel21Ideal.Gen.facts) := fun m ρ _ => Cert.Kernel21Ideal.Gen.frame m ρ

/-- The reference ends with its arguments unchanged; it has no semaphore. -/
theorem frame_ref : Cert.quiescent_Reference21Ideal (hReference21Ideal := Cert.Reference21Ideal.Gen.facts) := fun m ρ _ =>
  (θ_run Cert.Reference21Ideal.defs _ _).mono (fun r h => ⟨fun c => (h c).2, sem_eq_zero_of_no_sems (by decide) r.2⟩)
    (Cert.Reference21Ideal.Value.run (F := Ideal) m ρ)

/-- From agreeing arguments both programs end with the same normed rows. -/
theorem equal : Cert.algebraic_Kernel21Ideal_Reference21Ideal (hKernel21Ideal := Cert.Kernel21Ideal.Gen.facts)
    (hReference21Ideal := Cert.Reference21Ideal.Gen.facts) := by
  intro m g m' g' _ hagree
  refine ⟨fun c => Cert.Kernel21Ideal.Mm.out m c, ?_, ?_⟩
  · refine (θ_run Cert.Kernel21Ideal.defs _ _).mono (fun r h c => ⟨(h c).1.trans (Cert.Kernel21Ideal.Mm.final m c), (h c).2⟩)
      (Cert.Kernel21Ideal.Value.run_blocks (F := Ideal) m g)
  · refine (θ_run Cert.Reference21Ideal.defs _ _).mono (fun r h c => ⟨(h c).1.trans ?_, (h c).2⟩)
      (Cert.Reference21Ideal.Value.run (F := Ideal) m' g')
    rw [(hagree c).1, (hagree c).2]
    funext x
    unfold Cert.Kernel21Ideal.Mm.out Cert.Mm.normed
    pointwise []

end Cert.Reference21Ideal.Mm
-- ==== Proof.Mm.K22.lean ====
/-
  The log-forgets of the attention for the sample group: eight rows a sequence, padded with zero rows to 128 before the
  running sum, and no row carried from one sequence to the next.
-/
module

public import proofs.«01_k».proof.Proof.Mm.Common
public import proofs.«01_k».proof.Proof.Mm.Logf
public import proofs.«01_k».proof.Proof.Gen.Kernel22Ideal.Value
public import proofs.«01_k».proof.Proof.Gen.Kernel22
public import proofs.«01_k».proof.Proof.Gen.Reference22Ideal.Run
public import proofs.«01_k».proof.Defs

@[expose] public section

set_option maxRecDepth 16384

noncomputable section

namespace Cert.Kernel22Ideal.Mm

open Idealize.ShloMosaic Idealize.ShloMosaic.TcCoe Idealize.SL.Sem Cert.Kernel22Ideal Cert.Kernel22Ideal.Gen Cert.Mm Finset

variable (m : (ℓ : Loc nD τ sig) → Buf (Elt Ideal) ℓ) (c : Dev nD)

/-- The blocks' places at point `t`, of sequence `t`. -/
theorem idx : ∀ t : Fin cfg0.N, win0_0.index t = ![t.val, 0] ∧ win0_1.index t = ![0, 144, 0]
    ∧ win0_2.index t = ![0, 0] ∧ win0_3.index t = ![t.val, 0] ∧ win0_4.index t = ![t.val, 0] := (by decide +kernel : ∀ t : Fin grid0.N, _)

/-- The log-sigmoid block, at one element. -/
theorem sig_at (h : Vec Ideal S8x2048 .f32) (w : Vec Ideal S1x128x2048 .f32) (b : Vec Ideal S1x128 .f32) (r : Fin 8) (l : Fin 128) :
    k0_pay5 h w b (ix2 r l) = logsig ((∑ k : Fin 2048, (show EReal from h (ix2 r k)) * (show EReal from w (ix3 0 l k))) + (show EReal from b (ix2 0 l))) := by
  unfold logsig
  pointwise [k0_pay5]
  rfl

/-- The same with zero rows below it. -/
theorem padded_at (h : Vec Ideal S8x2048 .f32) (w : Vec Ideal S1x128x2048 .f32) (b : Vec Ideal S1x128 .f32) (k l : Fin 128) :
    k0_pay6 h w b (ix2 k l) = if hk : k.val < 8 then k0_pay5 h w b (ix2 ⟨k.val, hk⟩ l) else (0 : EReal) := by
  pointwise [k0_pay6]

/-- The triangle of ones, at one element. -/
theorem tri_at (r k : Fin 128) : k0_pay7 (F := Ideal) (ix2 r k) = if k.val ≤ r.val then (1 : EReal) else 0 := by
  pointwise [k0_pay7]
  have e : IntOp.cmpi CmpIPredicate.sle (BitVec.ofNat 32 k.val) (BitVec.ofNat 32 r.val) = if k.val ≤ r.val then 1#1 else 0#1 := by
    revert r k
    decide +kernel
  rw [e]
  split <;> rfl

theorem zero_at (l : Fin 128) : k0_pay4 (F := Ideal) (ix2 0 l) = (0 : EReal) := by
  pointwise [k0_pay4]

/-- A block of running sums from a zero carried row: of a function that gives the padded block's rows, up to each row. -/
theorem sum_at (h : Vec Ideal S8x2048 .f32) (w : Vec Ideal S1x128x2048 .f32) (b z : Vec Ideal S1x128 .f32) (r : Fin 8) (l : Fin 128)
    (hz : z (ix2 0 l) = (0 : EReal)) (f : ℕ → EReal) (hf : ∀ k : Fin 128, k0_pay6 h w b (ix2 k l) = f k.val) :
    k0_pay2 k0_pay7 (k0_pay8 h w b) (k0_pay10 h w b) (k0_pay11 h w b) z (ix2 r l) = ∑ k ∈ range (r.val + 1), f k := by
  have hr := r.isLt
  have hne : ∀ k : Fin 128, f k.val ≠ ⊤ := fun k => by
    rw [← hf, padded_at]
    split
    · rw [sig_at]
      exact ((logsig_le _).trans_lt EReal.zero_lt_top).ne
    · exact EReal.zero_ne_top
  pointwise [k0_pay2, k0_pay1, k0_pay8, k0_pay9, k0_pay10, k0_pay11]
  refine (congrArg₂ (fun a b : EReal => a + b) ?_ hz).trans (add_zero _)
  rw [← Finset.sum_add_distrib, ← Finset.sum_add_distrib, ← sum_upto (n := 128) f r.val (by omega)]
  refine Finset.sum_congr rfl fun k _ => ?_
  rw [tri_at, hf]
  exact split _ (hne k) _

abbrev Ha : S64x2048.Idx → EReal := m ((c.tc : Thread nD τ).loc main_arg0)
abbrev Wa : S2x2048x24592.Idx → EReal := m ((c.tc : Thread nD τ).loc main_arg1)
abbrev Ba : S1x128.Idx → EReal := m ((c.tc : Thread nD τ).loc main_arg2)

/-- The log-forget at a row and a lane, zero past the last row. -/
def lf (n : ℕ) (l : Fin 128) : EReal :=
  if h : n < 64 then logsig ((∑ k : Fin 2048, Ha m c (ix2 ⟨n, h⟩ k) * Wa m c (ix3 0 k ⟨18432 + l.val, by omega⟩)) + Ba m c (ix2 0 l)) else 0

theorem rhs_at (t : Fin cfg0.N) (l : Fin 128) (k : Fin 2048) (J : Fin 24592) (h : J.val = 18432 + l.val) :
    X0_1 m c t (ix3 0 l k) = Wa m c (ix3 0 k J) := by
  have ht : t.val < 8 := t.isLt
  unfold X0_1 Pipeline.Window.fill
  rw [dif_pos (moved0_1 t _)]
  blk_simp [iblk, idx t]
  entry_read
  pointwise []
  blk_ext [idx t]

/-- A point's log-sigmoid block. -/
theorem lf_at (t : Fin cfg0.N) (r : Fin 8) (l : Fin 128) :
    k0_pay5 (iblk m c 0 t) (X0_1 m c t) (iblk m c 2 t) (ix2 r l) = lf m c (t.val * 8 + r.val) l := by
  have ht : t.val < 8 := t.isLt
  have hr := r.isLt
  rw [sig_at]
  unfold lf
  rw [dif_pos (show t.val * 8 + r.val < 64 by omega)]
  refine congrArg logsig (congrArg₂ (fun a b : EReal => a + b) (Finset.sum_congr rfl fun k _ => congrArg₂ (fun a b : EReal => a * b) ?_ ?_) ?_)
  · blk_ext [iblk, V, idx t]
  · exact rhs_at m c t l k _ rfl
  · blk_ext [iblk, V, idx t]

/-- A point's block of log-forgets. -/
theorem log (t : Fin cfg0.N) (r : Fin 8) (l : Fin 128) : (outsAt0 m c t).1 (ix2 r l) = lf m c (t.val * 8 + r.val) l := by
  unfold outsAt0
  frame_out
  exact lf_at m c t r l

/-- A point's block of running sums. -/
theorem cum (t : Fin cfg0.N) (r : Fin 8) (l : Fin 128) : (outsAt0 m c t).2 (ix2 r l)
    = ∑ s ∈ range (r.val + 1), lf m c (t.val * 8 + s) l := by
  have hr := r.isLt
  unfold outsAt0
  frame_out
  refine (sum_at _ _ _ _ r l (zero_at l) (fun k => if k < 8 then lf m c (t.val * 8 + k) l else 0) fun k => ?_).trans ?_
  · rw [padded_at]
    by_cases hk : k.val < 8
    · rw [dif_pos hk, if_pos hk]
      exact lf_at m c t ⟨k.val, hk⟩ l
    · rw [dif_neg hk, if_neg hk]
  · exact Finset.sum_congr rfl fun k hk => if_pos (by have := Finset.mem_range.1 hk; omega)

/-- The log-forgets. -/
def logs (x : S64x128.Idx) : EReal := lf m c (x 0).val (x 1)

/-- Their running sums within each sequence. -/
def cums (x : S64x128.Idx) : EReal := ∑ s ∈ range ((x 0).val % 8 + 1), lf m c ((x 0).val / 8 * 8 + s) (x 1)

theorem final3 : (dats m 0 c).arrAt 3 (cfgs 0).N = logs m c := by
  refine (dats m 0 c).arrAt_eq_of_covers 3 _ (by decide +kernel) fun t _ y => ?_
  have ht : t.val < 8 := t.isLt
  blk_simp
  rw [after0_3]
  obtain ⟨r, l, rfl⟩ : ∃ r l, y = ix2 r l := ⟨y 0, y 1, by funext a; match a with | 0 => rfl | 1 => rfl⟩
  refine (log m c t r l).trans ?_
  unfold logs
  refine congrArg₂ (lf m c) ?_ (Fin.ext ?_)
  · blk_simp [idx t]
  · blk_simp [idx t]

theorem final4 : (dats m 0 c).arrAt 4 (cfgs 0).N = cums m c := by
  refine (dats m 0 c).arrAt_eq_of_covers 4 _ (by decide +kernel) fun t _ y => ?_
  have ht : t.val < 8 := t.isLt
  blk_simp
  rw [after0_4]
  obtain ⟨r, l, rfl⟩ : ∃ r l, y = ix2 r l := ⟨y 0, y 1, by funext a; match a with | 0 => rfl | 1 => rfl⟩
  refine (cum m c t r l).trans ?_
  have hr := r.isLt
  generalize hx : (win0_4.blk t).view.emb (ix2 r l) = x
  have c0 : (x 0).val = t.val * 8 + r.val := by rw [← hx]; blk_simp [idx t]
  have c1 : (x 1) = l := Fin.ext (by rw [← hx]; blk_simp [idx t])
  unfold cums
  rw [c0, c1, show (t.val * 8 + r.val) % 8 = r.val by omega, show (t.val * 8 + r.val) / 8 = t.val by omega]

end Cert.Kernel22Ideal.Mm

namespace Cert.Reference22Ideal.Mm

open Idealize.ShloMosaic Idealize.ShloMosaic.TcCoe Idealize.SL.Sem Cert.Reference22Ideal Cert.Reference22Ideal.Gen Cert.Mm

/-- The two programs of the kernel have the same text, so the same bodies. -/
theorem defs_eq : Cert.Kernel22.defs (F := Bits) = Cert.Kernel22Ideal.defs (F := Bits) := by sl_kernel_rfl

/-- The kernel's frame, over words. -/
theorem frame_kernel : Cert.quiescent_Kernel22 (hKernel22 := Cert.Kernel22.Gen.facts) := fun m ρ _ => by
  have h := Cert.Kernel22Ideal.Gen.frame (F := Bits) m ρ
  rw [← defs_eq] at h
  exact h

/-- The kernel's frame, over the extended reals. -/
theorem frame_ideal : Cert.quiescent_Kernel22Ideal (hKernel22Ideal := Cert.Kernel22Ideal.Gen.facts) := fun m ρ _ => Cert.Kernel22Ideal.Gen.frame m ρ

/-- The reference ends with its arguments unchanged; it has no semaphore. -/
theorem frame_ref : Cert.quiescent_Reference22Ideal (hReference22Ideal := Cert.Reference22Ideal.Gen.facts) := fun m ρ _ =>
  (θ_run Cert.Reference22Ideal.defs _ _).mono (fun r h => ⟨fun c => (h c).2.2, sem_eq_zero_of_no_sems (by decide) r.2⟩)
    (Cert.Reference22Ideal.Value.run (F := Ideal) m ρ)

/-- The reference's logits. -/
abbrev logit (H : FVec Ideal S64x2048 .f32) (W : FVec Ideal S2x2048x24592 .f32) (B : FVec Ideal S1x128 .f32) : FVec Ideal S64x128 .f32 :=
  addf (extractStridedSlice S64x128 ![0, 18432] (Host.dotGeneral dot_S64x2048_S2048x24592_S64x24592_1_0_0_1_n_n none H (shapeCast _ (extractStridedSlice S1x2048x24592 ![0, 0, 0] W slices_S2x2048x24592_S1x2048x24592_0_0_0) shapeCasts_S1x2048x24592_S2048x24592)) slices_S64x24592_S64x128_0_18432) (broadcastInDim S64x128 ![0, 1] bcast_S1x128_S64x128_0_1 B)

/-- The reference's log-sigmoid. -/
abbrev lsg (z : FVec Ideal S64x128 .f32) : FVec Ideal S64x128 .f32 :=
  Host.negf (select (cmpf .une (subf (Host.negf z) (broadcastInDim S64x128 ![] bcast_S_S64x128 (constant S_ .f32 0x00000000#32))) (subf (Host.negf z) (broadcastInDim S64x128 ![] bcast_S_S64x128 (constant S_ .f32 0x00000000#32)))) (addf (Host.negf z) (broadcastInDim S64x128 ![] bcast_S_S64x128 (constant S_ .f32 0x00000000#32))) (addf (maximumf (Host.negf z) (broadcastInDim S64x128 ![] bcast_S_S64x128 (constant S_ .f32 0x00000000#32))) (Host.log1p (Host.exp (Host.negf (Host.absf (subf (Host.negf z) (broadcastInDim S64x128 ![] bcast_S_S64x128 (constant S_ .f32 0x00000000#32)))))))))

/-- The reference's running sums. -/
abbrev csm (x : FVec Ideal S64x128 .f32) : FVec Ideal S64x128 .f32 :=
  shapeCast _ (Host.reduceWindowAdd ![1, 8, 1] ![1, 1, 1] ![0, 7, 0] ![0, 0, 0] (shapeCast S8x8x128 x shapeCasts_S64x128_S8x8x128) (broadcastInDim S_ ![] bcast_S_S_ (constant S_ .f32 0x00000000#32)) reduceWindows_S8x8x128_S8x8x128_w1s1p0_0_w8s1p7_0_w1s1p0_0 h_S_) shapeCasts_S8x8x128_S64x128

theorem lsg_at (z : FVec Ideal S64x128 .f32) (R : Fin 64) (l : Fin 128) : lsg z (ix2 R l) = logsig (z (ix2 R l)) := by
  refine Eq.trans ?_ (logsig_eq _)
  pointwise [lsg]
  rw [if_neg (not_not_intro rfl)]
  rfl

theorem logit_at (H : FVec Ideal S64x2048 .f32) (W : FVec Ideal S2x2048x24592 .f32) (B : FVec Ideal S1x128 .f32) (R : Fin 64) (l : Fin 128) :
    logit H W B (ix2 R l) = (∑ k : Fin 2048, (show EReal from H (ix2 R k)) * (show EReal from W (ix3 0 k ⟨18432 + l.val, by omega⟩))) + (show EReal from B (ix2 0 l)) := by
  pointwise [logit]

theorem csm_at (x : FVec Ideal S64x128 .f32) (R : Fin 64) (l : Fin 128) (f : ℕ → EReal) (hf : ∀ n : Fin 64, x (ix2 n l) = f n.val) :
    csm x (ix2 R l) = ∑ s ∈ Finset.range (R.val % 8 + 1), f (R.val / 8 * 8 + s) := by
  have hR := R.isLt
  refine Eq.trans ?_ (cumsum (n := 7) (shapeCast S8x8x128 x shapeCasts_S64x128_S8x8x128) (broadcastInDim S_ ![] bcast_S_S_ (constant S_ .f32 0x00000000#32)) ?_
    reduceWindows_S8x8x128_S8x8x128_w1s1p0_0_w8s1p7_0_w1s1p0_0 h_S_ ⟨R.val / 8, by omega⟩ ⟨R.val % 8, by omega⟩ l
    (fun s => f (R.val / 8 * 8 + s)) fun k => ?_)
  · pointwise [csm]
  · pointwise []
  · pointwise []
    exact hf _

/-- From agreeing arguments both programs end with the same log-forgets and the same running sums. -/
theorem equal : Cert.algebraic_Kernel22Ideal_Reference22Ideal (hKernel22Ideal := Cert.Kernel22Ideal.Gen.facts)
    (hReference22Ideal := Cert.Reference22Ideal.Gen.facts) := by
  intro m g m' g' _ hagree
  have key : ∀ (c : Dev Cert.Kernel22Ideal.nD) (R : Fin 64) (l : Fin 128),
      lsg (logit (Cert.Kernel22Ideal.Mm.Ha m c) (Cert.Kernel22Ideal.Mm.Wa m c) (Cert.Kernel22Ideal.Mm.Ba m c)) (ix2 R l) = Cert.Kernel22Ideal.Mm.lf m c R.val l :=
    fun c R l => by
      rw [lsg_at, logit_at]
      unfold Cert.Kernel22Ideal.Mm.lf
      rw [dif_pos R.isLt]
  refine ⟨fun c => Cert.Kernel22Ideal.Mm.logs m c, fun c => Cert.Kernel22Ideal.Mm.cums m c, ?_, ?_⟩
  · refine (θ_run Cert.Kernel22Ideal.defs _ _).mono (fun r h c => ⟨(h c).1.trans (Cert.Kernel22Ideal.Mm.final3 m c),
      (h c).2.1.trans (Cert.Kernel22Ideal.Mm.final4 m c), (h c).2.2⟩) (Cert.Kernel22Ideal.Value.run_blocks (F := Ideal) m g)
  · refine (θ_run Cert.Reference22Ideal.defs _ _).mono (fun r h c => ⟨(h c).1.trans ?_, (h c).2.1.trans ?_, (h c).2.2⟩)
      (Cert.Reference22Ideal.Value.run (F := Ideal) m' g')
    · rw [(hagree c).1, (hagree c).2.1, (hagree c).2.2]
      funext x
      obtain ⟨R, l, rfl⟩ : ∃ (R : Fin 64) (l : Fin 128), x = ix2 R l := ⟨x 0, x 1, by funext a; match a with | 0 => rfl | 1 => rfl⟩
      exact key c R l
    · rw [(hagree c).1, (hagree c).2.1, (hagree c).2.2]
      funext x
      obtain ⟨R, l, rfl⟩ : ∃ (R : Fin 64) (l : Fin 128), x = ix2 R l := ⟨x 0, x 1, by funext a; match a with | 0 => rfl | 1 => rfl⟩
      exact csm_at _ R l (fun n => Cert.Kernel22Ideal.Mm.lf m c n l) fun n => key c n l

end Cert.Reference22Ideal.Mm
-- ==== Proof.Mm.K23.lean ====
/-
  The gate of the feed-forward block, for the sample group: each block holds the eight rows of one sequence, so the scratch
  has sixteen rows and the result is not rounded.
-/
module

public import proofs.«01_k».proof.Proof.Mm.Common
public import proofs.«01_k».proof.Proof.Mm.Gated
public import proofs.«01_k».proof.Proof.Gen.Kernel23Ideal.Value
public import proofs.«01_k».proof.Proof.Gen.Kernel23
public import proofs.«01_k».proof.Proof.Gen.Reference23Ideal.Run
public import proofs.«01_k».proof.Defs

@[expose] public section

set_option maxRecDepth 16384

noncomputable section

namespace Cert.Kernel23Ideal.Mm

open Idealize.ShloMosaic Idealize.ShloMosaic.TcCoe Idealize.SL.Sem Cert.Kernel23Ideal Cert.Kernel23Ideal.Gen Cert.Mm

/-- The blocks' places at point `t`, of group `t / 11` and column block `t % 11`. -/
theorem idx : ∀ t : Fin cfg0.N, win0_0.index t = ![t.val / 11, t.val % 11] ∧ win0_1.index t = ![t.val / 11, 11 + t.val % 11]
    ∧ win0_2.index t = ![t.val / 11, 0, t.val % 11] ∧ win0_3.index t = ![0, t.val % 11] ∧ win0_4.index t = ![0, t.val % 11]
    ∧ win0_5.index t = ![t.val / 11, t.val % 11] ∧ win0_6.index t = ![t.val / 11, 0, t.val % 11] := (by decide +kernel : ∀ t : Fin grid0.N, _)

/-- The body's block, at one element. -/
theorem act_at (bias : Vec Ideal S1x512 .f32) (x0 : Vec Ideal S1x8x512 .f32) (w0 : Vec Ideal S1x512 .f32) (x1 : Vec Ideal S1x8x512 .f32)
    (w1 : Vec Ideal S1x512 .f32) (x2 : Vec Ideal S8x512 .f32) (w2 : Vec Ideal S1x512 .f32) (v : Vec Ideal S8x512 .f32) (r : Fin 8) (j : Fin 512) :
    k0_pay1 (k0_pay6 bias x0 w0) x1 w1 x2 w2 v (ix2 r j)
      = gated (x0 (ix3 0 r j)) (x1 (ix3 0 r j)) (x2 (ix2 r j)) (w0 (ix2 0 j)) (w1 (ix2 0 j)) (w2 (ix2 0 j)) (bias (ix2 0 j)) (v (ix2 r j)) := by
  unfold gated
  pointwise [k0_pay1, k0_pay6]

theorem pay4_at (g : Vec Ideal S8x512 .f32) (r : Fin 8) (j : Fin 512) : k0_pay4 g (ix2 r j) = g (ix2 r j) := by
  pointwise [k0_pay4]
theorem pay3_at (b : Vec Ideal S1x2x512 .f32) (r : Fin 2) (j : Fin 512) : k0_pay3 b (ix2 r j) = b (ix3 0 r j) := by
  pointwise [k0_pay3]
theorem pay5_at (g : Vec Ideal S8x512 .f32) (r : Fin 8) (j : Fin 512) : k0_pay5 g (ix3 0 r j) = g (ix2 r j) := by
  pointwise [k0_pay5]
theorem pay7_at (g : Vec Ideal S8x512 .f32) (r : Fin 8) (j : Fin 512) : k0_pay7 g (ix3 0 r j) = g (ix2 r j) := by
  pointwise [k0_pay7]
theorem pay2_at (g : Vec Ideal S2x512 .f32) (r : Fin 2) (j : Fin 512) : k0_pay2 g (ix3 0 r j) = g (ix2 r j) := by
  pointwise [k0_pay2]

variable (m : (ℓ : Loc nD τ sig) → Buf (Elt Ideal) ℓ) (c : Dev nD)

/-- The rows that a point's scratch holds from row 6 on: the two carried ones, then the gate's. -/
def prow (t : Fin cfg0.N) (n : Fin 10) (j : Fin 512) : EReal :=
  if h : n.val < 2 then iblk m c 2 t (ix3 0 ⟨n.val, h⟩ j) else iblk m c 0 t (ix2 ⟨n.val - 2, by omega⟩ j)

/-- A row of the scratch. -/
theorem row_at (t : Fin cfg0.N) (n : Fin 10) (j : Fin 512) (y : S16x512.Idx) (h0 : (y 0).val = 6 + n.val) (h1 : (y 1).val = j.val) :
    View.canon (stores inb_S16x512_S8x512_8_0 inb_S16x512_S2x512_6_0 (k0_pay4 (iblk m c 0 t)) (k0_pay3 (iblk m c 2 t))) y = prow m c t n j := by
  refine (stored _ _ _ _ n j y h0 h1).trans ?_
  unfold prow
  split
  · exact pay3_at _ _ _
  · exact pay4_at _ _ _

/-- A point's block of the activation. -/
theorem t5 (t : Fin cfg0.N) (r : Fin 8) (j : Fin 512) : (outsAt0 m c t).1 (ix2 r j)
    = gated (prow m c t ⟨r.val, by omega⟩ j) (prow m c t ⟨r.val + 1, by omega⟩ j) (prow m c t ⟨r.val + 2, by omega⟩ j)
      (iblk m c 3 t (ix2 0 j)) (iblk m c 3 t (ix2 1 j)) (iblk m c 3 t (ix2 2 j)) (iblk m c 4 t (ix2 0 j)) (iblk m c 1 t (ix2 r j)) := by
  unfold outsAt0
  frame_out
  rw [View.readCov_cons_toLoadRect, View.readCov_cons_toLoadRect]
  refine (act_at _ _ _ _ _ _ _ _ r j).trans ?_
  rw [pay5_at, pay7_at, View.readCov_eq_canon', View.readCov_eq_canon', View.readCov_eq_canon']
  have ha : ∀ i : ℕ, ∀ hi : i < 3, ∀ inb, View.ld (iblk m c 3 t) (Rect.unit (s := S3x512) ![i, 0] ![1, 512] inb) (ix2 0 j) = iblk m c 3 t (ix2 ⟨i, hi⟩ j) :=
    fun i hi inb => congrArg (iblk m c 3 t) (by
      funext a
      match a with
      | 0 => exact Fin.ext (by show i + 1 * 0 = i; omega)
      | 1 => exact Fin.ext (by show 0 + 1 * j.val = j.val; omega))
  have hs : ∀ (o : ℕ) (ho : r.val + o < 10) inb, View.canon (stores inb_S16x512_S8x512_8_0 inb_S16x512_S2x512_6_0 (k0_pay4 (iblk m c 0 t)) (k0_pay3 (iblk m c 2 t)))
      ((Rect.unit (s := S16x512) ![6 + o, 0] ![8, 512] inb).idx (ix2 r j)) = prow m c t ⟨r.val + o, ho⟩ j := fun o ho inb =>
    row_at m c t _ _ _ (by show 6 + o + 1 * r.val = 6 + (r.val + o); omega) (by show 0 + 1 * j.val = j.val; omega)
  have e0 := hs 0 (by omega) inb_S16x512_S8x512_6_0
  have e1 := hs 1 (by omega) inb_S16x512_S8x512_7_0
  have e2 := hs 2 (by omega) inb_S16x512_S8x512_8_0
  have w0 := ha 0 (by omega) inb_S3x512_S1x512_0_0
  have w1 := ha 1 (by omega) inb_S3x512_S1x512_1_0
  have w2 := ha 2 (by omega) inb_S3x512_S1x512_2_0
  exact gated_congr e0 e1 e2 w0 w1 w2 rfl rfl
/-- A point's block of the new state. -/
theorem t6 (t : Fin cfg0.N) (r : Fin 2) (j : Fin 512) : (outsAt0 m c t).2 (ix3 0 r j) = prow m c t ⟨8 + r.val, by omega⟩ j := by
  unfold outsAt0
  frame_out
  rw [pay2_at, View.readCov_eq_canon']
  refine row_at m c t _ _ _ ?_ ?_
  · show 14 + 1 * r.val = 6 + (8 + r.val); omega
  · show 0 + 1 * j.val = j.val; omega

abbrev Ua : S64x11264.Idx → EReal := m ((c.tc : Thread nD τ).loc main_arg0)
abbrev Sa : S8x2x5632.Idx → EReal := m ((c.tc : Thread nD τ).loc main_arg1)
abbrev Ca : S3x5632.Idx → EReal := m ((c.tc : Thread nD τ).loc main_arg2)
abbrev Ba : S5632.Idx → EReal := m ((c.tc : Thread nD τ).loc main_arg3)

/-- The rows of a group: its two carried ones, then those of the gate columns. -/
def grow (b : Fin 8) (n : Fin 10) (J : Fin 5632) : EReal :=
  if h : n.val < 2 then Sa m c (ix3 b ⟨n.val, h⟩ J) else Ua m c (ix2 ⟨8 * b.val + (n.val - 2), by omega⟩ ⟨J.val, by omega⟩)

/-- The activation. -/
def act (x : S64x5632.Idx) : EReal :=
  gated (grow m c ⟨(x 0).val / 8, by have : (x 0).val < 64 := (x 0).isLt; omega⟩ ⟨(x 0).val % 8, by omega⟩ (x 1))
    (grow m c ⟨(x 0).val / 8, by have : (x 0).val < 64 := (x 0).isLt; omega⟩ ⟨(x 0).val % 8 + 1, by omega⟩ (x 1))
    (grow m c ⟨(x 0).val / 8, by have : (x 0).val < 64 := (x 0).isLt; omega⟩ ⟨(x 0).val % 8 + 2, by omega⟩ (x 1))
    (Ca m c (ix2 0 (x 1))) (Ca m c (ix2 1 (x 1))) (Ca m c (ix2 2 (x 1))) (Ba m c (ix1 (x 1)))
    (Ua m c (ix2 (x 0) ⟨5632 + (x 1).val, by have : (x 1).val < 5632 := (x 1).isLt; omega⟩))

/-- The new state: each group's last two rows. -/
def state (x : S8x2x5632.Idx) : EReal := grow m c (x 0) ⟨8 + (x 1).val, by have : (x 1).val < 2 := (x 1).isLt; omega⟩ (x 2)

theorem prow_at (t : Fin cfg0.N) (n n' : Fin 10) (j : Fin 512) (b : Fin 8) (J : Fin 5632) (hb : b.val = t.val / 11) (hn : n.val = n'.val) (hJ : J.val = t.val % 11 * 512 + j.val) :
    prow m c t n j = grow m c b n' J := by
  have ht : t.val < 88 := t.isLt
  have hj := j.isLt
  obtain rfl : n = n' := Fin.ext hn
  unfold prow grow
  by_cases h : n.val < 2
  · rw [dif_pos h, dif_pos h]
    blk_ext [iblk, V, idx t]
  · rw [dif_neg h, dif_neg h]
    blk_ext [iblk, V, idx t]

theorem weight_at (t : Fin cfg0.N) (i : Fin 3) (j : Fin 512) (J : Fin 5632) (hJ : J.val = t.val % 11 * 512 + j.val) :
    iblk m c 3 t (ix2 i j) = Ca m c (ix2 i J) := by
  have ht : t.val < 88 := t.isLt
  blk_ext [iblk, V, idx t]

theorem bias_at (t : Fin cfg0.N) (j : Fin 512) (J : Fin 5632) (hJ : J.val = t.val % 11 * 512 + j.val) :
    iblk m c 4 t (ix2 0 j) = Ba m c (ix1 J) := by
  have ht : t.val < 88 := t.isLt
  blk_simp [iblk, idx t]
  entry_read
  pointwise []
  blk_ext [idx t]

theorem value_at (t : Fin cfg0.N) (r : Fin 8) (j : Fin 512) (R : Fin 64) (J : Fin 11264) (hR : R.val = t.val / 11 * 8 + r.val) (hJ : J.val = 5632 + (t.val % 11 * 512 + j.val)) :
    iblk m c 1 t (ix2 r j) = Ua m c (ix2 R J) := by
  have ht : t.val < 88 := t.isLt
  blk_ext [iblk, V, idx t]

/-- The activation's array ends as the activation. -/
theorem final5 : (dats m 0 c).arrAt 5 (cfgs 0).N = act m c := by
  refine (dats m 0 c).arrAt_eq_of_covers 5 _ (by decide +kernel) fun t _ y => ?_
  have ht : t.val < 88 := t.isLt
  blk_simp
  rw [after0_5]
  obtain ⟨r, j, rfl⟩ : ∃ r j, y = ix2 r j := ⟨y 0, y 1, by funext a; match a with | 0 => rfl | 1 => rfl⟩
  refine (t5 m c t r j).trans ?_
  unfold act
  have hr := r.isLt
  have hj := j.isLt
  generalize hx : (win0_5.blk t).view.emb (ix2 r j) = x
  have c0 : (x 0).val = t.val / 11 * 8 + r.val := by rw [← hx]; blk_simp [idx t]
  have c1 : (x 1).val = t.val % 11 * 512 + j.val := by rw [← hx]; blk_simp [idx t]
  have hb : (x 0).val / 8 = t.val / 11 := by omega
  exact gated_congr (prow_at m c t _ _ j _ _ hb (by show r.val = (x 0).val % 8; omega) c1)
    (prow_at m c t _ _ j _ _ hb (by show r.val + 1 = (x 0).val % 8 + 1; omega) c1)
    (prow_at m c t _ _ j _ _ hb (by show r.val + 2 = (x 0).val % 8 + 2; omega) c1)
    (weight_at m c t 0 j _ c1) (weight_at m c t 1 j _ c1) (weight_at m c t 2 j _ c1) (bias_at m c t j _ c1)
    (value_at m c t r j _ _ c0 (by show 5632 + (x 1).val = _; omega))

/-- The state's array ends as the state. -/
theorem final6 : (dats m 0 c).arrAt 6 (cfgs 0).N = state m c := by
  refine (dats m 0 c).arrAt_eq_of_covers 6 _ (by decide +kernel) fun t _ y => ?_
  have ht : t.val < 88 := t.isLt
  blk_simp
  rw [after0_6]
  obtain ⟨r, j, rfl⟩ : ∃ r j, y = ix3 0 r j := ⟨y 1, y 2, by funext a; match a with | 0 => exact Fin.ext (by have : (y 0).val < 1 := (y 0).isLt; show (y 0).val = 0; omega) | 1 => rfl | 2 => rfl⟩
  refine (t6 m c t r j).trans ?_
  unfold state
  refine prow_at m c t _ _ _ _ _ ?_ ?_ ?_
  · blk_simp [idx t]
    exact Nat.add_zero _
  · blk_simp [idx t]
  · blk_simp [idx t]

end Cert.Kernel23Ideal.Mm

namespace Cert.Reference23Ideal.Mm

open Idealize.ShloMosaic Idealize.ShloMosaic.TcCoe Idealize.SL.Sem Cert.Reference23Ideal Cert.Reference23Ideal.Gen Cert.Mm

/-- The two programs of the kernel have the same text, so the same bodies. -/
theorem defs_eq : Cert.Kernel23.defs (F := Bits) = Cert.Kernel23Ideal.defs (F := Bits) := by sl_kernel_rfl

/-- The kernel's frame, over words. -/
theorem frame_kernel : Cert.quiescent_Kernel23 (hKernel23 := Cert.Kernel23.Gen.facts) := fun m ρ _ => by
  have h := Cert.Kernel23Ideal.Gen.frame (F := Bits) m ρ
  rw [← defs_eq] at h
  exact h

/-- The kernel's frame, over the extended reals. -/
theorem frame_ideal : Cert.quiescent_Kernel23Ideal (hKernel23Ideal := Cert.Kernel23Ideal.Gen.facts) := fun m ρ _ => Cert.Kernel23Ideal.Gen.frame m ρ

/-- The reference ends with its arguments unchanged; it has no semaphore. -/
theorem frame_ref : Cert.quiescent_Reference23Ideal (hReference23Ideal := Cert.Reference23Ideal.Gen.facts) := fun m ρ _ =>
  (θ_run Cert.Reference23Ideal.defs _ _).mono (fun r h => ⟨fun c => (h c).2.2, sem_eq_zero_of_no_sems (by decide) r.2⟩)
    (Cert.Reference23Ideal.Value.run (F := Ideal) m ρ)

/-- The reference's rows of a group, as it joins them. -/
abbrev join (U : FVec Ideal S64x11264 .f32) (S : FVec Ideal S8x2x5632 .f32) : FVec Ideal S8x10x5632 .f32 :=
  concatenate S8x10x5632 1 [⟨S8x2x5632, S⟩, ⟨S8x8x5632, (shapeCast _ (extractStridedSlice S64x5632 ![0, 0] U slices_S64x11264_S64x5632_0_0) shapeCasts_S64x5632_S8x8x5632)⟩] concatenates_S8x2x5632_S8x8x5632_S8x10x5632_d1

theorem join_at (m : (ℓ : Loc Cert.Kernel23Ideal.nD Cert.Kernel23Ideal.τ Cert.Kernel23Ideal.sig) → Buf (Elt Ideal) ℓ) (c : Dev Cert.Kernel23Ideal.nD)
    (b : Fin 8) (n : Fin 10) (J : Fin 5632) :
    join (Cert.Kernel23Ideal.Mm.Ua m c) (Cert.Kernel23Ideal.Mm.Sa m c) (ix3 b n J) = Cert.Kernel23Ideal.Mm.grow m c b n J := by
  unfold Cert.Kernel23Ideal.Mm.grow
  pointwise [join]
  split
  · rfl
  · exact congrArg (Cert.Kernel23Ideal.Mm.Ua m c) (by
      funext a
      match a with
      | 0 => exact Fin.ext (by show b.val * 8 + (n.val - 2) = 8 * b.val + (n.val - 2); omega)
      | 1 => rfl)

/-- The reference's convolution, of its joined rows. -/
abbrev convOf (P : FVec Ideal S8x10x5632 .f32) (C : FVec Ideal S3x5632 .f32) (B : FVec Ideal S5632 .f32) : FVec Ideal S8x8x5632 .f32 :=
  addf (addf (addf (mulf (broadcastInDim S8x8x5632 ![0, 1, 2] bcast_S1x1x5632_S8x8x5632_0_1_2 (broadcastInDim S1x1x5632 ![2] bcast_S5632_S1x1x5632_2 (shapeCast _ (extractStridedSlice S1x5632 ![0, 0] C slices_S3x5632_S1x5632_0_0) shapeCasts_S1x5632_S5632))) (extractStridedSlice S8x8x5632 ![0, 0, 0] P slices_S8x10x5632_S8x8x5632_0_0_0)) (mulf (broadcastInDim S8x8x5632 ![0, 1, 2] bcast_S1x1x5632_S8x8x5632_0_1_2 (broadcastInDim S1x1x5632 ![2] bcast_S5632_S1x1x5632_2 (shapeCast _ (extractStridedSlice S1x5632 ![1, 0] C slices_S3x5632_S1x5632_1_0) shapeCasts_S1x5632_S5632))) (extractStridedSlice S8x8x5632 ![0, 1, 0] P slices_S8x10x5632_S8x8x5632_0_1_0))) (mulf (broadcastInDim S8x8x5632 ![0, 1, 2] bcast_S1x1x5632_S8x8x5632_0_1_2 (broadcastInDim S1x1x5632 ![2] bcast_S5632_S1x1x5632_2 (shapeCast _ (extractStridedSlice S1x5632 ![2, 0] C slices_S3x5632_S1x5632_2_0) shapeCasts_S1x5632_S5632))) (extractStridedSlice S8x8x5632 ![0, 2, 0] P slices_S8x10x5632_S8x8x5632_0_2_0))) (broadcastInDim S8x8x5632 ![0, 1, 2] bcast_S1x1x5632_S8x8x5632_0_1_2 (broadcastInDim S1x1x5632 ![2] bcast_S5632_S1x1x5632_2 B))

/-- The reference's activation, of its joined rows. -/
abbrev actOf (U : FVec Ideal S64x11264 .f32) (P : FVec Ideal S8x10x5632 .f32) (C : FVec Ideal S3x5632 .f32) (B : FVec Ideal S5632 .f32) : FVec Ideal S64x5632 .f32 :=
  shapeCast _ (mulf (mulf (convOf P C B) (Host.divf (broadcastInDim S8x8x5632 ![] bcast_S_S8x8x5632 (constant S_ .f32 0x3F800000#32)) (addf (broadcastInDim S8x8x5632 ![] bcast_S_S8x8x5632 (constant S_ .f32 0x3F800000#32)) (Host.exp (Host.negf (convOf P C B)))))) (shapeCast _ (extractStridedSlice S64x5632 ![0, 5632] U slices_S64x11264_S64x5632_0_5632) shapeCasts_S64x5632_S8x8x5632)) shapeCasts_S8x8x5632_S64x5632

theorem actOf_at (U : FVec Ideal S64x11264 .f32) (P : FVec Ideal S8x10x5632 .f32) (C : FVec Ideal S3x5632 .f32) (B : FVec Ideal S5632 .f32)
    (R : Fin 64) (J : Fin 5632) :
    actOf U P C B (ix2 R J) = gated (P (ix3 ⟨R.val / 8, by omega⟩ ⟨R.val % 8, by omega⟩ J))
      (P (ix3 ⟨R.val / 8, by omega⟩ ⟨R.val % 8 + 1, by omega⟩ J)) (P (ix3 ⟨R.val / 8, by omega⟩ ⟨R.val % 8 + 2, by omega⟩ J))
      (C (ix2 0 J)) (C (ix2 1 J)) (C (ix2 2 J)) (B (ix1 J)) (U (ix2 R ⟨5632 + J.val, by omega⟩)) := by
  have e : ∀ a b c d : EReal, d + a + b + c = a + b + c + d := fun a b c d => by ac_rfl
  unfold gated
  rw [e]
  pointwise [actOf, convOf]
  simp only [zero_sub, Nat.add_comm 1 (R.val % 8), Nat.add_comm 2 (R.val % 8)]

/-- From agreeing arguments both programs end with the same activation and the same state. -/
theorem equal : Cert.algebraic_Kernel23Ideal_Reference23Ideal (hKernel23Ideal := Cert.Kernel23Ideal.Gen.facts)
    (hReference23Ideal := Cert.Reference23Ideal.Gen.facts) := by
  intro m g m' g' _ hagree
  refine ⟨fun c => Cert.Kernel23Ideal.Mm.act m c, fun c => Cert.Kernel23Ideal.Mm.state m c, ?_, ?_⟩
  · refine (θ_run Cert.Kernel23Ideal.defs _ _).mono (fun r h c => ⟨(h c).1.trans (Cert.Kernel23Ideal.Mm.final5 m c),
      (h c).2.1.trans (Cert.Kernel23Ideal.Mm.final6 m c), (h c).2.2⟩) (Cert.Kernel23Ideal.Value.run_blocks (F := Ideal) m g)
  · refine (θ_run Cert.Reference23Ideal.defs _ _).mono (fun r h c => ⟨(h c).1.trans ?_, (h c).2.1.trans ?_, (h c).2.2⟩)
      (Cert.Reference23Ideal.Value.run (F := Ideal) m' g')
    · unfold Cert.Reference23Ideal.Value.res_main_v30
      rw [(hagree c).1, (hagree c).2.1, (hagree c).2.2.1, (hagree c).2.2.2]
      funext x
      obtain ⟨R, J, rfl⟩ : ∃ (R : Fin 64) (J : Fin 5632), x = ix2 R J := ⟨x 0, x 1, by funext a; match a with | 0 => rfl | 1 => rfl⟩
      refine (actOf_at (Cert.Kernel23Ideal.Mm.Ua m c) (join (Cert.Kernel23Ideal.Mm.Ua m c) (Cert.Kernel23Ideal.Mm.Sa m c)) (Cert.Kernel23Ideal.Mm.Ca m c)
        (Cert.Kernel23Ideal.Mm.Ba m c) R J).trans ?_
      rw [join_at, join_at, join_at]
      rfl
    · rw [(hagree c).1, (hagree c).2.1]
      funext x
      obtain ⟨b, n, J, rfl⟩ : ∃ (b : Fin 8) (n : Fin 2) (J : Fin 5632), x = ix3 b n J := ⟨x 0, x 1, x 2, by funext a; match a with | 0 => rfl | 1 => rfl | 2 => rfl⟩
      refine Eq.trans ?_ (join_at m c b ⟨8 + n.val, by omega⟩ J)
      pointwise [join]

end Cert.Reference23Ideal.Mm
-- ==== Proof.lean ====
/-
  The certificate's claim, assembled. The forgetting attention's value claim and its reference's frame are in
  Fox/Claims.lean, the matrix products' claims in Mm/.
-/
module

public import proofs.«01_k».proof.Proof.Gen.KernelIdeal.Value
public import proofs.«01_k».proof.Proof.Gen.ReferenceIdeal.Run
public import proofs.«01_k».proof.Proof.Gen.Kernel2Ideal.Value
public import proofs.«01_k».proof.Proof.Gen.Kernel2
public import proofs.«01_k».proof.Proof.Gen.Reference2Ideal.Run
public import proofs.«01_k».proof.Proof.Gen.Kernel3Ideal.Frame
public import proofs.«01_k».proof.Proof.Gen.Kernel3
public import proofs.«01_k».proof.Proof.Gen.Reference3Ideal.Run
public import proofs.«01_k».proof.Proof.Gen.Kernel4Ideal.Value
public import proofs.«01_k».proof.Proof.Gen.Kernel4
public import proofs.«01_k».proof.Proof.Gen.Reference4Ideal.Run
public import proofs.«01_k».proof.Proof.Gen.Kernel5Ideal.Value
public import proofs.«01_k».proof.Proof.Gen.Kernel5
public import proofs.«01_k».proof.Proof.Gen.Reference5Ideal.Run
public import proofs.«01_k».proof.Proof.Gen.Kernel6Ideal.Value
public import proofs.«01_k».proof.Proof.Gen.Kernel6
public import proofs.«01_k».proof.Proof.Gen.Reference6Ideal.Run
public import proofs.«01_k».proof.Proof.Gen.Kernel7Ideal.Value
public import proofs.«01_k».proof.Proof.Gen.Kernel7
public import proofs.«01_k».proof.Proof.Gen.Reference7Ideal.Run
public import proofs.«01_k».proof.Proof.Gen.Kernel8Ideal.Value
public import proofs.«01_k».proof.Proof.Gen.Kernel8
public import proofs.«01_k».proof.Proof.Gen.Reference8Ideal.Run
public import proofs.«01_k».proof.Proof.Gen.Kernel9Ideal.Value
public import proofs.«01_k».proof.Proof.Gen.Kernel9
public import proofs.«01_k».proof.Proof.Gen.Reference9Ideal.Run
public import proofs.«01_k».proof.Proof.Gen.Kernel10Ideal.Value
public import proofs.«01_k».proof.Proof.Gen.Kernel10
public import proofs.«01_k».proof.Proof.Gen.Reference10Ideal.Run
public import proofs.«01_k».proof.Proof.Gen.Kernel11Ideal.Value
public import proofs.«01_k».proof.Proof.Gen.Kernel11
public import proofs.«01_k».proof.Proof.Gen.Reference11Ideal.Run
public import proofs.«01_k».proof.Proof.Gen.Kernel12Ideal.Value
public import proofs.«01_k».proof.Proof.Gen.Kernel12
public import proofs.«01_k».proof.Proof.Gen.Reference12Ideal.Run
public import proofs.«01_k».proof.Proof.Gen.Kernel13Ideal.Value
public import proofs.«01_k».proof.Proof.Gen.Kernel13
public import proofs.«01_k».proof.Proof.Gen.Reference13Ideal.Run
public import proofs.«01_k».proof.Proof.Gen.Kernel14Ideal.Value
public import proofs.«01_k».proof.Proof.Gen.Kernel14
public import proofs.«01_k».proof.Proof.Gen.Reference14Ideal.Run
public import proofs.«01_k».proof.Proof.Gen.Kernel15Ideal.Value
public import proofs.«01_k».proof.Proof.Gen.Kernel15
public import proofs.«01_k».proof.Proof.Gen.Reference15Ideal.Run
public import proofs.«01_k».proof.Proof.Gen.Kernel16Ideal.Value
public import proofs.«01_k».proof.Proof.Gen.Kernel16
public import proofs.«01_k».proof.Proof.Gen.Reference16Ideal.Run
public import proofs.«01_k».proof.Proof.Gen.Kernel17Ideal.Value
public import proofs.«01_k».proof.Proof.Gen.Kernel17
public import proofs.«01_k».proof.Proof.Gen.Reference17Ideal.Run
public import proofs.«01_k».proof.Proof.Gen.Kernel19Ideal.Value
public import proofs.«01_k».proof.Proof.Gen.Kernel19
public import proofs.«01_k».proof.Proof.Gen.Reference19Ideal.Run
public import proofs.«01_k».proof.Proof.Gen.Kernel20Ideal.Value
public import proofs.«01_k».proof.Proof.Gen.Kernel20
public import proofs.«01_k».proof.Proof.Gen.Reference20Ideal.Run
public import proofs.«01_k».proof.Proof.Gen.Kernel21Ideal.Value
public import proofs.«01_k».proof.Proof.Gen.Kernel21
public import proofs.«01_k».proof.Proof.Gen.Reference21Ideal.Run
public import proofs.«01_k».proof.Proof.Gen.Kernel22Ideal.Value
public import proofs.«01_k».proof.Proof.Gen.Kernel22
public import proofs.«01_k».proof.Proof.Gen.Reference22Ideal.Run
public import proofs.«01_k».proof.Proof.Gen.Kernel23Ideal.Value
public import proofs.«01_k».proof.Proof.Gen.Kernel23
public import proofs.«01_k».proof.Proof.Gen.Reference23Ideal.Run
public import proofs.«01_k».proof.Defs
public import proofs.«01_k».proof.Proof.Gen.Pre_finite_mem
public import proofs.«01_k».proof.Proof.Gen.Pre_finite
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Fox.Claims
public import proofs.«01_k».proof.Proof.Mm.K2
public import proofs.«01_k».proof.Proof.Mm.K3
public import proofs.«01_k».proof.Proof.Mm.K4
public import proofs.«01_k».proof.Proof.Mm.K5
public import proofs.«01_k».proof.Proof.Mm.K6
public import proofs.«01_k».proof.Proof.Mm.K7
public import proofs.«01_k».proof.Proof.Mm.K8
public import proofs.«01_k».proof.Proof.Mm.K9
public import proofs.«01_k».proof.Proof.Mm.K10
public import proofs.«01_k».proof.Proof.Mm.K11
public import proofs.«01_k».proof.Proof.Mm.K12
public import proofs.«01_k».proof.Proof.Mm.K13
public import proofs.«01_k».proof.Proof.Mm.K14
public import proofs.«01_k».proof.Proof.Mm.K15
public import proofs.«01_k».proof.Proof.Mm.K16
public import proofs.«01_k».proof.Proof.Mm.K17
public import proofs.«01_k».proof.Proof.Mm.K19
public import proofs.«01_k».proof.Proof.Mm.K20
public import proofs.«01_k».proof.Proof.Mm.K21
public import proofs.«01_k».proof.Proof.Mm.K22
public import proofs.«01_k».proof.Proof.Mm.K23
public import Idealize.ShloMosaic.Adequacy
public import Idealize.ShloMosaic.Init

@[expose] public section

noncomputable section

namespace Cert.Proof

open Idealize.ShloMosaic Idealize.SL.Sem

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts,
  Cert.Kernel12.Gen.facts, Cert.Kernel12Ideal.Gen.facts, Cert.Reference12Ideal.Gen.facts,
  Cert.Kernel13.Gen.facts, Cert.Kernel13Ideal.Gen.facts, Cert.Reference13Ideal.Gen.facts,
  Cert.Kernel14.Gen.facts, Cert.Kernel14Ideal.Gen.facts, Cert.Reference14Ideal.Gen.facts,
  Cert.Kernel15.Gen.facts, Cert.Kernel15Ideal.Gen.facts, Cert.Reference15Ideal.Gen.facts,
  Cert.Kernel16.Gen.facts, Cert.Kernel16Ideal.Gen.facts, Cert.Reference16Ideal.Gen.facts,
  Cert.Kernel17.Gen.facts, Cert.Kernel17Ideal.Gen.facts, Cert.Reference17Ideal.Gen.facts,
  Cert.Kernel19.Gen.facts, Cert.Kernel19Ideal.Gen.facts, Cert.Reference19Ideal.Gen.facts,
  Cert.Kernel20.Gen.facts, Cert.Kernel20Ideal.Gen.facts, Cert.Reference20Ideal.Gen.facts,
  Cert.Kernel21.Gen.facts, Cert.Kernel21Ideal.Gen.facts, Cert.Reference21Ideal.Gen.facts,
  Cert.Kernel22.Gen.facts, Cert.Kernel22Ideal.Gen.facts, Cert.Reference22Ideal.Gen.facts,
  Cert.Kernel23.Gen.facts, Cert.Kernel23Ideal.Gen.facts, Cert.Reference23Ideal.Gen.facts,
  Cert.Pre_finite.Gen.facts, Cert.Pre_finite_mem.Gen.facts,
  fun m ρ _ => Cert.Kernel.Gen.frame m ρ, fun m ρ _ => Cert.KernelIdeal.Gen.frame m ρ, fun m ρ _ => Cert.KernelIdeal.Gen.frame m ρ,
  Cert.FoxRef.frame_ref, fun m ρ _ => Cert.FoxRef.frame_ref m ρ trivial,
  Cert.Reference2Ideal.Mm.frame_kernel, Cert.Reference2Ideal.Mm.frame_ideal, Cert.Reference2Ideal.Mm.frame_ref,
  Cert.Reference3Ideal.Mm.frame_kernel, Cert.Reference3Ideal.Mm.frame_ideal, Cert.Reference3Ideal.Mm.frame_ref,
  Cert.Reference4Ideal.Mm.frame_kernel, Cert.Reference4Ideal.Mm.frame_ideal, Cert.Reference4Ideal.Mm.frame_ref,
  Cert.Reference5Ideal.Mm.frame_kernel, Cert.Reference5Ideal.Mm.frame_ideal, Cert.Reference5Ideal.Mm.frame_ref,
  Cert.Reference6Ideal.Mm.frame_kernel, Cert.Reference6Ideal.Mm.frame_ideal, Cert.Reference6Ideal.Mm.frame_ref,
  Cert.Reference7Ideal.Mm.frame_kernel, Cert.Reference7Ideal.Mm.frame_ideal, Cert.Reference7Ideal.Mm.frame_ref,
  Cert.Reference8Ideal.Mm.frame_kernel, Cert.Reference8Ideal.Mm.frame_ideal, Cert.Reference8Ideal.Mm.frame_ref,
  Cert.Reference9Ideal.Mm.frame_kernel, Cert.Reference9Ideal.Mm.frame_ideal, Cert.Reference9Ideal.Mm.frame_ref,
  Cert.Reference10Ideal.Mm.frame_kernel, Cert.Reference10Ideal.Mm.frame_ideal, Cert.Reference10Ideal.Mm.frame_ref,
  Cert.Reference11Ideal.Mm.frame_kernel, Cert.Reference11Ideal.Mm.frame_ideal, Cert.Reference11Ideal.Mm.frame_ref,
  Cert.Reference12Ideal.Mm.frame_kernel, Cert.Reference12Ideal.Mm.frame_ideal, Cert.Reference12Ideal.Mm.frame_ref,
  Cert.Reference13Ideal.Mm.frame_kernel, Cert.Reference13Ideal.Mm.frame_ideal, Cert.Reference13Ideal.Mm.frame_ref,
  Cert.Reference14Ideal.Mm.frame_kernel, Cert.Reference14Ideal.Mm.frame_ideal, Cert.Reference14Ideal.Mm.frame_ref,
  Cert.Reference15Ideal.Mm.frame_kernel, Cert.Reference15Ideal.Mm.frame_ideal, fun m ρ _ => Cert.Reference15Ideal.Mm.frame_ideal m ρ trivial, Cert.Reference15Ideal.Mm.frame_ref, fun m ρ _ => Cert.Reference15Ideal.Mm.frame_ref m ρ trivial,
  Cert.Reference16Ideal.Mm.frame_kernel, Cert.Reference16Ideal.Mm.frame_ideal, Cert.Reference16Ideal.Mm.frame_ref,
  Cert.Reference17Ideal.Mm.frame_kernel, Cert.Reference17Ideal.Mm.frame_ideal, Cert.Reference17Ideal.Mm.frame_ref,
  Cert.Reference19Ideal.Mm.frame_kernel, Cert.Reference19Ideal.Mm.frame_ideal, Cert.Reference19Ideal.Mm.frame_ref,
  Cert.Reference20Ideal.Mm.frame_kernel, Cert.Reference20Ideal.Mm.frame_ideal, Cert.Reference20Ideal.Mm.frame_ref,
  Cert.Reference21Ideal.Mm.frame_kernel, Cert.Reference21Ideal.Mm.frame_ideal, Cert.Reference21Ideal.Mm.frame_ref,
  Cert.Reference22Ideal.Mm.frame_kernel, Cert.Reference22Ideal.Mm.frame_ideal, Cert.Reference22Ideal.Mm.frame_ref,
  Cert.Reference23Ideal.Mm.frame_kernel, Cert.Reference23Ideal.Mm.frame_ideal, Cert.Reference23Ideal.Mm.frame_ref,
  trivial, Cert.FoxRef.equal,
  trivial, Cert.Reference2Ideal.Mm.equal,
  trivial, Cert.Reference3Ideal.Mm.equal,
  trivial, Cert.Reference4Ideal.Mm.equal,
  trivial, Cert.Reference5Ideal.Mm.equal,
  trivial, Cert.Reference6Ideal.Mm.equal,
  trivial, Cert.Reference7Ideal.Mm.equal,
  trivial, Cert.Reference8Ideal.Mm.equal,
  trivial, Cert.Reference9Ideal.Mm.equal,
  trivial, Cert.Reference10Ideal.Mm.equal,
  trivial, Cert.Reference11Ideal.Mm.equal,
  trivial, Cert.Reference12Ideal.Mm.equal,
  trivial, Cert.Reference13Ideal.Mm.equal,
  trivial, Cert.Reference14Ideal.Mm.equal,
  trivial, Cert.Reference15Ideal.Mm.equal,
  trivial, Cert.Reference16Ideal.Mm.equal,
  trivial, Cert.Reference17Ideal.Mm.equal,
  trivial, Cert.Reference19Ideal.Mm.equal,
  trivial, Cert.Reference20Ideal.Mm.equal,
  trivial, Cert.Reference21Ideal.Mm.equal,
  trivial, Cert.Reference22Ideal.Mm.equal,
  trivial, Cert.Reference23Ideal.Mm.equal⟩

end Cert.Proof

end
